-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_recurrent_groups_off [hPre_recurrent_groups_off : Cert.Pre_recurrent_groups_off.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_recurrent_groups_off.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14)) (m ((c.tc : Thread Cert.Kernel3Ideal.nD Cert.Kernel3Ideal.τ).loc Cert.Kernel3Ideal.main_arg15)) (m ((c.tc : Thread Cert.Kernel3Ideal.nD Cert.Kernel3Ideal.τ).loc Cert.Kernel3Ideal.main_arg16)) (m ((c.tc : Thread Cert.Kernel3Ideal.nD Cert.Kernel3Ideal.τ).loc Cert.Kernel3Ideal.main_arg17)) (m ((c.tc : Thread Cert.Kernel3Ideal.nD Cert.Kernel3Ideal.τ).loc Cert.Kernel3Ideal.main_arg18)) (m ((c.tc : Thread Cert.Kernel3Ideal.nD Cert.Kernel3Ideal.τ).loc Cert.Kernel3Ideal.main_arg19)) (m ((c.tc : Thread Cert.Kernel3Ideal.nD Cert.Kernel3Ideal.τ).loc Cert.Kernel3Ideal.main_arg20)) (m ((c.tc : Thread Cert.Kernel3Ideal.nD Cert.Kernel3Ideal.τ).loc Cert.Kernel3Ideal.main_arg21)) (m ((c.tc : Thread Cert.Kernel3Ideal.nD Cert.Kernel3Ideal.τ).loc Cert.Kernel3Ideal.main_arg22)) (m ((c.tc : Thread Cert.Kernel3Ideal.nD Cert.Kernel3Ideal.τ).loc Cert.Kernel3Ideal.main_arg23)) (m ((c.tc : Thread Cert.Kernel3Ideal.nD Cert.Kernel3Ideal.τ).loc Cert.Kernel3Ideal.main_arg24)) (m ((c.tc : Thread Cert.Kernel3Ideal.nD Cert.Kernel3Ideal.τ).loc Cert.Kernel3Ideal.main_arg25)) (m ((c.tc : Thread Cert.Kernel3Ideal.nD Cert.Kernel3Ideal.τ).loc Cert.Kernel3Ideal.main_arg26))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_recurrent_groups_off [hPre_recurrent_groups_off : Cert.Pre_recurrent_groups_off.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_recurrent_groups_off.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14)) (m ((c.tc : Thread Cert.Reference3Ideal.nD Cert.Reference3Ideal.τ).loc Cert.Reference3Ideal.main_arg15)) (m ((c.tc : Thread Cert.Reference3Ideal.nD Cert.Reference3Ideal.τ).loc Cert.Reference3Ideal.main_arg16)) (m ((c.tc : Thread Cert.Reference3Ideal.nD Cert.Reference3Ideal.τ).loc Cert.Reference3Ideal.main_arg17)) (m ((c.tc : Thread Cert.Reference3Ideal.nD Cert.Reference3Ideal.τ).loc Cert.Reference3Ideal.main_arg18)) (m ((c.tc : Thread Cert.Reference3Ideal.nD Cert.Reference3Ideal.τ).loc Cert.Reference3Ideal.main_arg19)) (m ((c.tc : Thread Cert.Reference3Ideal.nD Cert.Reference3Ideal.τ).loc Cert.Reference3Ideal.main_arg20)) (m ((c.tc : Thread Cert.Reference3Ideal.nD Cert.Reference3Ideal.τ).loc Cert.Reference3Ideal.main_arg21)) (m ((c.tc : Thread Cert.Reference3Ideal.nD Cert.Reference3Ideal.τ).loc Cert.Reference3Ideal.main_arg22)) (m ((c.tc : Thread Cert.Reference3Ideal.nD Cert.Reference3Ideal.τ).loc Cert.Reference3Ideal.main_arg23)) (m ((c.tc : Thread Cert.Reference3Ideal.nD Cert.Reference3Ideal.τ).loc Cert.Reference3Ideal.main_arg24)) (m ((c.tc : Thread Cert.Reference3Ideal.nD Cert.Reference3Ideal.τ).loc Cert.Reference3Ideal.main_arg25)) (m ((c.tc : Thread Cert.Reference3Ideal.nD Cert.Reference3Ideal.τ).loc Cert.Reference3Ideal.main_arg26))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15)
      ∧ r.2.mem ((c.tc : Thread Cert.Kernel3.nD Cert.Kernel3.τ).loc Cert.Kernel3.main_arg16) = m ((c.tc : Thread Cert.Kernel3.nD Cert.Kernel3.τ).loc Cert.Kernel3.main_arg16)
      ∧ r.2.mem ((c.tc : Thread Cert.Kernel3.nD Cert.Kernel3.τ).loc Cert.Kernel3.main_arg17) = m ((c.tc : Thread Cert.Kernel3.nD Cert.Kernel3.τ).loc Cert.Kernel3.main_arg17)
      ∧ r.2.mem ((c.tc : Thread Cert.Kernel3.nD Cert.Kernel3.τ).loc Cert.Kernel3.main_arg18) = m ((c.tc : Thread Cert.Kernel3.nD Cert.Kernel3.τ).loc Cert.Kernel3.main_arg18)
      ∧ r.2.mem ((c.tc : Thread Cert.Kernel3.nD Cert.Kernel3.τ).loc Cert.Kernel3.main_arg19) = m ((c.tc : Thread Cert.Kernel3.nD Cert.Kernel3.τ).loc Cert.Kernel3.main_arg19)
      ∧ r.2.mem ((c.tc : Thread Cert.Kernel3.nD Cert.Kernel3.τ).loc Cert.Kernel3.main_arg20) = m ((c.tc : Thread Cert.Kernel3.nD Cert.Kernel3.τ).loc Cert.Kernel3.main_arg20)
      ∧ r.2.mem ((c.tc : Thread Cert.Kernel3.nD Cert.Kernel3.τ).loc Cert.Kernel3.main_arg21) = m ((c.tc : Thread Cert.Kernel3.nD Cert.Kernel3.τ).loc Cert.Kernel3.main_arg21)
      ∧ r.2.mem ((c.tc : Thread Cert.Kernel3.nD Cert.Kernel3.τ).loc Cert.Kernel3.main_arg22) = m ((c.tc : Thread Cert.Kernel3.nD Cert.Kernel3.τ).loc Cert.Kernel3.main_arg22)
      ∧ r.2.mem ((c.tc : Thread Cert.Kernel3.nD Cert.Kernel3.τ).loc Cert.Kernel3.main_arg23) = m ((c.tc : Thread Cert.Kernel3.nD Cert.Kernel3.τ).loc Cert.Kernel3.main_arg23)
      ∧ r.2.mem ((c.tc : Thread Cert.Kernel3.nD Cert.Kernel3.τ).loc Cert.Kernel3.main_arg24) = m ((c.tc : Thread Cert.Kernel3.nD Cert.Kernel3.τ).loc Cert.Kernel3.main_arg24)
      ∧ r.2.mem ((c.tc : Thread Cert.Kernel3.nD Cert.Kernel3.τ).loc Cert.Kernel3.main_arg25) = m ((c.tc : Thread Cert.Kernel3.nD Cert.Kernel3.τ).loc Cert.Kernel3.main_arg25)
      ∧ r.2.mem ((c.tc : Thread Cert.Kernel3.nD Cert.Kernel3.τ).loc Cert.Kernel3.main_arg26) = m ((c.tc : Thread Cert.Kernel3.nD Cert.Kernel3.τ).loc Cert.Kernel3.main_arg26))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
      ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17)
      ∧ r.2.mem ((c.tc : Thread Cert.Kernel3Ideal.nD Cert.Kernel3Ideal.τ).loc Cert.Kernel3Ideal.main_arg18) = m ((c.tc : Thread Cert.Kernel3Ideal.nD Cert.Kernel3Ideal.τ).loc Cert.Kernel3Ideal.main_arg18)
      ∧ r.2.mem ((c.tc : Thread Cert.Kernel3Ideal.nD Cert.Kernel3Ideal.τ).loc Cert.Kernel3Ideal.main_arg19) = m ((c.tc : Thread Cert.Kernel3Ideal.nD Cert.Kernel3Ideal.τ).loc Cert.Kernel3Ideal.main_arg19)
      ∧ r.2.mem ((c.tc : Thread Cert.Kernel3Ideal.nD Cert.Kernel3Ideal.τ).loc Cert.Kernel3Ideal.main_arg20) = m ((c.tc : Thread Cert.Kernel3Ideal.nD Cert.Kernel3Ideal.τ).loc Cert.Kernel3Ideal.main_arg20)
      ∧ r.2.mem ((c.tc : Thread Cert.Kernel3Ideal.nD Cert.Kernel3Ideal.τ).loc Cert.Kernel3Ideal.main_arg21) = m ((c.tc : Thread Cert.Kernel3Ideal.nD Cert.Kernel3Ideal.τ).loc Cert.Kernel3Ideal.main_arg21)
      ∧ r.2.mem ((c.tc : Thread Cert.Kernel3Ideal.nD Cert.Kernel3Ideal.τ).loc Cert.Kernel3Ideal.main_arg22) = m ((c.tc : Thread Cert.Kernel3Ideal.nD Cert.Kernel3Ideal.τ).loc Cert.Kernel3Ideal.main_arg22)
      ∧ r.2.mem ((c.tc : Thread Cert.Kernel3Ideal.nD Cert.Kernel3Ideal.τ).loc Cert.Kernel3Ideal.main_arg23) = m ((c.tc : Thread Cert.Kernel3Ideal.nD Cert.Kernel3Ideal.τ).loc Cert.Kernel3Ideal.main_arg23)
      ∧ r.2.mem ((c.tc : Thread Cert.Kernel3Ideal.nD Cert.Kernel3Ideal.τ).loc Cert.Kernel3Ideal.main_arg24) = m ((c.tc : Thread Cert.Kernel3Ideal.nD Cert.Kernel3Ideal.τ).loc Cert.Kernel3Ideal.main_arg24)
      ∧ r.2.mem ((c.tc : Thread Cert.Kernel3Ideal.nD Cert.Kernel3Ideal.τ).loc Cert.Kernel3Ideal.main_arg25) = m ((c.tc : Thread Cert.Kernel3Ideal.nD Cert.Kernel3Ideal.τ).loc Cert.Kernel3Ideal.main_arg25)
      ∧ r.2.mem ((c.tc : Thread Cert.Kernel3Ideal.nD Cert.Kernel3Ideal.τ).loc Cert.Kernel3Ideal.main_arg26) = m ((c.tc : Thread Cert.Kernel3Ideal.nD Cert.Kernel3Ideal.τ).loc Cert.Kernel3Ideal.main_arg26))
      ∧ r.2.sem = fun _ => 0)

def quiescent_Kernel3Ideal_pre_recurrent_groups_off [hKernel3Ideal : Cert.Kernel3Ideal.Facts] [hPre_recurrent_groups_off : Cert.Pre_recurrent_groups_off.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_recurrent_groups_off m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
      ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17)
      ∧ r.2.mem ((c.tc : Thread Cert.Kernel3Ideal.nD Cert.Kernel3Ideal.τ).loc Cert.Kernel3Ideal.main_arg18) = m ((c.tc : Thread Cert.Kernel3Ideal.nD Cert.Kernel3Ideal.τ).loc Cert.Kernel3Ideal.main_arg18)
      ∧ r.2.mem ((c.tc : Thread Cert.Kernel3Ideal.nD Cert.Kernel3Ideal.τ).loc Cert.Kernel3Ideal.main_arg19) = m ((c.tc : Thread Cert.Kernel3Ideal.nD Cert.Kernel3Ideal.τ).loc Cert.Kernel3Ideal.main_arg19)
      ∧ r.2.mem ((c.tc : Thread Cert.Kernel3Ideal.nD Cert.Kernel3Ideal.τ).loc Cert.Kernel3Ideal.main_arg20) = m ((c.tc : Thread Cert.Kernel3Ideal.nD Cert.Kernel3Ideal.τ).loc Cert.Kernel3Ideal.main_arg20)
      ∧ r.2.mem ((c.tc : Thread Cert.Kernel3Ideal.nD Cert.Kernel3Ideal.τ).loc Cert.Kernel3Ideal.main_arg21) = m ((c.tc : Thread Cert.Kernel3Ideal.nD Cert.Kernel3Ideal.τ).loc Cert.Kernel3Ideal.main_arg21)
      ∧ r.2.mem ((c.tc : Thread Cert.Kernel3Ideal.nD Cert.Kernel3Ideal.τ).loc Cert.Kernel3Ideal.main_arg22) = m ((c.tc : Thread Cert.Kernel3Ideal.nD Cert.Kernel3Ideal.τ).loc Cert.Kernel3Ideal.main_arg22)
      ∧ r.2.mem ((c.tc : Thread Cert.Kernel3Ideal.nD Cert.Kernel3Ideal.τ).loc Cert.Kernel3Ideal.main_arg23) = m ((c.tc : Thread Cert.Kernel3Ideal.nD Cert.Kernel3Ideal.τ).loc Cert.Kernel3Ideal.main_arg23)
      ∧ r.2.mem ((c.tc : Thread Cert.Kernel3Ideal.nD Cert.Kernel3Ideal.τ).loc Cert.Kernel3Ideal.main_arg24) = m ((c.tc : Thread Cert.Kernel3Ideal.nD Cert.Kernel3Ideal.τ).loc Cert.Kernel3Ideal.main_arg24)
      ∧ r.2.mem ((c.tc : Thread Cert.Kernel3Ideal.nD Cert.Kernel3Ideal.τ).loc Cert.Kernel3Ideal.main_arg25) = m ((c.tc : Thread Cert.Kernel3Ideal.nD Cert.Kernel3Ideal.τ).loc Cert.Kernel3Ideal.main_arg25)
      ∧ r.2.mem ((c.tc : Thread Cert.Kernel3Ideal.nD Cert.Kernel3Ideal.τ).loc Cert.Kernel3Ideal.main_arg26) = m ((c.tc : Thread Cert.Kernel3Ideal.nD Cert.Kernel3Ideal.τ).loc Cert.Kernel3Ideal.main_arg26))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16)
      ∧ r.2.mem ((c.tc : Thread Cert.Reference3Ideal.nD Cert.Reference3Ideal.τ).loc Cert.Reference3Ideal.main_arg17) = m ((c.tc : Thread Cert.Reference3Ideal.nD Cert.Reference3Ideal.τ).loc Cert.Reference3Ideal.main_arg17)
      ∧ r.2.mem ((c.tc : Thread Cert.Reference3Ideal.nD Cert.Reference3Ideal.τ).loc Cert.Reference3Ideal.main_arg18) = m ((c.tc : Thread Cert.Reference3Ideal.nD Cert.Reference3Ideal.τ).loc Cert.Reference3Ideal.main_arg18)
      ∧ r.2.mem ((c.tc : Thread Cert.Reference3Ideal.nD Cert.Reference3Ideal.τ).loc Cert.Reference3Ideal.main_arg19) = m ((c.tc : Thread Cert.Reference3Ideal.nD Cert.Reference3Ideal.τ).loc Cert.Reference3Ideal.main_arg19)
      ∧ r.2.mem ((c.tc : Thread Cert.Reference3Ideal.nD Cert.Reference3Ideal.τ).loc Cert.Reference3Ideal.main_arg20) = m ((c.tc : Thread Cert.Reference3Ideal.nD Cert.Reference3Ideal.τ).loc Cert.Reference3Ideal.main_arg20)
      ∧ r.2.mem ((c.tc : Thread Cert.Reference3Ideal.nD Cert.Reference3Ideal.τ).loc Cert.Reference3Ideal.main_arg21) = m ((c.tc : Thread Cert.Reference3Ideal.nD Cert.Reference3Ideal.τ).loc Cert.Reference3Ideal.main_arg21)
      ∧ r.2.mem ((c.tc : Thread Cert.Reference3Ideal.nD Cert.Reference3Ideal.τ).loc Cert.Reference3Ideal.main_arg22) = m ((c.tc : Thread Cert.Reference3Ideal.nD Cert.Reference3Ideal.τ).loc Cert.Reference3Ideal.main_arg22)
      ∧ r.2.mem ((c.tc : Thread Cert.Reference3Ideal.nD Cert.Reference3Ideal.τ).loc Cert.Reference3Ideal.main_arg23) = m ((c.tc : Thread Cert.Reference3Ideal.nD Cert.Reference3Ideal.τ).loc Cert.Reference3Ideal.main_arg23)
      ∧ r.2.mem ((c.tc : Thread Cert.Reference3Ideal.nD Cert.Reference3Ideal.τ).loc Cert.Reference3Ideal.main_arg24) = m ((c.tc : Thread Cert.Reference3Ideal.nD Cert.Reference3Ideal.τ).loc Cert.Reference3Ideal.main_arg24)
      ∧ r.2.mem ((c.tc : Thread Cert.Reference3Ideal.nD Cert.Reference3Ideal.τ).loc Cert.Reference3Ideal.main_arg25) = m ((c.tc : Thread Cert.Reference3Ideal.nD Cert.Reference3Ideal.τ).loc Cert.Reference3Ideal.main_arg25)
      ∧ r.2.mem ((c.tc : Thread Cert.Reference3Ideal.nD Cert.Reference3Ideal.τ).loc Cert.Reference3Ideal.main_arg26) = m ((c.tc : Thread Cert.Reference3Ideal.nD Cert.Reference3Ideal.τ).loc Cert.Reference3Ideal.main_arg26))
      ∧ r.2.sem = fun _ => 0)

def quiescent_Reference3Ideal_pre_recurrent_groups_off [hReference3Ideal : Cert.Reference3Ideal.Facts] [hPre_recurrent_groups_off : Cert.Pre_recurrent_groups_off.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_recurrent_groups_off m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16)
      ∧ r.2.mem ((c.tc : Thread Cert.Reference3Ideal.nD Cert.Reference3Ideal.τ).loc Cert.Reference3Ideal.main_arg17) = m ((c.tc : Thread Cert.Reference3Ideal.nD Cert.Reference3Ideal.τ).loc Cert.Reference3Ideal.main_arg17)
      ∧ r.2.mem ((c.tc : Thread Cert.Reference3Ideal.nD Cert.Reference3Ideal.τ).loc Cert.Reference3Ideal.main_arg18) = m ((c.tc : Thread Cert.Reference3Ideal.nD Cert.Reference3Ideal.τ).loc Cert.Reference3Ideal.main_arg18)
      ∧ r.2.mem ((c.tc : Thread Cert.Reference3Ideal.nD Cert.Reference3Ideal.τ).loc Cert.Reference3Ideal.main_arg19) = m ((c.tc : Thread Cert.Reference3Ideal.nD Cert.Reference3Ideal.τ).loc Cert.Reference3Ideal.main_arg19)
      ∧ r.2.mem ((c.tc : Thread Cert.Reference3Ideal.nD Cert.Reference3Ideal.τ).loc Cert.Reference3Ideal.main_arg20) = m ((c.tc : Thread Cert.Reference3Ideal.nD Cert.Reference3Ideal.τ).loc Cert.Reference3Ideal.main_arg20)
      ∧ r.2.mem ((c.tc : Thread Cert.Reference3Ideal.nD Cert.Reference3Ideal.τ).loc Cert.Reference3Ideal.main_arg21) = m ((c.tc : Thread Cert.Reference3Ideal.nD Cert.Reference3Ideal.τ).loc Cert.Reference3Ideal.main_arg21)
      ∧ r.2.mem ((c.tc : Thread Cert.Reference3Ideal.nD Cert.Reference3Ideal.τ).loc Cert.Reference3Ideal.main_arg22) = m ((c.tc : Thread Cert.Reference3Ideal.nD Cert.Reference3Ideal.τ).loc Cert.Reference3Ideal.main_arg22)
      ∧ r.2.mem ((c.tc : Thread Cert.Reference3Ideal.nD Cert.Reference3Ideal.τ).loc Cert.Reference3Ideal.main_arg23) = m ((c.tc : Thread Cert.Reference3Ideal.nD Cert.Reference3Ideal.τ).loc Cert.Reference3Ideal.main_arg23)
      ∧ r.2.mem ((c.tc : Thread Cert.Reference3Ideal.nD Cert.Reference3Ideal.τ).loc Cert.Reference3Ideal.main_arg24) = m ((c.tc : Thread Cert.Reference3Ideal.nD Cert.Reference3Ideal.τ).loc Cert.Reference3Ideal.main_arg24)
      ∧ r.2.mem ((c.tc : Thread Cert.Reference3Ideal.nD Cert.Reference3Ideal.τ).loc Cert.Reference3Ideal.main_arg25) = m ((c.tc : Thread Cert.Reference3Ideal.nD Cert.Reference3Ideal.τ).loc Cert.Reference3Ideal.main_arg25)
      ∧ r.2.mem ((c.tc : Thread Cert.Reference3Ideal.nD Cert.Reference3Ideal.τ).loc Cert.Reference3Ideal.main_arg26) = m ((c.tc : Thread Cert.Reference3Ideal.nD Cert.Reference3Ideal.τ).loc Cert.Reference3Ideal.main_arg26))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v11_0)) (v1 : (c : Dev Cert.Kernel2Ideal.nD) → Buf (Elt Ideal) ((c.tc : Thread Cert.Kernel2Ideal.nD Cert.Kernel2Ideal.τ).loc Cert.Kernel2Ideal.main_v11_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11_0) = v0 c
          ∧ r.2.mem ((c.tc : Thread Cert.Kernel2Ideal.nD Cert.Kernel2Ideal.τ).loc Cert.Kernel2Ideal.main_v11_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v80) = v0 c
          ∧ r.2.mem ((c.tc : Thread Cert.Reference2Ideal.nD Cert.Reference2Ideal.τ).loc Cert.Reference2Ideal.main_v96) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal_pre_recurrent_groups_off [hKernel3Ideal : Cert.Kernel3Ideal.Facts] [hReference3Ideal : Cert.Reference3Ideal.Facts] [hPre_recurrent_groups_off : Cert.Pre_recurrent_groups_off.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_recurrent_groups_off m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)
      ∧ m' ((c.tc : Thread Cert.Reference3Ideal.nD Cert.Reference3Ideal.τ).loc Cert.Reference3Ideal.main_arg16) = m ((c.tc : Thread Cert.Kernel3Ideal.nD Cert.Kernel3Ideal.τ).loc Cert.Kernel3Ideal.main_arg16)
      ∧ m' ((c.tc : Thread Cert.Reference3Ideal.nD Cert.Reference3Ideal.τ).loc Cert.Reference3Ideal.main_arg17) = m ((c.tc : Thread Cert.Kernel3Ideal.nD Cert.Kernel3Ideal.τ).loc Cert.Kernel3Ideal.main_arg17)
      ∧ m' ((c.tc : Thread Cert.Reference3Ideal.nD Cert.Reference3Ideal.τ).loc Cert.Reference3Ideal.main_arg18) = m ((c.tc : Thread Cert.Kernel3Ideal.nD Cert.Kernel3Ideal.τ).loc Cert.Kernel3Ideal.main_arg18)
      ∧ m' ((c.tc : Thread Cert.Reference3Ideal.nD Cert.Reference3Ideal.τ).loc Cert.Reference3Ideal.main_arg19) = m ((c.tc : Thread Cert.Kernel3Ideal.nD Cert.Kernel3Ideal.τ).loc Cert.Kernel3Ideal.main_arg19)
      ∧ m' ((c.tc : Thread Cert.Reference3Ideal.nD Cert.Reference3Ideal.τ).loc Cert.Reference3Ideal.main_arg20) = m ((c.tc : Thread Cert.Kernel3Ideal.nD Cert.Kernel3Ideal.τ).loc Cert.Kernel3Ideal.main_arg20)
      ∧ m' ((c.tc : Thread Cert.Reference3Ideal.nD Cert.Reference3Ideal.τ).loc Cert.Reference3Ideal.main_arg21) = m ((c.tc : Thread Cert.Kernel3Ideal.nD Cert.Kernel3Ideal.τ).loc Cert.Kernel3Ideal.main_arg21)
      ∧ m' ((c.tc : Thread Cert.Reference3Ideal.nD Cert.Reference3Ideal.τ).loc Cert.Reference3Ideal.main_arg22) = m ((c.tc : Thread Cert.Kernel3Ideal.nD Cert.Kernel3Ideal.τ).loc Cert.Kernel3Ideal.main_arg22)
      ∧ m' ((c.tc : Thread Cert.Reference3Ideal.nD Cert.Reference3Ideal.τ).loc Cert.Reference3Ideal.main_arg23) = m ((c.tc : Thread Cert.Kernel3Ideal.nD Cert.Kernel3Ideal.τ).loc Cert.Kernel3Ideal.main_arg23)
      ∧ m' ((c.tc : Thread Cert.Reference3Ideal.nD Cert.Reference3Ideal.τ).loc Cert.Reference3Ideal.main_arg24) = m ((c.tc : Thread Cert.Kernel3Ideal.nD Cert.Kernel3Ideal.τ).loc Cert.Kernel3Ideal.main_arg24)
      ∧ m' ((c.tc : Thread Cert.Reference3Ideal.nD Cert.Reference3Ideal.τ).loc Cert.Reference3Ideal.main_arg25) = m ((c.tc : Thread Cert.Kernel3Ideal.nD Cert.Kernel3Ideal.τ).loc Cert.Kernel3Ideal.main_arg25)
      ∧ m' ((c.tc : Thread Cert.Reference3Ideal.nD Cert.Reference3Ideal.τ).loc Cert.Reference3Ideal.main_arg26) = m ((c.tc : Thread Cert.Kernel3Ideal.nD Cert.Kernel3Ideal.τ).loc Cert.Kernel3Ideal.main_arg26)) →
    ∃ (v0 : (c : Dev Cert.Kernel3Ideal.nD) → Buf (Elt Ideal) ((c.tc : Thread Cert.Kernel3Ideal.nD Cert.Kernel3Ideal.τ).loc Cert.Kernel3Ideal.main_v66)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v66) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
          ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
          ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17)
          ∧ r.2.mem ((c.tc : Thread Cert.Kernel3Ideal.nD Cert.Kernel3Ideal.τ).loc Cert.Kernel3Ideal.main_arg18) = m ((c.tc : Thread Cert.Kernel3Ideal.nD Cert.Kernel3Ideal.τ).loc Cert.Kernel3Ideal.main_arg18)
          ∧ r.2.mem ((c.tc : Thread Cert.Kernel3Ideal.nD Cert.Kernel3Ideal.τ).loc Cert.Kernel3Ideal.main_arg19) = m ((c.tc : Thread Cert.Kernel3Ideal.nD Cert.Kernel3Ideal.τ).loc Cert.Kernel3Ideal.main_arg19)
          ∧ r.2.mem ((c.tc : Thread Cert.Kernel3Ideal.nD Cert.Kernel3Ideal.τ).loc Cert.Kernel3Ideal.main_arg20) = m ((c.tc : Thread Cert.Kernel3Ideal.nD Cert.Kernel3Ideal.τ).loc Cert.Kernel3Ideal.main_arg20)
          ∧ r.2.mem ((c.tc : Thread Cert.Kernel3Ideal.nD Cert.Kernel3Ideal.τ).loc Cert.Kernel3Ideal.main_arg21) = m ((c.tc : Thread Cert.Kernel3Ideal.nD Cert.Kernel3Ideal.τ).loc Cert.Kernel3Ideal.main_arg21)
          ∧ r.2.mem ((c.tc : Thread Cert.Kernel3Ideal.nD Cert.Kernel3Ideal.τ).loc Cert.Kernel3Ideal.main_arg22) = m ((c.tc : Thread Cert.Kernel3Ideal.nD Cert.Kernel3Ideal.τ).loc Cert.Kernel3Ideal.main_arg22)
          ∧ r.2.mem ((c.tc : Thread Cert.Kernel3Ideal.nD Cert.Kernel3Ideal.τ).loc Cert.Kernel3Ideal.main_arg23) = m ((c.tc : Thread Cert.Kernel3Ideal.nD Cert.Kernel3Ideal.τ).loc Cert.Kernel3Ideal.main_arg23)
          ∧ r.2.mem ((c.tc : Thread Cert.Kernel3Ideal.nD Cert.Kernel3Ideal.τ).loc Cert.Kernel3Ideal.main_arg24) = m ((c.tc : Thread Cert.Kernel3Ideal.nD Cert.Kernel3Ideal.τ).loc Cert.Kernel3Ideal.main_arg24)
          ∧ r.2.mem ((c.tc : Thread Cert.Kernel3Ideal.nD Cert.Kernel3Ideal.τ).loc Cert.Kernel3Ideal.main_arg25) = m ((c.tc : Thread Cert.Kernel3Ideal.nD Cert.Kernel3Ideal.τ).loc Cert.Kernel3Ideal.main_arg25)
          ∧ r.2.mem ((c.tc : Thread Cert.Kernel3Ideal.nD Cert.Kernel3Ideal.τ).loc Cert.Kernel3Ideal.main_arg26) = m ((c.tc : Thread Cert.Kernel3Ideal.nD Cert.Kernel3Ideal.τ).loc Cert.Kernel3Ideal.main_arg26))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v356) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15)
          ∧ r.2.mem ((c.tc : Thread Cert.Reference3Ideal.nD Cert.Reference3Ideal.τ).loc Cert.Reference3Ideal.main_arg16) = m' ((c.tc : Thread Cert.Reference3Ideal.nD Cert.Reference3Ideal.τ).loc Cert.Reference3Ideal.main_arg16)
          ∧ r.2.mem ((c.tc : Thread Cert.Reference3Ideal.nD Cert.Reference3Ideal.τ).loc Cert.Reference3Ideal.main_arg17) = m' ((c.tc : Thread Cert.Reference3Ideal.nD Cert.Reference3Ideal.τ).loc Cert.Reference3Ideal.main_arg17)
          ∧ r.2.mem ((c.tc : Thread Cert.Reference3Ideal.nD Cert.Reference3Ideal.τ).loc Cert.Reference3Ideal.main_arg18) = m' ((c.tc : Thread Cert.Reference3Ideal.nD Cert.Reference3Ideal.τ).loc Cert.Reference3Ideal.main_arg18)
          ∧ r.2.mem ((c.tc : Thread Cert.Reference3Ideal.nD Cert.Reference3Ideal.τ).loc Cert.Reference3Ideal.main_arg19) = m' ((c.tc : Thread Cert.Reference3Ideal.nD Cert.Reference3Ideal.τ).loc Cert.Reference3Ideal.main_arg19)
          ∧ r.2.mem ((c.tc : Thread Cert.Reference3Ideal.nD Cert.Reference3Ideal.τ).loc Cert.Reference3Ideal.main_arg20) = m' ((c.tc : Thread Cert.Reference3Ideal.nD Cert.Reference3Ideal.τ).loc Cert.Reference3Ideal.main_arg20)
          ∧ r.2.mem ((c.tc : Thread Cert.Reference3Ideal.nD Cert.Reference3Ideal.τ).loc Cert.Reference3Ideal.main_arg21) = m' ((c.tc : Thread Cert.Reference3Ideal.nD Cert.Reference3Ideal.τ).loc Cert.Reference3Ideal.main_arg21)
          ∧ r.2.mem ((c.tc : Thread Cert.Reference3Ideal.nD Cert.Reference3Ideal.τ).loc Cert.Reference3Ideal.main_arg22) = m' ((c.tc : Thread Cert.Reference3Ideal.nD Cert.Reference3Ideal.τ).loc Cert.Reference3Ideal.main_arg22)
          ∧ r.2.mem ((c.tc : Thread Cert.Reference3Ideal.nD Cert.Reference3Ideal.τ).loc Cert.Reference3Ideal.main_arg23) = m' ((c.tc : Thread Cert.Reference3Ideal.nD Cert.Reference3Ideal.τ).loc Cert.Reference3Ideal.main_arg23)
          ∧ r.2.mem ((c.tc : Thread Cert.Reference3Ideal.nD Cert.Reference3Ideal.τ).loc Cert.Reference3Ideal.main_arg24) = m' ((c.tc : Thread Cert.Reference3Ideal.nD Cert.Reference3Ideal.τ).loc Cert.Reference3Ideal.main_arg24)
          ∧ r.2.mem ((c.tc : Thread Cert.Reference3Ideal.nD Cert.Reference3Ideal.τ).loc Cert.Reference3Ideal.main_arg25) = m' ((c.tc : Thread Cert.Reference3Ideal.nD Cert.Reference3Ideal.τ).loc Cert.Reference3Ideal.main_arg25)
          ∧ r.2.mem ((c.tc : Thread Cert.Reference3Ideal.nD Cert.Reference3Ideal.τ).loc Cert.Reference3Ideal.main_arg26) = m' ((c.tc : Thread Cert.Reference3Ideal.nD Cert.Reference3Ideal.τ).loc Cert.Reference3Ideal.main_arg26))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_recurrent_groups_off : Cert.Pre_recurrent_groups_off.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_recurrent_groups_off (hKernel3Ideal := hKernel3Ideal) (hPre_recurrent_groups_off := hPre_recurrent_groups_off)
    ∧ quiescent_Reference3Ideal (hReference3Ideal := hReference3Ideal)
    ∧ quiescent_Reference3Ideal_pre_recurrent_groups_off (hReference3Ideal := hReference3Ideal) (hPre_recurrent_groups_off := hPre_recurrent_groups_off)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_recurrent_groups_off (hKernel3Ideal := hKernel3Ideal) (hReference3Ideal := hReference3Ideal) (hPre_recurrent_groups_off := hPre_recurrent_groups_off)
-- ==== Pre_recurrent_groups_off.lean ====
abbrev S4x4096x1024 : Shape := ⟨3, ![4, 4096, 1024]⟩
abbrev S2x1024 : Shape := ⟨2, ![2, 1024]⟩
abbrev S2x1024x3080 : Shape := ⟨3, ![2, 1024, 3080]⟩
abbrev S2x256 : Shape := ⟨2, ![2, 256]⟩
abbrev S2x4x128x128 : Shape := ⟨4, ![2, 4, 128, 128]⟩
abbrev S2x4x128 : Shape := ⟨3, ![2, 4, 128]⟩
abbrev S2x4x768 : Shape := ⟨3, ![2, 4, 768]⟩
abbrev S2x4 : Shape := ⟨2, ![2, 4]⟩
abbrev S2x64 : Shape := ⟨2, ![2, 64]⟩
abbrev S2x64x256 : Shape := ⟨3, ![2, 64, 256]⟩
abbrev S2x128x256 : Shape := ⟨3, ![2, 128, 256]⟩
abbrev S2x4x64 : Shape := ⟨3, ![2, 4, 64]⟩
abbrev S2x31x256 : Shape := ⟨3, ![2, 31, 256]⟩
abbrev S2x1024x1024 : Shape := ⟨3, ![2, 1024, 1024]⟩
abbrev S1x512x1024 : Shape := ⟨3, ![1, 512, 1024]⟩
abbrev S512x1024 : Shape := ⟨2, ![512, 1024]⟩
abbrev S_ : Shape := ⟨0, ![]⟩

class Facts : Prop where
  slices_S2x1024x1024_S1x512x1024_0_256_0 : S2x1024x1024.Slices ![0, 256, 0] S1x512x1024
  shapeCasts_S1x512x1024_S512x1024 : S1x512x1024.ShapeCasts S512x1024
  bcast_S_S512x1024 : S_.BroadcastsInDim S512x1024 (![] : Fin 0 → Fin S512x1024.rank)

variable [Facts]

def fn {F : FTy → Type} [FloatOps F] (main_arg0 : FVec F S4x4096x1024 .f32) (main_arg1 : FVec F S2x1024 .f32) (main_arg2 : FVec F S2x1024x3080 .f32) (main_arg3 : FVec F S2x256 .f32) (main_arg4 : FVec F S2x256 .f32) (main_arg5 : FVec F S2x4x128x128 .f32) (main_arg6 : FVec F S2x4x128 .f32) (main_arg7 : FVec F S2x4x768 .f32) (main_arg8 : FVec F S2x4 .f32) (main_arg9 : FVec F S2x4 .f32) (main_arg10 : FVec F S2x64 .f32) (main_arg11 : FVec F S2x1024 .f32) (main_arg12 : FVec F S2x256 .f32) (main_arg13 : FVec F S2x64x256 .f32) (main_arg14 : FVec F S2x256 .f32) (main_arg15 : FVec F S2x64x256 .f32) (main_arg16 : FVec F S2x128x256 .f32) (main_arg17 : FVec F S2x256 .f32) (main_arg18 : FVec F S2x256 .f32) (main_arg19 : FVec F S2x4x64 .f32) (main_arg20 : FVec F S2x256 .f32) (main_arg21 : FVec F S2x256 .f32) (main_arg22 : FVec F S2x31x256 .f32) (main_arg23 : FVec F S2x256 .f32) (main_arg24 : FVec F S2x256 .f32) (main_arg25 : FVec F S2x256 .f32) (main_arg26 : FVec F S2x1024x1024 .f32) : IVec S512x1024 1 :=
  let main_v0 : FVec F S1x512x1024 .f32 := (extractStridedSlice S1x512x1024 ![0, 256, 0] · slices_S2x1024x1024_S1x512x1024_0_256_0) main_arg26
  let main_v1 : FVec F S512x1024 .f32 := shapeCast S512x1024 main_v0 shapeCasts_S1x512x1024_S512x1024
  let main_cst : FVec F S_ .f32 := constant S_ .f32 0x00000000#32
  let main_v2 : FVec F S512x1024 .f32 := broadcastInDim S512x1024 ![] bcast_S_S512x1024 main_cst
  let main_v3 : IVec S512x1024 1 := cmpf .oeq main_v1 main_v2
  main_v3
-- ==== Kernel.lean ====
abbrev S4x4096x1024 : Shape := ⟨3, ![4, 4096, 1024]⟩
abbrev S2x4x4096x256 : Shape := ⟨4, ![2, 4, 4096, 256]⟩
abbrev S2x1024 : Shape := ⟨2, ![2, 1024]⟩
abbrev S2x1024x2816 : Shape := ⟨3, ![2, 1024, 2816]⟩
abbrev S2x3x2816 : Shape := ⟨3, ![2, 3, 2816]⟩
abbrev S2x2816x1024 : Shape := ⟨3, ![2, 2816, 1024]⟩
abbrev S2x1024x1024 : Shape := ⟨3, ![2, 1024, 1024]⟩
abbrev S2x256x1024 : Shape := ⟨3, ![2, 256, 1024]⟩
abbrev S1024 : Shape := ⟨1, ![1024]⟩
abbrev S2x1x1024 : Shape := ⟨3, ![2, 1, 1024]⟩
abbrev S1x1024 : Shape := ⟨2, ![1, 1024]⟩
abbrev S1x512x1024 : Shape := ⟨3, ![1, 512, 1024]⟩
abbrev S1x1x512x256 : Shape := ⟨4, ![1, 1, 512, 256]⟩
abbrev S1x1x1024 : Shape := ⟨3, ![1, 1, 1024]⟩
abbrev S1x1024x2816 : Shape := ⟨3, ![1, 1024, 2816]⟩
abbrev S1x3x2816 : Shape := ⟨3, ![1, 3, 2816]⟩
abbrev S1x2816x1024 : Shape := ⟨3, ![1, 2816, 1024]⟩
abbrev S1x1024x1024 : Shape := ⟨3, ![1, 1024, 1024]⟩
abbrev S1x256x1024 : Shape := ⟨3, ![1, 256, 1024]⟩
abbrev S520x2816 : Shape := ⟨2, ![520, 2816]⟩
abbrev S8x2816 : Shape := ⟨2, ![8, 2816]⟩
abbrev S512x1024 : Shape := ⟨2, ![512, 1024]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩
abbrev S1x1024x256 : Shape := ⟨3, ![1, 1024, 256]⟩
abbrev S1024x256 : Shape := ⟨2, ![1024, 256]⟩
abbrev S512x256 : Shape := ⟨2, ![512, 256]⟩
abbrev S1x1x512 : Shape := ⟨3, ![1, 1, 512]⟩
abbrev S1x512 : Shape := ⟨2, ![1, 512]⟩
abbrev S1x1x256 : Shape := ⟨3, ![1, 1, 256]⟩
abbrev S1x256 : Shape := ⟨2, ![1, 256]⟩
abbrev S256x1024 : Shape := ⟨2, ![256, 1024]⟩
abbrev S1024x1024 : Shape := ⟨2, ![1024, 1024]⟩

abbrev nBuf : Space → Nat
  | .hbm => 24
  | .vmem => 16
  | .smem => 0
  | _ => 0

abbrev bufTy : (tb : Table) → Fin (tcTables nBuf tb) → BufTy
  | .hbm, ⟨0, _⟩ => ⟨S4x4096x1024, .f32⟩
  | .hbm, ⟨1, _⟩ => ⟨S2x4x4096x256, .f32⟩
  | .hbm, ⟨2, _⟩ => ⟨S2x1024, .f32⟩
  | .hbm, ⟨3, _⟩ => ⟨S2x1024x2816, .f32⟩
  | .hbm, ⟨4, _⟩ => ⟨S2x1024x2816, .f32⟩
  | .hbm, ⟨5, _⟩ => ⟨S2x3x2816, .f32⟩
  | .hbm, ⟨6, _⟩ => ⟨S2x2816x1024, .f32⟩
  | .hbm, ⟨7, _⟩ => ⟨S2x1024, .f32⟩
  | .hbm, ⟨8, _⟩ => ⟨S2x1024x1024, .f32⟩
  | .hbm, ⟨9, _⟩ => ⟨S2x256x1024, .f32⟩
  | .hbm, ⟨10, _⟩ => ⟨S2x1024, .f32⟩
  | .hbm, ⟨11, _⟩ => ⟨S1024, .f32⟩
  | .hbm, ⟨12, _⟩ => ⟨S2x1x1024, .f32⟩
  | .hbm, ⟨13, _⟩ => ⟨S2x1024x2816, .bf16⟩
  | .hbm, ⟨14, _⟩ => ⟨S2x1024x2816, .bf16⟩
  | .hbm, ⟨15, _⟩ => ⟨S2x2816x1024, .bf16⟩
  | .hbm, ⟨16, _⟩ => ⟨S2x1x1024, .f32⟩
  | .hbm, ⟨17, _⟩ => ⟨S2x1024x1024, .bf16⟩
  | .hbm, ⟨18, _⟩ => ⟨S2x256x1024, .bf16⟩
  | .hbm, ⟨19, _⟩ => ⟨S1x1024, .f32⟩
  | .hbm, ⟨20, _⟩ => ⟨S1x1024, .f32⟩
  | .hbm, ⟨21, _⟩ => ⟨S2x1024, .f32⟩
  | .hbm, ⟨22, _⟩ => ⟨S2x1x1024, .f32⟩
  | .hbm, ⟨23, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x512x256, .f32⟩
  | .local _ .vmem, ⟨3, _⟩ => ⟨S1x1x512x256, .f32⟩
  | .local _ .vmem, ⟨4, _⟩ => ⟨S1x1x1024, .f32⟩
  | .local _ .vmem, ⟨5, _⟩ => ⟨S1x1024x2816, .bf16⟩
  | .local _ .vmem, ⟨6, _⟩ => ⟨S1x1024x2816, .bf16⟩
  | .local _ .vmem, ⟨7, _⟩ => ⟨S1x3x2816, .f32⟩
  | .local _ .vmem, ⟨8, _⟩ => ⟨S1x2816x1024, .bf16⟩
  | .local _ .vmem, ⟨9, _⟩ => ⟨S1x1x1024, .f32⟩
  | .local _ .vmem, ⟨10, _⟩ => ⟨S1x1024x1024, .bf16⟩
  | .local _ .vmem, ⟨11, _⟩ => ⟨S1x256x1024, .bf16⟩
  | .local _ .vmem, ⟨12, _⟩ => ⟨S1x1x1024, .f32⟩
  | .local _ .vmem, ⟨13, _⟩ => ⟨S1x512x1024, .f32⟩
  | .local _ .vmem, ⟨14, _⟩ => ⟨S1x512x1024, .f32⟩
  | .local _ .vmem, ⟨15, _⟩ => ⟨S520x2816, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x3x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S4x4096x1024 : Shape := ⟨3, ![4, 4096, 1024]⟩
abbrev S2x4x4096x256 : Shape := ⟨4, ![2, 4, 4096, 256]⟩
abbrev S2x1024 : Shape := ⟨2, ![2, 1024]⟩
abbrev S2x1024x2816 : Shape := ⟨3, ![2, 1024, 2816]⟩
abbrev S2x3x2816 : Shape := ⟨3, ![2, 3, 2816]⟩
abbrev S2x2816x1024 : Shape := ⟨3, ![2, 2816, 1024]⟩
abbrev S2x1024x1024 : Shape := ⟨3, ![2, 1024, 1024]⟩
abbrev S2x256x1024 : Shape := ⟨3, ![2, 256, 1024]⟩
abbrev S1024 : Shape := ⟨1, ![1024]⟩
abbrev S1x1024 : Shape := ⟨2, ![1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S4x4096x2816 : Shape := ⟨3, ![4, 4096, 2816]⟩
abbrev S1x3x2816 : Shape := ⟨3, ![1, 3, 2816]⟩
abbrev S3x2816 : Shape := ⟨2, ![3, 2816]⟩
abbrev S4x4098x2816 : Shape := ⟨3, ![4, 4098, 2816]⟩
abbrev S1x2816 : Shape := ⟨2, ![1, 2816]⟩
abbrev S2816 : Shape := ⟨1, ![2816]⟩
abbrev S1x1x2816 : Shape := ⟨3, ![1, 1, 2816]⟩
abbrev S1x2816x1024 : Shape := ⟨3, ![1, 2816, 1024]⟩
abbrev S2816x1024 : Shape := ⟨2, ![2816, 1024]⟩
abbrev S1x4x4096x256 : Shape := ⟨4, ![1, 4, 4096, 256]⟩
abbrev S4x4096x256 : Shape := ⟨3, ![4, 4096, 256]⟩
abbrev S1x256x1024 : Shape := ⟨3, ![1, 256, 1024]⟩
abbrev S256x1024 : Shape := ⟨2, ![256, 1024]⟩
abbrev S1x1024x1024 : Shape := ⟨3, ![1, 1024, 1024]⟩
abbrev S1024x1024 : Shape := ⟨2, ![1024, 1024]⟩

abbrev nBuf : Space → Nat
  | .hbm => 127
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S2x4x4096x256, .f32⟩
  | .hbm, ⟨2, _⟩ => ⟨S2x1024, .f32⟩
  | .hbm, ⟨3, _⟩ => ⟨S2x1024x2816, .f32⟩
  | .hbm, ⟨4, _⟩ => ⟨S2x1024x2816, .f32⟩
  | .hbm, ⟨5, _⟩ => ⟨S2x3x2816, .f32⟩
  | .hbm, ⟨6, _⟩ => ⟨S2x2816x1024, .f32⟩
  | .hbm, ⟨7, _⟩ => ⟨S2x1024, .f32⟩
  | .hbm, ⟨8, _⟩ => ⟨S2x1024x1024, .f32⟩
  | .hbm, ⟨9, _⟩ => ⟨S2x256x1024, .f32⟩
  | .hbm, ⟨10, _⟩ => ⟨S2x1024, .f32⟩
  | .hbm, ⟨11, _⟩ => ⟨S1024, .f32⟩
  | .hbm, ⟨12, _⟩ => ⟨S1x1024, .f32⟩
  | .hbm, ⟨13, _⟩ => ⟨S1024, .f32⟩
  | .hbm, ⟨14, _⟩ => ⟨S4x4096x1024, .f32⟩
  | .hbm, ⟨15, _⟩ => ⟨S_, .f32⟩
  | .hbm, ⟨16, _⟩ => ⟨S4x4096, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S_, .f32⟩
  | .hbm, ⟨22, _⟩ => ⟨S4x4096x1, .f32⟩
  | .hbm, ⟨23, _⟩ => ⟨S4x4096x1, .f32⟩
  | .hbm, ⟨24, _⟩ => ⟨S4x4096x1, .f32⟩
  | .hbm, ⟨25, _⟩ => ⟨S4x4096x1024, .f32⟩
  | .hbm, ⟨26, _⟩ => ⟨S4x4096x1024, .f32⟩
  | .hbm, ⟨27, _⟩ => ⟨S1x1x1024, .f32⟩
  | .hbm, ⟨28, _⟩ => ⟨S4x4096x1024, .f32⟩
  | .hbm, ⟨29, _⟩ => ⟨S4x4096x1024, .f32⟩
  | .hbm, ⟨30, _⟩ => ⟨S1x1024x2816, .f32⟩
  | .hbm, ⟨31, _⟩ => ⟨S1024x2816, .f32⟩
  | .hbm, ⟨32, _⟩ => ⟨S4x4096x2816, .f32⟩
  | .hbm, ⟨33, _⟩ => ⟨S1x3x2816, .f32⟩
  | .hbm, ⟨34, _⟩ => ⟨S3x2816, .f32⟩
  | .hbm, ⟨35, _⟩ => ⟨S_, .i32⟩
  | .hbm, ⟨36, _⟩ => ⟨S_, .f32⟩
  | .hbm, ⟨37, _⟩ => ⟨S4x4098x2816, .f32⟩
  | .hbm, ⟨38, _⟩ => ⟨S1x2816, .f32⟩
  | .hbm, ⟨39, _⟩ => ⟨S2816, .f32⟩
  | .hbm, ⟨40, _⟩ => ⟨S4x4096x2816, .f32⟩
  | .hbm, ⟨41, _⟩ => ⟨S1x1x2816, .f32⟩
  | .hbm, ⟨42, _⟩ => ⟨S4x4096x2816, .f32⟩
  | .hbm, ⟨43, _⟩ => ⟨S4x4096x2816, .f32⟩
  | .hbm, ⟨44, _⟩ => ⟨S1x2816, .f32⟩
  | .hbm, ⟨45, _⟩ => ⟨S2816, .f32⟩
  | .hbm, ⟨46, _⟩ => ⟨S4x4096x2816, .f32⟩
  | .hbm, ⟨47, _⟩ => ⟨S1x1x2816, .f32⟩
  | .hbm, ⟨48, _⟩ => ⟨S4x4096x2816, .f32⟩
  | .hbm, ⟨49, _⟩ => ⟨S4x4096x2816, .f32⟩
  | .hbm, ⟨50, _⟩ => ⟨S4x4096x2816, .f32⟩
  | .hbm, ⟨51, _⟩ => ⟨S1x2816, .f32⟩
  | .hbm, ⟨52, _⟩ => ⟨S2816, .f32⟩
  | .hbm, ⟨53, _⟩ => ⟨S4x4096x2816, .f32⟩
  | .hbm, ⟨54, _⟩ => ⟨S1x1x2816, .f32⟩
  | .hbm, ⟨55, _⟩ => ⟨S4x4096x2816, .f32⟩
  | .hbm, ⟨56, _⟩ => ⟨S4x4096x2816, .f32⟩
  | .hbm, ⟨57, _⟩ => ⟨S4x4096x2816, .f32⟩
  | .hbm, ⟨58, _⟩ => ⟨S4x4096x2816, .f32⟩
  | .hbm, ⟨59, _⟩ => ⟨S4x4096x2816, .f32⟩
  | .hbm, ⟨60, _⟩ => ⟨S_, .f32⟩
  | .hbm, ⟨61, _⟩ => ⟨S4x4096x2816, .f32⟩
  | .hbm, ⟨62, _⟩ => ⟨S4x4096x2816, .f32⟩
  | .hbm, ⟨63, _⟩ => ⟨S_, .f32⟩
  | .hbm, ⟨64, _⟩ => ⟨S4x4096x2816, .f32⟩
  | .hbm, ⟨65, _⟩ => ⟨S4x4096x2816, .f32⟩
  | .hbm, ⟨66, _⟩ => ⟨S4x4096x2816, .f32⟩
  | .hbm, ⟨67, _⟩ => ⟨S1x1024x2816, .f32⟩
  | .hbm, ⟨68, _⟩ => ⟨S1024x2816, .f32⟩
  | .hbm, ⟨69, _⟩ => ⟨S4x4096x2816, .f32⟩
  | .hbm, ⟨70, _⟩ => ⟨S4x4096x2816, .f32⟩
  | .hbm, ⟨71, _⟩ => ⟨S1x2816x1024, .f32⟩
  | .hbm, ⟨72, _⟩ => ⟨S2816x1024, .f32⟩
  | .hbm, ⟨73, _⟩ => ⟨S4x4096x1024, .f32⟩
  | .hbm, ⟨74, _⟩ => ⟨S4x4096x1024, .f32⟩
  | .hbm, ⟨75, _⟩ => ⟨S1x1024, .f32⟩
  | .hbm, ⟨76, _⟩ => ⟨S1024, .f32⟩
  | .hbm, ⟨77, _⟩ => ⟨S4x4096x1024, .f32⟩
  | .hbm, ⟨78, _⟩ => ⟨S_, .f32⟩
  | .hbm, ⟨79, _⟩ => ⟨S4x4096, .f32⟩
  | .hbm, ⟨80, _⟩ => ⟨S4x4096x1, .f32⟩
  | .hbm, ⟨81, _⟩ => ⟨S_, .f32⟩
  | .hbm, ⟨82, _⟩ => ⟨S4x4096x1, .f32⟩
  | .hbm, ⟨83, _⟩ => ⟨S4x4096x1, .f32⟩
  | .hbm, ⟨84, _⟩ => ⟨S_, .f32⟩
  | .hbm, ⟨85, _⟩ => ⟨S4x4096x1, .f32⟩
  | .hbm, ⟨86, _⟩ => ⟨S4x4096x1, .f32⟩
  | .hbm, ⟨87, _⟩ => ⟨S4x4096x1, .f32⟩
  | .hbm, ⟨88, _⟩ => ⟨S4x4096x1024, .f32⟩
  | .hbm, ⟨89, _⟩ => ⟨S4x4096x1024, .f32⟩
  | .hbm, ⟨90, _⟩ => ⟨S1x1x1024, .f32⟩
  | .hbm, ⟨91, _⟩ => ⟨S4x4096x1024, .f32⟩
  | .hbm, ⟨92, _⟩ => ⟨S4x4096x1024, .f32⟩
  | .hbm, ⟨93, _⟩ => ⟨S1x4x4096x256, .f32⟩
  | .hbm, ⟨94, _⟩ => ⟨S4x4096x256, .f32⟩
  | .hbm, ⟨95, _⟩ => ⟨S1x256x1024, .f32⟩
  | .hbm, ⟨96, _⟩ => ⟨S256x1024, .f32⟩
  | .hbm, ⟨97, _⟩ => ⟨S4x4096x1024, .f32⟩
  | .hbm, ⟨98, _⟩ => ⟨S1x1024x1024, .f32⟩
  | .hbm, ⟨99, _⟩ => ⟨S1024x1024, .f32⟩
  | .hbm, ⟨100, _⟩ => ⟨S4x4096x1024, .f32⟩
  | .hbm, ⟨101, _⟩ => ⟨S4x4096x1024, .f32⟩
  | .hbm, ⟨102, _⟩ => ⟨S4x4096x1024, .f32⟩
  | .hbm, ⟨103, _⟩ => ⟨S_, .f32⟩
  | .hbm, ⟨104, _⟩ => ⟨S4x4096x1024, .f32⟩
  | .hbm, ⟨105, _⟩ => ⟨S4x4096x1024, .f32⟩
  | .hbm, ⟨106, _⟩ => ⟨S_, .f32⟩
  | .hbm, ⟨107, _⟩ => ⟨S4x4096x1024, .f32⟩
  | .hbm, ⟨108, _⟩ => ⟨S4x4096x1024, .f32⟩
  | .hbm, ⟨109, _⟩ => ⟨S4x4096x1024, .f32⟩
  | .hbm, ⟨110, _⟩ => ⟨S4x4096x1024, .f32⟩
  | .hbm, ⟨111, _⟩ => ⟨S4x4096x1024, .f32⟩
  | .hbm, ⟨112, _⟩ => ⟨S_, .f32⟩
  | .hbm, ⟨113, _⟩ => ⟨S4x4096, .f32⟩
  | .hbm, ⟨114, _⟩ => ⟨S4x4096x1, .f32⟩
  | .hbm, ⟨115, _⟩ => ⟨S_, .f32⟩
  | .hbm, ⟨116, _⟩ => ⟨S4x4096x1, .f32⟩
  | .hbm, ⟨117, _⟩ => ⟨S4x4096x1, .f32⟩
  | .hbm, ⟨118, _⟩ => ⟨S_, .f32⟩
  | .hbm, ⟨119, _⟩ => ⟨S4x4096x1, .f32⟩
  | .hbm, ⟨120, _⟩ => ⟨S4x4096x1, .f32⟩
  | .hbm, ⟨121, _⟩ => ⟨S4x4096x1, .f32⟩
  | .hbm, ⟨122, _⟩ => ⟨S4x4096x1024, .f32⟩
  | .hbm, ⟨123, _⟩ => ⟨S4x4096x1024, .f32⟩
  | .hbm, ⟨124, _⟩ => ⟨S1x1x1024, .f32⟩
  | .hbm, ⟨125, _⟩ => ⟨S4x4096x1024, .f32⟩
  | .hbm, ⟨126, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c : Ref sig .tc := ⟨.hbm, 35, rfl⟩
abbrev main_call0_v0 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_call1_v0 : Ref sig .tc := ⟨.hbm, 58, rfl⟩
abbrev main_call1_v1 : Ref sig .tc := ⟨.hbm, 59, rfl⟩
abbrev main_call1_cst : Ref sig .tc := ⟨.hbm, 60, rfl⟩
abbrev main_call1_v2 : Ref sig .tc := ⟨.hbm, 61, rfl⟩
abbrev main_call1_v3 : Ref sig .tc := ⟨.hbm, 62, rfl⟩
abbrev main_call1_cst_0 : Ref sig .tc := ⟨.hbm, 63, rfl⟩
abbrev main_call1_v4 : Ref sig .tc := ⟨.hbm, 64, rfl⟩
abbrev main_call1_v5 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_2 : Ref sig .tc := ⟨.hbm, 78, rfl⟩
abbrev main_v53 : Ref sig .tc := ⟨.hbm, 79, rfl⟩
abbrev main_v54 : Ref sig .tc := ⟨.hbm, 80, rfl⟩
abbrev main_cst_3 : Ref sig .tc := ⟨.hbm, 81, rfl⟩
abbrev main_v55 : Ref sig .tc := ⟨.hbm, 82, rfl⟩
abbrev main_v56 : Ref sig .tc := ⟨.hbm, 83, rfl⟩
abbrev main_cst_4 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_5 : Ref sig .tc := ⟨.hbm, 103, rfl⟩
abbrev main_v75 : Ref sig .tc := ⟨.hbm, 104, rfl⟩
abbrev main_v76 : Ref sig .tc := ⟨.hbm, 105, rfl⟩
abbrev main_cst_6 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_7 : Ref sig .tc := ⟨.hbm, 112, rfl⟩
abbrev main_v82 : Ref sig .tc := ⟨.hbm, 113, rfl⟩
abbrev main_v83 : Ref sig .tc := ⟨.hbm, 114, rfl⟩
abbrev main_cst_8 : Ref sig .tc := ⟨.hbm, 115, rfl⟩
abbrev main_v84 : Ref sig .tc := ⟨.hbm, 116, rfl⟩
abbrev main_v85 : Ref sig .tc := ⟨.hbm, 117, rfl⟩
abbrev main_cst_9 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩

abbrev nD : Nat := 1
abbrev τ : Topo := Topo.v7x

variable {F : FTy → Type} [FloatOps F]
-- ==== Kernel2.lean ====
abbrev S4x4096x1024 : Shape := ⟨3, ![4, 4096, 1024]⟩
abbrev S2x4x4096x256 : Shape := ⟨4, ![2, 4, 4096, 256]⟩
abbrev S2x1024 : Shape := ⟨2, ![2, 1024]⟩
abbrev S2x1024x2816 : Shape := ⟨3, ![2, 1024, 2816]⟩
abbrev S2x3x2816 : Shape := ⟨3, ![2, 3, 2816]⟩
abbrev S2x2816x1024 : Shape := ⟨3, ![2, 2816, 1024]⟩
abbrev S2x1024x1024 : Shape := ⟨3, ![2, 1024, 1024]⟩
abbrev S2x256x1024 : Shape := ⟨3, ![2, 256, 1024]⟩
abbrev S1024 : Shape := ⟨1, ![1024]⟩
abbrev S2x1x1024 : Shape := ⟨3, ![2, 1, 1024]⟩
abbrev S1x1024 : Shape := ⟨2, ![1, 1024]⟩
abbrev S1x512x1024 : Shape := ⟨3, ![1, 512, 1024]⟩
abbrev S1x1x512x256 : Shape := ⟨4, ![1, 1, 512, 256]⟩
abbrev S1x1x1024 : Shape := ⟨3, ![1, 1, 1024]⟩
abbrev S1x1024x2816 : Shape := ⟨3, ![1, 1024, 2816]⟩
abbrev S1x3x2816 : Shape := ⟨3, ![1, 3, 2816]⟩
abbrev S1x2816x1024 : Shape := ⟨3, ![1, 2816, 1024]⟩
abbrev S1x1024x1024 : Shape := ⟨3, ![1, 1024, 1024]⟩
abbrev S1x256x1024 : Shape := ⟨3, ![1, 256, 1024]⟩
abbrev S520x2816 : Shape := ⟨2, ![520, 2816]⟩
abbrev S8x2816 : Shape := ⟨2, ![8, 2816]⟩
abbrev S512x1024 : Shape := ⟨2, ![512, 1024]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩
abbrev S1x1024x256 : Shape := ⟨3, ![1, 1024, 256]⟩
abbrev S1024x256 : Shape := ⟨2, ![1024, 256]⟩
abbrev S512x256 : Shape := ⟨2, ![512, 256]⟩
abbrev S1x1x512 : Shape := ⟨3, ![1, 1, 512]⟩
abbrev S1x512 : Shape := ⟨2, ![1, 512]⟩
abbrev S1x1x256 : Shape := ⟨3, ![1, 1, 256]⟩
abbrev S1x256 : Shape := ⟨2, ![1, 256]⟩
abbrev S256x1024 : Shape := ⟨2, ![256, 1024]⟩
abbrev S1024x1024 : Shape := ⟨2, ![1024, 1024]⟩

abbrev nBuf : Space → Nat
  | .hbm => 25
  | .vmem => 18
  | .smem => 0
  | _ => 0

abbrev bufTy : (tb : Table) → Fin (tcTables nBuf tb) → BufTy
  | .hbm, ⟨0, _⟩ => ⟨S4x4096x1024, .f32⟩
  | .hbm, ⟨1, _⟩ => ⟨S2x4x4096x256, .f32⟩
  | .hbm, ⟨2, _⟩ => ⟨S2x1024, .f32⟩
  | .hbm, ⟨3, _⟩ => ⟨S2x1024x2816, .f32⟩
  | .hbm, ⟨4, _⟩ => ⟨S2x1024x2816, .f32⟩
  | .hbm, ⟨5, _⟩ => ⟨S2x3x2816, .f32⟩
  | .hbm, ⟨6, _⟩ => ⟨S2x2816x1024, .f32⟩
  | .hbm, ⟨7, _⟩ => ⟨S2x1024, .f32⟩
  | .hbm, ⟨8, _⟩ => ⟨S2x1024x1024, .f32⟩
  | .hbm, ⟨9, _⟩ => ⟨S2x256x1024, .f32⟩
  | .hbm, ⟨10, _⟩ => ⟨S2x1024, .f32⟩
  | .hbm, ⟨11, _⟩ => ⟨S1024, .f32⟩
  | .hbm, ⟨12, _⟩ => ⟨S2x1x1024, .f32⟩
  | .hbm, ⟨13, _⟩ => ⟨S2x1024x2816, .bf16⟩
  | .hbm, ⟨14, _⟩ => ⟨S2x1024x2816, .bf16⟩
  | .hbm, ⟨15, _⟩ => ⟨S2x2816x1024, .bf16⟩
  | .hbm, ⟨16, _⟩ => ⟨S2x1x1024, .f32⟩
  | .hbm, ⟨17, _⟩ => ⟨S2x1024x1024, .bf16⟩
  | .hbm, ⟨18, _⟩ => ⟨S2x256x1024, .bf16⟩
  | .hbm, ⟨19, _⟩ => ⟨S1x1024, .f32⟩
  | .hbm, ⟨20, _⟩ => ⟨S1x1024, .f32⟩
  | .hbm, ⟨21, _⟩ => ⟨S2x1024, .f32⟩
  | .hbm, ⟨22, _⟩ => ⟨S2x1x1024, .f32⟩
  | .hbm, ⟨23, _⟩ => ⟨S4x4096x1024, .f32⟩
  | .hbm, ⟨24, _⟩ => ⟨S4x4096x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x512x256, .f32⟩
  | .local _ .vmem, ⟨3, _⟩ => ⟨S1x1x512x256, .f32⟩
  | .local _ .vmem, ⟨4, _⟩ => ⟨S1x1x1024, .f32⟩
  | .local _ .vmem, ⟨5, _⟩ => ⟨S1x1024x2816, .bf16⟩
  | .local _ .vmem, ⟨6, _⟩ => ⟨S1x1024x2816, .bf16⟩
  | .local _ .vmem, ⟨7, _⟩ => ⟨S1x3x2816, .f32⟩
  | .local _ .vmem, ⟨8, _⟩ => ⟨S1x2816x1024, .bf16⟩
  | .local _ .vmem, ⟨9, _⟩ => ⟨S1x1x1024, .f32⟩
  | .local _ .vmem, ⟨10, _⟩ => ⟨S1x1024x1024, .bf16⟩
  | .local _ .vmem, ⟨11, _⟩ => ⟨S1x256x1024, .bf16⟩
  | .local _ .vmem, ⟨12, _⟩ => ⟨S1x1x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x512x1024, .bf16⟩
  | .local _ .vmem, ⟨16, _⟩ => ⟨S1x512x1024, .bf16⟩
  | .local _ .vmem, ⟨17, _⟩ => ⟨S520x2816, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x3x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference2Ideal.lean ====
abbrev S4x4096x1024 : Shape := ⟨3, ![4, 4096, 1024]⟩
abbrev S2x4x4096x256 : Shape := ⟨4, ![2, 4, 4096, 256]⟩
abbrev S2x1024 : Shape := ⟨2, ![2, 1024]⟩
abbrev S2x1024x2816 : Shape := ⟨3, ![2, 1024, 2816]⟩
abbrev S2x3x2816 : Shape := ⟨3, ![2, 3, 2816]⟩
abbrev S2x2816x1024 : Shape := ⟨3, ![2, 2816, 1024]⟩
abbrev S2x1024x1024 : Shape := ⟨3, ![2, 1024, 1024]⟩
abbrev S2x256x1024 : Shape := ⟨3, ![2, 256, 1024]⟩
abbrev S1024 : Shape := ⟨1, ![1024]⟩
abbrev S1x1024 : Shape := ⟨2, ![1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S4x4096x2816 : Shape := ⟨3, ![4, 4096, 2816]⟩
abbrev S1x3x2816 : Shape := ⟨3, ![1, 3, 2816]⟩
abbrev S3x2816 : Shape := ⟨2, ![3, 2816]⟩
abbrev S4x4098x2816 : Shape := ⟨3, ![4, 4098, 2816]⟩
abbrev S1x2816 : Shape := ⟨2, ![1, 2816]⟩
abbrev S2816 : Shape := ⟨1, ![2816]⟩
abbrev S1x1x2816 : Shape := ⟨3, ![1, 1, 2816]⟩
abbrev S1x2816x1024 : Shape := ⟨3, ![1, 2816, 1024]⟩
abbrev S2816x1024 : Shape := ⟨2, ![2816, 1024]⟩
abbrev S1x4x4096x256 : Shape := ⟨4, ![1, 4, 4096, 256]⟩
abbrev S4x4096x256 : Shape := ⟨3, ![4, 4096, 256]⟩
abbrev S1x256x1024 : Shape := ⟨3, ![1, 256, 1024]⟩
abbrev S256x1024 : Shape := ⟨2, ![256, 1024]⟩
abbrev S1x1024x1024 : Shape := ⟨3, ![1, 1024, 1024]⟩
abbrev S1024x1024 : Shape := ⟨2, ![1024, 1024]⟩

abbrev nBuf : Space → Nat
  | .hbm => 130
  | .vmem => 0
  | .smem => 0
  | _ => 0

abbrev hbmTy0_0 (i : Nat) : BufTy := match i % 128 with
  | 0 => ⟨S4x4096x1024, .f32⟩
  | 1 => ⟨S2x4x4096x256, .f32⟩
  | 2 => ⟨S2x1024, .f32⟩
  | 3 => ⟨S2x1024x2816, .f32⟩
  | 4 => ⟨S2x1024x2816, .f32⟩
  | 5 => ⟨S2x3x2816, .f32⟩
  | 6 => ⟨S2x2816x1024, .f32⟩
  | 7 => ⟨S2x1024, .f32⟩
  | 8 => ⟨S2x1024x1024, .f32⟩
  | 9 => ⟨S2x256x1024, .f32⟩
  | 10 => ⟨S2x1024, .f32⟩
  | 11 => ⟨S1024, .f32⟩
  | 12 => ⟨S1x1024, .f32⟩
  | 13 => ⟨S1024, .f32⟩
  | 14 => ⟨S4x4096x1024, .f32⟩
  | 15 => ⟨S_, .f32⟩
  | 16 => ⟨S4x4096, .f32⟩
  | 17 => ⟨S4x4096x1, .f32⟩
  | 18 => ⟨S_, .f32⟩
  | 19 => ⟨S4x4096x1, .f32⟩
  | 20 => ⟨S4x4096x1, .f32⟩
  | 21 => ⟨S_, .f32⟩
  | 22 => ⟨S4x4096x1, .f32⟩
  | 23 => ⟨S4x4096x1, .f32⟩
  | 24 => ⟨S4x4096x1, .f32⟩
  | 25 => ⟨S4x4096x1024, .f32⟩
  | 26 => ⟨S4x4096x1024, .f32⟩
  | 27 => ⟨S1x1x1024, .f32⟩
  | 28 => ⟨S4x4096x1024, .f32⟩
  | 29 => ⟨S4x4096x1024, .f32⟩
  | 30 => ⟨S1x1024x2816, .f32⟩
  | 31 => ⟨S1024x2816, .f32⟩
  | 32 => ⟨S4x4096x2816, .f32⟩
  | 33 => ⟨S1x3x2816, .f32⟩
  | 34 => ⟨S3x2816, .f32⟩
  | 35 => ⟨S_, .i32⟩
  | 36 => ⟨S_, .f32⟩
  | 37 => ⟨S4x4098x2816, .f32⟩
  | 38 => ⟨S1x2816, .f32⟩
  | 39 => ⟨S2816, .f32⟩
  | 40 => ⟨S4x4096x2816, .f32⟩
  | 41 => ⟨S1x1x2816, .f32⟩
  | 42 => ⟨S4x4096x2816, .f32⟩
  | 43 => ⟨S4x4096x2816, .f32⟩
  | 44 => ⟨S1x2816, .f32⟩
  | 45 => ⟨S2816, .f32⟩
  | 46 => ⟨S4x4096x2816, .f32⟩
  | 47 => ⟨S1x1x2816, .f32⟩
  | 48 => ⟨S4x4096x2816, .f32⟩
  | 49 => ⟨S4x4096x2816, .f32⟩
  | 50 => ⟨S4x4096x2816, .f32⟩
  | 51 => ⟨S1x2816, .f32⟩
  | 52 => ⟨S2816, .f32⟩
  | 53 => ⟨S4x4096x2816, .f32⟩
  | 54 => ⟨S1x1x2816, .f32⟩
  | 55 => ⟨S4x4096x2816, .f32⟩
  | 56 => ⟨S4x4096x2816, .f32⟩
  | 57 => ⟨S4x4096x2816, .f32⟩
  | 58 => ⟨S4x4096x2816, .f32⟩
  | 59 => ⟨S4x4096x2816, .f32⟩
  | 60 => ⟨S_, .f32⟩
  | 61 => ⟨S4x4096x2816, .f32⟩
  | 62 => ⟨S4x4096x2816, .f32⟩
  | 63 => ⟨S_, .f32⟩
  | 64 => ⟨S4x4096x2816, .f32⟩
  | 65 => ⟨S4x4096x2816, .f32⟩
  | 66 => ⟨S4x4096x2816, .f32⟩
  | 67 => ⟨S1x1024x2816, .f32⟩
  | 68 => ⟨S1024x2816, .f32⟩
  | 69 => ⟨S4x4096x2816, .f32⟩
  | 70 => ⟨S4x4096x2816, .f32⟩
  | 71 => ⟨S1x2816x1024, .f32⟩
  | 72 => ⟨S2816x1024, .f32⟩
  | 73 => ⟨S4x4096x1024, .f32⟩
  | 74 => ⟨S4x4096x1024, .f32⟩
  | 75 => ⟨S1x1024, .f32⟩
  | 76 => ⟨S1024, .f32⟩
  | 77 => ⟨S4x4096x1024, .f32⟩
  | 78 => ⟨S_, .f32⟩
  | 79 => ⟨S4x4096, .f32⟩
  | 80 => ⟨S4x4096x1, .f32⟩
  | 81 => ⟨S_, .f32⟩
  | 82 => ⟨S4x4096x1, .f32⟩
  | 83 => ⟨S4x4096x1, .f32⟩
  | 84 => ⟨S_, .f32⟩
  | 85 => ⟨S4x4096x1, .f32⟩
  | 86 => ⟨S4x4096x1, .f32⟩
  | 87 => ⟨S4x4096x1, .f32⟩
  | 88 => ⟨S4x4096x1024, .f32⟩
  | 89 => ⟨S4x4096x1024, .f32⟩
  | 90 => ⟨S1x1x1024, .f32⟩
  | 91 => ⟨S4x4096x1024, .f32⟩
  | 92 => ⟨S4x4096x1024, .f32⟩
  | 93 => ⟨S1x4x4096x256, .f32⟩
  | 94 => ⟨S4x4096x256, .f32⟩
  | 95 => ⟨S1x256x1024, .f32⟩
  | 96 => ⟨S256x1024, .f32⟩
  | 97 => ⟨S4x4096x1024, .f32⟩
  | 98 => ⟨S1x1024x1024, .f32⟩
  | 99 => ⟨S1024x1024, .f32⟩
  | 100 => ⟨S4x4096x1024, .f32⟩
  | 101 => ⟨S4x4096x1024, .f32⟩
  | 102 => ⟨S4x4096x1024, .f32⟩
  | 103 => ⟨S_, .f32⟩
  | 104 => ⟨S4x4096x1024, .f32⟩
  | 105 => ⟨S4x4096x1024, .f32⟩
  | 106 => ⟨S_, .f32⟩
  | 107 => ⟨S4x4096x1024, .f32⟩
  | 108 => ⟨S4x4096x1024, .f32⟩
  | 109 => ⟨S4x4096x1024, .f32⟩
  | 110 => ⟨S4x4096x1024, .f32⟩
  | 111 => ⟨S1x1024, .f32⟩
  | 112 => ⟨S1024, .f32⟩
  | 113 => ⟨S4x4096x1024, .f32⟩
  | 114 => ⟨S_, .f32⟩
  | 115 => ⟨S4x4096, .f32⟩
  | 116 => ⟨S4x4096x1, .f32⟩
  | 117 => ⟨S_, .f32⟩
  | 118 => ⟨S4x4096x1, .f32⟩
  | 119 => ⟨S4x4096x1, .f32⟩
  | 120 => ⟨S_, .f32⟩
  | 121 => ⟨S4x4096x1, .f32⟩
  | 122 => ⟨S4x4096x1, .f32⟩
  | 123 => ⟨S4x4096x1, .f32⟩
  | 124 => ⟨S4x4096x1024, .f32⟩
  | 125 => ⟨S4x4096x1024, .f32⟩
  | 126 => ⟨S1x1x1024, .f32⟩
  | 127 => ⟨S4x4096x1024, .f32⟩
  | _ => ⟨S4x4096x1024, .f32⟩

abbrev hbmTy0_1 (i : Nat) : BufTy := match i % 128 with
  | 0 => ⟨S4x4096x1024, .f32⟩
  | 1 => ⟨S4x4096x1024, .bf16⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c : Ref sig .tc := ⟨.hbm, 35, rfl⟩
abbrev main_call0_v0 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_call1_v0 : Ref sig .tc := ⟨.hbm, 58, rfl⟩
abbrev main_call1_v1 : Ref sig .tc := ⟨.hbm, 59, rfl⟩
abbrev main_call1_cst : Ref sig .tc := ⟨.hbm, 60, rfl⟩
abbrev main_call1_v2 : Ref sig .tc := ⟨.hbm, 61, rfl⟩
abbrev main_call1_v3 : Ref sig .tc := ⟨.hbm, 62, rfl⟩
abbrev main_call1_cst_0 : Ref sig .tc := ⟨.hbm, 63, rfl⟩
abbrev main_call1_v4 : Ref sig .tc := ⟨.hbm, 64, rfl⟩
abbrev main_call1_v5 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_2 : Ref sig .tc := ⟨.hbm, 78, rfl⟩
abbrev main_v53 : Ref sig .tc := ⟨.hbm, 79, rfl⟩
abbrev main_v54 : Ref sig .tc := ⟨.hbm, 80, rfl⟩
abbrev main_cst_3 : Ref sig .tc := ⟨.hbm, 81, rfl⟩
abbrev main_v55 : Ref sig .tc := ⟨.hbm, 82, rfl⟩
abbrev main_v56 : Ref sig .tc := ⟨.hbm, 83, rfl⟩
abbrev main_cst_4 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_5 : Ref sig .tc := ⟨.hbm, 103, rfl⟩
abbrev main_v75 : Ref sig .tc := ⟨.hbm, 104, rfl⟩
abbrev main_v76 : Ref sig .tc := ⟨.hbm, 105, rfl⟩
abbrev main_cst_6 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_7 : Ref sig .tc := ⟨.hbm, 114, rfl⟩
abbrev main_v84 : Ref sig .tc := ⟨.hbm, 115, rfl⟩
abbrev main_v85 : Ref sig .tc := ⟨.hbm, 116, rfl⟩
abbrev main_cst_8 : Ref sig .tc := ⟨.hbm, 117, rfl⟩
abbrev main_v86 : Ref sig .tc := ⟨.hbm, 118, rfl⟩
abbrev main_v87 : Ref sig .tc := ⟨.hbm, 119, rfl⟩
abbrev main_cst_9 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩

abbrev nD : Nat := 1
abbrev τ : Topo := Topo.v7x

variable {F : FTy → Type} [FloatOps F]
-- ==== Kernel3.lean ====
abbrev S4x4096x1024 : Shape := ⟨3, ![4, 4096, 1024]⟩
abbrev S2x1024 : Shape := ⟨2, ![2, 1024]⟩
abbrev S2x1024x3080 : Shape := ⟨3, ![2, 1024, 3080]⟩
abbrev S2x256 : Shape := ⟨2, ![2, 256]⟩
abbrev S2x4x128x128 : Shape := ⟨4, ![2, 4, 128, 128]⟩
abbrev S2x4x128 : Shape := ⟨3, ![2, 4, 128]⟩
abbrev S2x4x768 : Shape := ⟨3, ![2, 4, 768]⟩
abbrev S2x4 : Shape := ⟨2, ![2, 4]⟩
abbrev S2x64 : Shape := ⟨2, ![2, 64]⟩
abbrev S2x64x256 : Shape := ⟨3, ![2, 64, 256]⟩
abbrev S2x128x256 : Shape := ⟨3, ![2, 128, 256]⟩
abbrev S2x4x64 : Shape := ⟨3, ![2, 4, 64]⟩
abbrev S2x31x256 : Shape := ⟨3, ![2, 31, 256]⟩
abbrev S2x1024x1024 : Shape := ⟨3, ![2, 1024, 1024]⟩
abbrev S1x2x1x64 : Shape := ⟨4, ![1, 2, 1, 64]⟩
abbrev S1x2x4x64 : Shape := ⟨4, ![1, 2, 4, 64]⟩
abbrev S_ : Shape := ⟨0, ![]⟩
abbrev S2x1x256 : Shape := ⟨3, ![2, 1, 256]⟩
abbrev S2x16x256 : Shape := ⟨3, ![2, 16, 256]⟩
abbrev S2x1024x1536 : Shape := ⟨3, ![2, 1024, 1536]⟩
abbrev S2x1024x8 : Shape := ⟨3, ![2, 1024, 8]⟩
abbrev S2x1024x128 : Shape := ⟨3, ![2, 1024, 128]⟩
abbrev S2x128x4x128 : Shape := ⟨4, ![2, 128, 4, 128]⟩
abbrev S2x128x512 : Shape := ⟨3, ![2, 128, 512]⟩
abbrev S2x128x4 : Shape := ⟨3, ![2, 128, 4]⟩
abbrev S2x128x4x64 : Shape := ⟨4, ![2, 128, 4, 64]⟩
abbrev S2x1x1024 : Shape := ⟨3, ![2, 1, 1024]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S128 : Shape := ⟨1, ![128]⟩
abbrev S128x1 : Shape := ⟨2, ![128, 1]⟩
abbrev S128x256 : Shape := ⟨2, ![128, 256]⟩
abbrev S128x512 : Shape := ⟨2, ![128, 512]⟩
abbrev S4x128x1024 : Shape := ⟨3, ![4, 128, 1024]⟩
abbrev S1x1x1024 : Shape := ⟨3, ![1, 1, 1024]⟩
abbrev S1x1024x1536 : Shape := ⟨3, ![1, 1024, 1536]⟩
abbrev S1x1024x128 : Shape := ⟨3, ![1, 1024, 128]⟩
abbrev S1x16x256 : Shape := ⟨3, ![1, 16, 256]⟩
abbrev S1x128x512 : Shape := ⟨3, ![1, 128, 512]⟩
abbrev S1x128x256 : Shape := ⟨3, ![1, 128, 256]⟩
abbrev S1x4x768 : Shape := ⟨3, ![1, 4, 768]⟩
abbrev S1x31x256 : Shape := ⟨3, ![1, 31, 256]⟩
abbrev S1x1024x1024 : Shape := ⟨3, ![1, 1024, 1024]⟩
abbrev S512x3200 : Shape := ⟨2, ![512, 3200]⟩
abbrev S4x136x768 : Shape := ⟨3, ![4, 136, 768]⟩
abbrev S4x136x1024 : Shape := ⟨3, ![4, 136, 1024]⟩
abbrev S4x160x256 : Shape := ⟨3, ![4, 160, 256]⟩
abbrev S4x136x256 : Shape := ⟨3, ![4, 136, 256]⟩
abbrev S4x256x256 : Shape := ⟨3, ![4, 256, 256]⟩
abbrev S512x1024 : Shape := ⟨2, ![512, 1024]⟩
abbrev S4x8x768 : Shape := ⟨3, ![4, 8, 768]⟩
abbrev S4x8x1024 : Shape := ⟨3, ![4, 8, 1024]⟩
abbrev S4x32x256 : Shape := ⟨3, ![4, 32, 256]⟩
abbrev S64x256 : Shape := ⟨2, ![64, 256]⟩
abbrev S64x64 : Shape := ⟨2, ![64, 64]⟩
abbrev S1x1024 : Shape := ⟨2, ![1, 1024]⟩
abbrev S512 : Shape := ⟨1, ![512]⟩
abbrev S512x1 : Shape := ⟨2, ![512, 1]⟩
abbrev S1024x1024 : Shape := ⟨2, ![1024, 1024]⟩
abbrev S1024x128 : Shape := ⟨2, ![1024, 128]⟩
abbrev S512x128 : Shape := ⟨2, ![512, 128]⟩
abbrev S128x768 : Shape := ⟨2, ![128, 768]⟩
abbrev S1x128x768 : Shape := ⟨3, ![1, 128, 768]⟩
abbrev S1x1x768 : Shape := ⟨3, ![1, 1, 768]⟩
abbrev S1x768 : Shape := ⟨2, ![1, 768]⟩
abbrev S512x768 : Shape := ⟨2, ![512, 768]⟩
abbrev S1x8x768 : Shape := ⟨3, ![1, 8, 768]⟩
abbrev S8x768 : Shape := ⟨2, ![8, 768]⟩
abbrev S512x256 : Shape := ⟨2, ![512, 256]⟩
abbrev S512x512 : Shape := ⟨2, ![512, 512]⟩
abbrev S1x1x256 : Shape := ⟨3, ![1, 1, 256]⟩
abbrev S128x1024 : Shape := ⟨2, ![128, 1024]⟩
abbrev S1x128x1024 : Shape := ⟨3, ![1, 128, 1024]⟩
abbrev S1x8x1024 : Shape := ⟨3, ![1, 8, 1024]⟩
abbrev S8x1024 : Shape := ⟨2, ![8, 1024]⟩
abbrev S1x1024x512 : Shape := ⟨3, ![1, 1024, 512]⟩
abbrev S1024x512 : Shape := ⟨2, ![1024, 512]⟩
abbrev S4x128x256 : Shape := ⟨3, ![4, 128, 256]⟩
abbrev S1x32x256 : Shape := ⟨3, ![1, 32, 256]⟩
abbrev S32x256 : Shape := ⟨2, ![32, 256]⟩
abbrev S256x512 : Shape := ⟨2, ![256, 512]⟩
abbrev S1x256x256 : Shape := ⟨3, ![1, 256, 256]⟩

abbrev nBuf : Space → Nat
  | .hbm => 119
  | .vmem => 31
  | .smem => 0
  | _ => 0

abbrev bufTy : (tb : Table) → Fin (tcTables nBuf tb) → BufTy
  | .hbm, ⟨0, _⟩ => ⟨S4x4096x1024, .f32⟩
  | .hbm, ⟨1, _⟩ => ⟨S2x1024, .f32⟩
  | .hbm, ⟨2, _⟩ => ⟨S2x1024x3080, .f32⟩
  | .hbm, ⟨3, _⟩ => ⟨S2x256, .f32⟩
  | .hbm, ⟨4, _⟩ => ⟨S2x256, .f32⟩
  | .hbm, ⟨5, _⟩ => ⟨S2x4x128x128, .f32⟩
  | .hbm, ⟨6, _⟩ => ⟨S2x4x128, .f32⟩
  | .hbm, ⟨7, _⟩ => ⟨S2x4x768, .f32⟩
  | .hbm, ⟨8, _⟩ => ⟨S2x4, .f32⟩
  | .hbm, ⟨9, _⟩ => ⟨S2x4, .f32⟩
  | .hbm, ⟨10, _⟩ => ⟨S2x64, .f32⟩
  | .hbm, ⟨11, _⟩ => ⟨S2x1024, .f32⟩
  | .hbm, ⟨12, _⟩ => ⟨S2x256, .f32⟩
  | .hbm, ⟨13, _⟩ => ⟨S2x64x256, .f32⟩
  | .hbm, ⟨14, _⟩ => ⟨S2x256, .f32⟩
  | .hbm, ⟨15, _⟩ => ⟨S2x64x256, .f32⟩
  | .hbm, ⟨16, _⟩ => ⟨S2x128x256, .f32⟩
  | .hbm, ⟨17, _⟩ => ⟨S2x256, .f32⟩
  | .hbm, ⟨18, _⟩ => ⟨S2x256, .f32⟩
  | .hbm, ⟨19, _⟩ => ⟨S2x4x64, .f32⟩
  | .hbm, ⟨20, _⟩ => ⟨S2x256, .f32⟩
  | .hbm, ⟨21, _⟩ => ⟨S2x256, .f32⟩
  | .hbm, ⟨22, _⟩ => ⟨S2x31x256, .f32⟩
  | .hbm, ⟨23, _⟩ => ⟨S2x256, .f32⟩
  | .hbm, ⟨24, _⟩ => ⟨S2x256, .f32⟩
  | .hbm, ⟨25, _⟩ => ⟨S2x256, .f32⟩
  | .hbm, ⟨26, _⟩ => ⟨S2x1024x1024, .f32⟩
  | .hbm, ⟨27, _⟩ => ⟨S2x4x64, .f32⟩
  | .hbm, ⟨28, _⟩ => ⟨S2x256, .f32⟩
  | .hbm, ⟨29, _⟩ => ⟨S2x4x64, .f32⟩
  | .hbm, ⟨30, _⟩ => ⟨S2x256, .f32⟩
  | .hbm, ⟨31, _⟩ => ⟨S1x2x1x64, .f32⟩
  | .hbm, ⟨32, _⟩ => ⟨S1x2x4x64, .f32⟩
  | .hbm, ⟨33, _⟩ => ⟨S2x256, .f32⟩
  | .hbm, ⟨34, _⟩ => ⟨S2x256, .f32⟩
  | .hbm, ⟨35, _⟩ => ⟨S_, .f32⟩
  | .hbm, ⟨36, _⟩ => ⟨S2x256, .f32⟩
  | .hbm, ⟨37, _⟩ => ⟨S2x1x256, .f32⟩
  | .hbm, ⟨38, _⟩ => ⟨S2x1x256, .f32⟩
  | .hbm, ⟨39, _⟩ => ⟨S2x1x256, .f32⟩
  | .hbm, ⟨40, _⟩ => ⟨S2x1x256, .f32⟩
  | .hbm, ⟨41, _⟩ => ⟨S2x1x256, .f32⟩
  | .hbm, ⟨42, _⟩ => ⟨S2x1x256, .f32⟩
  | .hbm, ⟨43, _⟩ => ⟨S2x1x256, .f32⟩
  | .hbm, ⟨44, _⟩ => ⟨S2x1x256, .f32⟩
  | .hbm, ⟨45, _⟩ => ⟨S2x1x256, .f32⟩
  | .hbm, ⟨46, _⟩ => ⟨S2x1x256, .f32⟩
  | .hbm, ⟨47, _⟩ => ⟨S2x1x256, .f32⟩
  | .hbm, ⟨48, _⟩ => ⟨S2x1x256, .f32⟩
  | .hbm, ⟨49, _⟩ => ⟨S2x1x256, .f32⟩
  | .hbm, ⟨50, _⟩ => ⟨S2x1x256, .f32⟩
  | .hbm, ⟨51, _⟩ => ⟨S2x1x256, .f32⟩
  | .hbm, ⟨52, _⟩ => ⟨S2x1x256, .f32⟩
  | .hbm, ⟨53, _⟩ => ⟨S2x16x256, .f32⟩
  | .hbm, ⟨54, _⟩ => ⟨S2x1024x1536, .f32⟩
  | .hbm, ⟨55, _⟩ => ⟨S2x1024x1536, .bf16⟩
  | .hbm, ⟨56, _⟩ => ⟨S2x1024x1536, .f32⟩
  | .hbm, ⟨57, _⟩ => ⟨S2x1024x1536, .bf16⟩
  | .hbm, ⟨58, _⟩ => ⟨S2x1024x8, .f32⟩
  | .hbm, ⟨59, _⟩ => ⟨S_, .i32⟩
  | .hbm, ⟨60, _⟩ => ⟨S_, .f32⟩
  | .hbm, ⟨61, _⟩ => ⟨S2x1024x128, .f32⟩
  | .hbm, ⟨62, _⟩ => ⟨S2x1024x128, .bf16⟩
  | .hbm, ⟨63, _⟩ => ⟨S2x128x4x128, .f32⟩
  | .hbm, ⟨64, _⟩ => ⟨S2x128x512, .f32⟩
  | .hbm, ⟨65, _⟩ => ⟨S2x128x4, .f32⟩
  | .hbm, ⟨66, _⟩ => ⟨S2x128x4x64, .f32⟩
  | .hbm, ⟨67, _⟩ => ⟨S2x128x256, .f32⟩
  | .hbm, ⟨68, _⟩ => ⟨S_, .i32⟩
  | .hbm, ⟨69, _⟩ => ⟨S_, .f32⟩
  | .hbm, ⟨70, _⟩ => ⟨S2x128x256, .f32⟩
  | .hbm, ⟨71, _⟩ => ⟨S_, .i32⟩
  | .hbm, ⟨72, _⟩ => ⟨S_, .f32⟩
  | .hbm, ⟨73, _⟩ => ⟨S2x128x256, .f32⟩
  | .hbm, ⟨74, _⟩ => ⟨S2x1x1024, .f32⟩
  | .hbm, ⟨75, _⟩ => ⟨S2x1x1024, .f32⟩
  | .hbm, ⟨76, _⟩ => ⟨S2x1024x1024, .bf16⟩
  | .hbm, ⟨77, _⟩ => ⟨S256, .i32⟩
  | .hbm, ⟨78, _⟩ => ⟨S_, .i32⟩
  | .hbm, ⟨79, _⟩ => ⟨S_, .i32⟩
  | .hbm, ⟨80, _⟩ => ⟨S256, .i32⟩
  | .hbm, ⟨81, _⟩ => ⟨S256, .i32⟩
  | .hbm, ⟨82, _⟩ => ⟨S256, .i32⟩
  | .hbm, ⟨83, _⟩ => ⟨S_, .i32⟩
  | .hbm, ⟨84, _⟩ => ⟨S256, .i32⟩
  | .hbm, ⟨85, _⟩ => ⟨S256, .i1⟩
  | .hbm, ⟨86, _⟩ => ⟨S256, .i32⟩
  | .hbm, ⟨87, _⟩ => ⟨S256, .i32⟩
  | .hbm, ⟨88, _⟩ => ⟨S_, .i32⟩
  | .hbm, ⟨89, _⟩ => ⟨S256, .i32⟩
  | .hbm, ⟨90, _⟩ => ⟨S256, .i1⟩
  | .hbm, ⟨91, _⟩ => ⟨S256, .i1⟩
  | .hbm, ⟨92, _⟩ => ⟨S_, .i32⟩
  | .hbm, ⟨93, _⟩ => ⟨S256, .i32⟩
  | .hbm, ⟨94, _⟩ => ⟨S256, .i32⟩
  | .hbm, ⟨95, _⟩ => ⟨S256, .i32⟩
  | .hbm, ⟨96, _⟩ => ⟨S256x1, .i32⟩
  | .hbm, ⟨97, _⟩ => ⟨S1x256, .i32⟩
  | .hbm, ⟨98, _⟩ => ⟨S256x256, .i32⟩
  | .hbm, ⟨99, _⟩ => ⟨S256x256, .i32⟩
  | .hbm, ⟨100, _⟩ => ⟨S256x256, .i1⟩
  | .hbm, ⟨101, _⟩ => ⟨S128, .i32⟩
  | .hbm, ⟨102, _⟩ => ⟨S128x1, .i32⟩
  | .hbm, ⟨103, _⟩ => ⟨S1x256, .i32⟩
  | .hbm, ⟨104, _⟩ => ⟨S128x256, .i32⟩
  | .hbm, ⟨105, _⟩ => ⟨S128x256, .i32⟩
  | .hbm, ⟨106, _⟩ => ⟨S128x256, .i1⟩
  | .hbm, ⟨107, _⟩ => ⟨S1x256, .i32⟩
  | .hbm, ⟨108, _⟩ => ⟨S_, .i32⟩
  | .hbm, ⟨109, _⟩ => ⟨S1x256, .i32⟩
  | .hbm, ⟨110, _⟩ => ⟨S1x256, .i32⟩
  | .hbm, ⟨111, _⟩ => ⟨S128x256, .i32⟩
  | .hbm, ⟨112, _⟩ => ⟨S128x256, .i32⟩
  | .hbm, ⟨113, _⟩ => ⟨S128x256, .i1⟩
  | .hbm, ⟨114, _⟩ => ⟨S128x512, .i1⟩
  | .hbm, ⟨115, _⟩ => ⟨S256x256, .bf16⟩
  | .hbm, ⟨116, _⟩ => ⟨S256x256, .f32⟩
  | .hbm, ⟨117, _⟩ => ⟨S128x512, .bf16⟩
  | .hbm, ⟨118, _⟩ => ⟨S4x4096x1024, .f32⟩
  | .local _ .vmem, ⟨0, _⟩ => ⟨S4x128x1024, .f32⟩
  | .local _ .vmem, ⟨1, _⟩ => ⟨S4x128x1024, .f32⟩
  | .local _ .vmem, ⟨2, _⟩ => ⟨S4x128x1024, .f32⟩
  | .local _ .vmem, ⟨3, _⟩ => ⟨S4x128x1024, .f32⟩
  | .local _ .vmem, ⟨4, _⟩ => ⟨S256x256, .bf16⟩
  | .local _ .vmem, ⟨5, _⟩ => ⟨S256x256, .f32⟩
  | .local _ .vmem, ⟨6, _⟩ => ⟨S128x512, .bf16⟩
  | .local _ .vmem, ⟨7, _⟩ => ⟨S1x1x1024, .f32⟩
  | .local _ .vmem, ⟨8, _⟩ => ⟨S1x1024x1536, .bf16⟩
  | .local _ .vmem, ⟨9, _⟩ => ⟨S1x1024x1536, .bf16⟩
  | .local _ .vmem, ⟨10, _⟩ => ⟨S1x1024x128, .bf16⟩
  | .local _ .vmem, ⟨11, _⟩ => ⟨S1x16x256, .f32⟩
  | .local _ .vmem, ⟨12, _⟩ => ⟨S1x128x512, .f32⟩
  | .local _ .vmem, ⟨13, _⟩ => ⟨S1x128x256, .f32⟩
  | .local _ .vmem, ⟨14, _⟩ => ⟨S1x4x768, .f32⟩
  | .local _ .vmem, ⟨15, _⟩ => ⟨S1x1x1024, .f32⟩
  | .local _ .vmem, ⟨16, _⟩ => ⟨S1x128x256, .f32⟩
  | .local _ .vmem, ⟨17, _⟩ => ⟨S1x128x256, .f32⟩
  | .local _ .vmem, ⟨18, _⟩ => ⟨S1x128x256, .f32⟩
  | .local _ .vmem, ⟨19, _⟩ => ⟨S1x31x256, .f32⟩
  | .local _ .vmem, ⟨20, _⟩ => ⟨S1x1024x1024, .bf16⟩
  | .local _ .vmem, ⟨21, _⟩ => ⟨S4x128x1024, .f32⟩
  | .local _ .vmem, ⟨22, _⟩ => ⟨S4x128x1024, .f32⟩
  | .local _ .vmem, ⟨23, _⟩ => ⟨S512x3200, .f32⟩
  | .local _ .vmem, ⟨24, _⟩ => ⟨S4x136x768, .f32⟩
  | .local _ .vmem, ⟨25, _⟩ => ⟨S4x136x1024, .f32⟩
  | .local _ .vmem, ⟨26, _⟩ => ⟨S4x160x256, .f32⟩
  | .local _ .vmem, ⟨27, _⟩ => ⟨S4x136x256, .f32⟩
  | .local _ .vmem, ⟨28, _⟩ => ⟨S4x256x256, .f32⟩
  | .local _ .vmem, ⟨29, _⟩ => ⟨S4x256x256, .f32⟩
  | .local _ .vmem, ⟨30, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_c : Ref sig .tc := ⟨.hbm, 59, rfl⟩
abbrev main_call0_v0 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_c_0 : Ref sig .tc := ⟨.hbm, 68, rfl⟩
abbrev main_call1_v0 : Ref sig .tc := ⟨.hbm, 69, rfl⟩
abbrev main_v38 : Ref sig .tc := ⟨.hbm, 70, rfl⟩
abbrev main_c_1 : Ref sig .tc := ⟨.hbm, 71, rfl⟩
abbrev main_call2_v0 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_c_2 : Ref sig .tc := ⟨.hbm, 78, rfl⟩
abbrev main_call3_v0 : Ref sig .tc := ⟨.hbm, 79, rfl⟩
abbrev main_call3_v1 : Ref sig .tc := ⟨.hbm, 80, rfl⟩
abbrev main_call3_v2 : Ref sig .tc := ⟨.hbm, 81, rfl⟩
abbrev main_call3_v3 : Ref sig .tc := ⟨.hbm, 82, rfl⟩
abbrev main_call3_v4 : Ref sig .tc := ⟨.hbm, 83, rfl⟩
abbrev main_call3_v5 : Ref sig .tc := ⟨.hbm, 84, rfl⟩
abbrev main_call3_v6 : Ref sig .tc := ⟨.hbm, 85, rfl⟩
abbrev main_call3_v7 : Ref sig .tc := ⟨.hbm, 86, rfl⟩
abbrev main_call3_v8 : Ref sig .tc := ⟨.hbm, 87, rfl⟩
abbrev main_call3_c : Ref sig .tc := ⟨.hbm, 88, rfl⟩
abbrev main_call3_v9 : Ref sig .tc := ⟨.hbm, 89, rfl⟩
abbrev main_call3_v10 : Ref sig .tc := ⟨.hbm, 90, rfl⟩
abbrev main_call3_v11 : Ref sig .tc := ⟨.hbm, 91, rfl⟩
abbrev main_call3_c_0 : Ref sig .tc := ⟨.hbm, 92, rfl⟩
abbrev main_call3_v12 : Ref sig .tc := ⟨.hbm, 93, rfl⟩
abbrev main_call3_v13 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_c_3 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg19_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_scratch5 : Ref sig .tc := ⟨.vmem, 28, rfl⟩
abbrev cc0_scratch6 : Ref sig .tc := ⟨.vmem, 29, rfl⟩
abbrev cc0_scratch7 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem19_1 : DmaSem sig := 22

abbrev nD : Nat := 1
abbrev τ : Topo := Topo.v7x

variable {F : FTy → Type} [FloatOps F]

abbrev grid0 : Pipeline.Grid := ⟨2, ![1, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024x1536 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x16x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x4x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x128x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x128x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x128x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x31x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x1024x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 2 → Memref sig .tc .vmem S4x128x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== Reference3Ideal.lean ====
abbrev S4x4096x1024 : Shape := ⟨3, ![4, 4096, 1024]⟩
abbrev S2x1024 : Shape := ⟨2, ![2, 1024]⟩
abbrev S2x1024x3080 : Shape := ⟨3, ![2, 1024, 3080]⟩
abbrev S2x256 : Shape := ⟨2, ![2, 256]⟩
abbrev S2x4x128x128 : Shape := ⟨4, ![2, 4, 128, 128]⟩
abbrev S2x4x128 : Shape := ⟨3, ![2, 4, 128]⟩
abbrev S2x4x768 : Shape := ⟨3, ![2, 4, 768]⟩
abbrev S2x4 : Shape := ⟨2, ![2, 4]⟩
abbrev S2x64 : Shape := ⟨2, ![2, 64]⟩
abbrev S2x64x256 : Shape := ⟨3, ![2, 64, 256]⟩
abbrev S2x128x256 : Shape := ⟨3, ![2, 128, 256]⟩
abbrev S2x4x64 : Shape := ⟨3, ![2, 4, 64]⟩
abbrev S2x31x256 : Shape := ⟨3, ![2, 31, 256]⟩
abbrev S2x1024x1024 : Shape := ⟨3, ![2, 1024, 1024]⟩
abbrev S1x1024 : Shape := ⟨2, ![1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x3080 : Shape := ⟨3, ![1, 1024, 3080]⟩
abbrev S1024x3080 : Shape := ⟨2, ![1024, 3080]⟩
abbrev S4x4096x3080 : Shape := ⟨3, ![4, 4096, 3080]⟩
abbrev S4x4096x512 : Shape := ⟨3, ![4, 4096, 512]⟩
abbrev S1x256 : Shape := ⟨2, ![1, 256]⟩
abbrev S256 : Shape := ⟨1, ![256]⟩
abbrev S1x4x128x128 : Shape := ⟨4, ![1, 4, 128, 128]⟩
abbrev S4x128x128 : Shape := ⟨3, ![4, 128, 128]⟩
abbrev S1x4x128 : Shape := ⟨3, ![1, 4, 128]⟩
abbrev S4x128 : Shape := ⟨2, ![4, 128]⟩
abbrev S4x4096x256 : Shape := ⟨3, ![4, 4096, 256]⟩
abbrev S1x1x256 : Shape := ⟨3, ![1, 1, 256]⟩
abbrev S4x32x128x4x64 : Shape := ⟨5, ![4, 32, 128, 4, 64]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S4x4x32x64x128 : Shape := ⟨5, ![4, 4, 32, 64, 128]⟩
abbrev S128x4 : Shape := ⟨2, ![128, 4]⟩
abbrev S1x1x128x4x1 : Shape := ⟨5, ![1, 1, 128, 4, 1]⟩
abbrev S1x31x256 : Shape := ⟨3, ![1, 31, 256]⟩
abbrev S31x256 : Shape := ⟨2, ![31, 256]⟩
abbrev S4x4126x256 : Shape := ⟨3, ![4, 4126, 256]⟩
abbrev S1x256x1024 : Shape := ⟨3, ![1, 256, 1024]⟩
abbrev S256x1024 : Shape := ⟨2, ![256, 1024]⟩

abbrev nBuf : Space → Nat
  | .hbm => 430
  | .vmem => 0
  | .smem => 0
  | _ => 0

abbrev hbmTy0_0 (i : Nat) : BufTy := match i % 128 with
  | 0 => ⟨S4x4096x1024, .f32⟩
  | 1 => ⟨S2x1024, .f32⟩
  | 2 => ⟨S2x1024x3080, .f32⟩
  | 3 => ⟨S2x256, .f32⟩
  | 4 => ⟨S2x256, .f32⟩
  | 5 => ⟨S2x4x128x128, .f32⟩
  | 6 => ⟨S2x4x128, .f32⟩
  | 7 => ⟨S2x4x768, .f32⟩
  | 8 => ⟨S2x4, .f32⟩
  | 9 => ⟨S2x4, .f32⟩
  | 10 => ⟨S2x64, .f32⟩
  | 11 => ⟨S2x1024, .f32⟩
  | 12 => ⟨S2x256, .f32⟩
  | 13 => ⟨S2x64x256, .f32⟩
  | 14 => ⟨S2x256, .f32⟩
  | 15 => ⟨S2x64x256, .f32⟩
  | 16 => ⟨S2x128x256, .f32⟩
  | 17 => ⟨S2x256, .f32⟩
  | 18 => ⟨S2x256, .f32⟩
  | 19 => ⟨S2x4x64, .f32⟩
  | 20 => ⟨S2x256, .f32⟩
  | 21 => ⟨S2x256, .f32⟩
  | 22 => ⟨S2x31x256, .f32⟩
  | 23 => ⟨S2x256, .f32⟩
  | 24 => ⟨S2x256, .f32⟩
  | 25 => ⟨S2x256, .f32⟩
  | 26 => ⟨S2x1024x1024, .f32⟩
  | 27 => ⟨S1x1024, .f32⟩
  | 28 => ⟨S1024, .f32⟩
  | 29 => ⟨S4x4096x1024, .f32⟩
  | 30 => ⟨S_, .f32⟩
  | 31 => ⟨S4x4096, .f32⟩
  | 32 => ⟨S4x4096x1, .f32⟩
  | 33 => ⟨S_, .f32⟩
  | 34 => ⟨S4x4096x1, .f32⟩
  | 35 => ⟨S4x4096x1, .f32⟩
  | 36 => ⟨S_, .f32⟩
  | 37 => ⟨S4x4096x1, .f32⟩
  | 38 => ⟨S4x4096x1, .f32⟩
  | 39 => ⟨S4x4096x1, .f32⟩
  | 40 => ⟨S4x4096x1024, .f32⟩
  | 41 => ⟨S4x4096x1024, .f32⟩
  | 42 => ⟨S1x1x1024, .f32⟩
  | 43 => ⟨S4x4096x1024, .f32⟩
  | 44 => ⟨S4x4096x1024, .f32⟩
  | 45 => ⟨S1x1024x3080, .f32⟩
  | 46 => ⟨S1024x3080, .f32⟩
  | 47 => ⟨S4x4096x3080, .f32⟩
  | 48 => ⟨S4x4096x512, .f32⟩
  | 49 => ⟨S1x256, .f32⟩
  | 50 => ⟨S256, .f32⟩
  | 51 => ⟨S1x256, .f32⟩
  | 52 => ⟨S256, .f32⟩
  | 53 => ⟨S1x4x128x128, .f32⟩
  | 54 => ⟨S4x128x128, .f32⟩
  | 55 => ⟨S1x4x128, .f32⟩
  | 56 => ⟨S4x128, .f32⟩
  | 57 => ⟨S4x4096x512, .f32⟩
  | 58 => ⟨S4x4096x512, .f32⟩
  | 59 => ⟨S_, .f32⟩
  | 60 => ⟨S4x4096x512, .f32⟩
  | 61 => ⟨S4x4096x512, .f32⟩
  | 62 => ⟨S4x4096x512, .f32⟩
  | 63 => ⟨S_, .f32⟩
  | 64 => ⟨S4x4096x512, .f32⟩
  | 65 => ⟨S4x4096x512, .f32⟩
  | 66 => ⟨S4x4096x512, .f32⟩
  | 67 => ⟨S_, .f32⟩
  | 68 => ⟨S4x4096x512, .f32⟩
  | 69 => ⟨S4x4096x512, .f32⟩
  | 70 => ⟨S_, .f32⟩
  | 71 => ⟨S4x4096x512, .f32⟩
  | 72 => ⟨S4x4096x512, .f32⟩
  | 73 => ⟨S4x4096x512, .f32⟩
  | 74 => ⟨S4x4096x256, .f32⟩
  | 75 => ⟨S4x4096x256, .f32⟩
  | 76 => ⟨S_, .f32⟩
  | 77 => ⟨S4x4096, .f32⟩
  | 78 => ⟨S4x4096x1, .f32⟩
  | 79 => ⟨S_, .f32⟩
  | 80 => ⟨S4x4096x1, .f32⟩
  | 81 => ⟨S4x4096x1, .f32⟩
  | 82 => ⟨S4x4096x256, .f32⟩
  | 83 => ⟨S4x4096x256, .f32⟩
  | 84 => ⟨S4x4096x256, .f32⟩
  | 85 => ⟨S_, .f32⟩
  | 86 => ⟨S4x4096, .f32⟩
  | 87 => ⟨S4x4096x1, .f32⟩
  | 88 => ⟨S_, .f32⟩
  | 89 => ⟨S4x4096x1, .f32⟩
  | 90 => ⟨S4x4096x1, .f32⟩
  | 91 => ⟨S4x4096x256, .f32⟩
  | 92 => ⟨S4x4096x256, .f32⟩
  | 93 => ⟨S_, .f32⟩
  | 94 => ⟨S4x4096x1, .f32⟩
  | 95 => ⟨S4x4096x1, .f32⟩
  | 96 => ⟨S4x4096x1, .f32⟩
  | 97 => ⟨S4x4096x256, .f32⟩
  | 98 => ⟨S4x4096x256, .f32⟩
  | 99 => ⟨S1x1x256, .f32⟩
  | 100 => ⟨S4x4096x256, .f32⟩
  | 101 => ⟨S4x4096x256, .f32⟩
  | 102 => ⟨S1x1x256, .f32⟩
  | 103 => ⟨S4x4096x256, .f32⟩
  | 104 => ⟨S4x4096x256, .f32⟩
  | 105 => ⟨S4x32x128x4x64, .f32⟩
  | 106 => ⟨S128, .i32⟩
  | 107 => ⟨S_, .i32⟩
  | 108 => ⟨S_, .i32⟩
  | 109 => ⟨S128, .i32⟩
  | 110 => ⟨S128, .i32⟩
  | 111 => ⟨S128, .i32⟩
  | 112 => ⟨S_, .i32⟩
  | 113 => ⟨S128, .i32⟩
  | 114 => ⟨S128, .i1⟩
  | 115 => ⟨S128, .i32⟩
  | 116 => ⟨S128, .i32⟩
  | 117 => ⟨S_, .i32⟩
  | 118 => ⟨S128, .i32⟩
  | 119 => ⟨S128, .i1⟩
  | 120 => ⟨S128, .i1⟩
  | 121 => ⟨S_, .i32⟩
  | 122 => ⟨S128, .i32⟩
  | 123 => ⟨S128, .i32⟩
  | 124 => ⟨S128, .i32⟩
  | 125 => ⟨S1x128, .i32⟩
  | 126 => ⟨S128x1, .i32⟩
  | 127 => ⟨S128x128, .i32⟩
  | _ => ⟨S4x4096x1024, .f32⟩

abbrev hbmTy0_1 (i : Nat) : BufTy := match i % 128 with
  | 0 => ⟨S128x128, .i32⟩
  | 1 => ⟨S128x128, .i1⟩
  | 2 => ⟨S128x128, .f32⟩
  | 3 => ⟨S1x128x128, .f32⟩
  | 4 => ⟨S4x128x128, .f32⟩
  | 5 => ⟨S4x128x128, .f32⟩
  | 6 => ⟨S4x4x32x64x128, .f32⟩
  | 7 => ⟨S4x32x128x4x64, .f32⟩
  | 8 => ⟨S128x4, .f32⟩
  | 9 => ⟨S1x1x128x4x1, .f32⟩
  | 10 => ⟨S4x32x128x4x64, .f32⟩
  | 11 => ⟨S4x32x128x4x64, .f32⟩
  | 12 => ⟨S4x4096x256, .f32⟩
  | 13 => ⟨S4x4096x256, .f32⟩
  | 14 => ⟨S4x4096x512, .f32⟩
  | 15 => ⟨S1x31x256, .f32⟩
  | 16 => ⟨S31x256, .f32⟩
  | 17 => ⟨S1x256, .f32⟩
  | 18 => ⟨S256, .f32⟩
  | 19 => ⟨S1x256, .f32⟩
  | 20 => ⟨S256, .f32⟩
  | 21 => ⟨S1x256, .f32⟩
  | 22 => ⟨S256, .f32⟩
  | 23 => ⟨S4x4096x256, .f32⟩
  | 24 => ⟨S4x4096x256, .f32⟩
  | 25 => ⟨S4x4096x256, .f32⟩
  | 26 => ⟨S4x4096x256, .f32⟩
  | 27 => ⟨S_, .f32⟩
  | 28 => ⟨S4x4096x256, .f32⟩
  | 29 => ⟨S4x4096x256, .f32⟩
  | 30 => ⟨S_, .f32⟩
  | 31 => ⟨S4x4096x256, .f32⟩
  | 32 => ⟨S4x4096x256, .f32⟩
  | 33 => ⟨S4x4096x256, .f32⟩
  | 34 => ⟨S_, .i32⟩
  | 35 => ⟨S_, .f32⟩
  | 36 => ⟨S4x4126x256, .f32⟩
  | 37 => ⟨S1x256, .f32⟩
  | 38 => ⟨S256, .f32⟩
  | 39 => ⟨S4x4096x256, .f32⟩
  | 40 => ⟨S1x1x256, .f32⟩
  | 41 => ⟨S4x4096x256, .f32⟩
  | 42 => ⟨S4x4096x256, .f32⟩
  | 43 => ⟨S1x256, .f32⟩
  | 44 => ⟨S256, .f32⟩
  | 45 => ⟨S4x4096x256, .f32⟩
  | 46 => ⟨S1x1x256, .f32⟩
  | 47 => ⟨S4x4096x256, .f32⟩
  | 48 => ⟨S4x4096x256, .f32⟩
  | 49 => ⟨S1x256, .f32⟩
  | 50 => ⟨S256, .f32⟩
  | 51 => ⟨S4x4096x256, .f32⟩
  | 52 => ⟨S1x1x256, .f32⟩
  | 53 => ⟨S4x4096x256, .f32⟩
  | 54 => ⟨S4x4096x256, .f32⟩
  | 55 => ⟨S1x256, .f32⟩
  | 56 => ⟨S256, .f32⟩
  | 57 => ⟨S4x4096x256, .f32⟩
  | 58 => ⟨S1x1x256, .f32⟩
  | 59 => ⟨S4x4096x256, .f32⟩
  | 60 => ⟨S4x4096x256, .f32⟩
  | 61 => ⟨S1x256, .f32⟩
  | 62 => ⟨S256, .f32⟩
  | 63 => ⟨S4x4096x256, .f32⟩
  | 64 => ⟨S1x1x256, .f32⟩
  | 65 => ⟨S4x4096x256, .f32⟩
  | 66 => ⟨S4x4096x256, .f32⟩
  | 67 => ⟨S1x256, .f32⟩
  | 68 => ⟨S256, .f32⟩
  | 69 => ⟨S4x4096x256, .f32⟩
  | 70 => ⟨S1x1x256, .f32⟩
  | 71 => ⟨S4x4096x256, .f32⟩
  | 72 => ⟨S4x4096x256, .f32⟩
  | 73 => ⟨S1x256, .f32⟩
  | 74 => ⟨S256, .f32⟩
  | 75 => ⟨S4x4096x256, .f32⟩
  | 76 => ⟨S1x1x256, .f32⟩
  | 77 => ⟨S4x4096x256, .f32⟩
  | 78 => ⟨S4x4096x256, .f32⟩
  | 79 => ⟨S1x256, .f32⟩
  | 80 => ⟨S256, .f32⟩
  | 81 => ⟨S4x4096x256, .f32⟩
  | 82 => ⟨S1x1x256, .f32⟩
  | 83 => ⟨S4x4096x256, .f32⟩
  | 84 => ⟨S4x4096x256, .f32⟩
  | 85 => ⟨S1x256, .f32⟩
  | 86 => ⟨S256, .f32⟩
  | 87 => ⟨S4x4096x256, .f32⟩
  | 88 => ⟨S1x1x256, .f32⟩
  | 89 => ⟨S4x4096x256, .f32⟩
  | 90 => ⟨S4x4096x256, .f32⟩
  | 91 => ⟨S1x256, .f32⟩
  | 92 => ⟨S256, .f32⟩
  | 93 => ⟨S4x4096x256, .f32⟩
  | 94 => ⟨S1x1x256, .f32⟩
  | 95 => ⟨S4x4096x256, .f32⟩
  | 96 => ⟨S4x4096x256, .f32⟩
  | 97 => ⟨S1x256, .f32⟩
  | 98 => ⟨S256, .f32⟩
  | 99 => ⟨S4x4096x256, .f32⟩
  | 100 => ⟨S1x1x256, .f32⟩
  | 101 => ⟨S4x4096x256, .f32⟩
  | 102 => ⟨S4x4096x256, .f32⟩
  | 103 => ⟨S1x256, .f32⟩
  | 104 => ⟨S256, .f32⟩
  | 105 => ⟨S4x4096x256, .f32⟩
  | 106 => ⟨S1x1x256, .f32⟩
  | 107 => ⟨S4x4096x256, .f32⟩
  | 108 => ⟨S4x4096x256, .f32⟩
  | 109 => ⟨S1x256, .f32⟩
  | 110 => ⟨S256, .f32⟩
  | 111 => ⟨S4x4096x256, .f32⟩
  | 112 => ⟨S1x1x256, .f32⟩
  | 113 => ⟨S4x4096x256, .f32⟩
  | 114 => ⟨S4x4096x256, .f32⟩
  | 115 => ⟨S1x256, .f32⟩
  | 116 => ⟨S256, .f32⟩
  | 117 => ⟨S4x4096x256, .f32⟩
  | 118 => ⟨S1x1x256, .f32⟩
  | 119 => ⟨S4x4096x256, .f32⟩
  | 120 => ⟨S4x4096x256, .f32⟩
  | 121 => ⟨S1x256, .f32⟩
  | 122 => ⟨S256, .f32⟩
  | 123 => ⟨S4x4096x256, .f32⟩
  | 124 => ⟨S1x1x256, .f32⟩
  | 125 => ⟨S4x4096x256, .f32⟩
  | 126 => ⟨S4x4096x256, .f32⟩
  | 127 => ⟨S1x256, .f32⟩
  | _ => ⟨S4x4096x1024, .f32⟩

abbrev hbmTy0_2 (i : Nat) : BufTy := match i % 128 with
  | 0 => ⟨S256, .f32⟩
  | 1 => ⟨S4x4096x256, .f32⟩
  | 2 => ⟨S1x1x256, .f32⟩
  | 3 => ⟨S4x4096x256, .f32⟩
  | 4 => ⟨S4x4096x256, .f32⟩
  | 5 => ⟨S1x256, .f32⟩
  | 6 => ⟨S256, .f32⟩
  | 7 => ⟨S4x4096x256, .f32⟩
  | 8 => ⟨S1x1x256, .f32⟩
  | 9 => ⟨S4x4096x256, .f32⟩
  | 10 => ⟨S4x4096x256, .f32⟩
  | 11 => ⟨S1x256, .f32⟩
  | 12 => ⟨S256, .f32⟩
  | 13 => ⟨S4x4096x256, .f32⟩
  | 14 => ⟨S1x1x256, .f32⟩
  | 15 => ⟨S4x4096x256, .f32⟩
  | 16 => ⟨S4x4096x256, .f32⟩
  | 17 => ⟨S1x256, .f32⟩
  | 18 => ⟨S256, .f32⟩
  | 19 => ⟨S4x4096x256, .f32⟩
  | 20 => ⟨S1x1x256, .f32⟩
  | 21 => ⟨S4x4096x256, .f32⟩
  | 22 => ⟨S4x4096x256, .f32⟩
  | 23 => ⟨S1x256, .f32⟩
  | 24 => ⟨S256, .f32⟩
  | 25 => ⟨S4x4096x256, .f32⟩
  | 26 => ⟨S1x1x256, .f32⟩
  | 27 => ⟨S4x4096x256, .f32⟩
  | 28 => ⟨S4x4096x256, .f32⟩
  | 29 => ⟨S1x256, .f32⟩
  | 30 => ⟨S256, .f32⟩
  | 31 => ⟨S4x4096x256, .f32⟩
  | 32 => ⟨S1x1x256, .f32⟩
  | 33 => ⟨S4x4096x256, .f32⟩
  | 34 => ⟨S4x4096x256, .f32⟩
  | 35 => ⟨S1x256, .f32⟩
  | 36 => ⟨S256, .f32⟩
  | 37 => ⟨S4x4096x256, .f32⟩
  | 38 => ⟨S1x1x256, .f32⟩
  | 39 => ⟨S4x4096x256, .f32⟩
  | 40 => ⟨S4x4096x256, .f32⟩
  | 41 => ⟨S1x256, .f32⟩
  | 42 => ⟨S256, .f32⟩
  | 43 => ⟨S4x4096x256, .f32⟩
  | 44 => ⟨S1x1x256, .f32⟩
  | 45 => ⟨S4x4096x256, .f32⟩
  | 46 => ⟨S4x4096x256, .f32⟩
  | 47 => ⟨S1x256, .f32⟩
  | 48 => ⟨S256, .f32⟩
  | 49 => ⟨S4x4096x256, .f32⟩
  | 50 => ⟨S1x1x256, .f32⟩
  | 51 => ⟨S4x4096x256, .f32⟩
  | 52 => ⟨S4x4096x256, .f32⟩
  | 53 => ⟨S1x256, .f32⟩
  | 54 => ⟨S256, .f32⟩
  | 55 => ⟨S4x4096x256, .f32⟩
  | 56 => ⟨S1x1x256, .f32⟩
  | 57 => ⟨S4x4096x256, .f32⟩
  | 58 => ⟨S4x4096x256, .f32⟩
  | 59 => ⟨S1x256, .f32⟩
  | 60 => ⟨S256, .f32⟩
  | 61 => ⟨S4x4096x256, .f32⟩
  | 62 => ⟨S1x1x256, .f32⟩
  | 63 => ⟨S4x4096x256, .f32⟩
  | 64 => ⟨S4x4096x256, .f32⟩
  | 65 => ⟨S1x256, .f32⟩
  | 66 => ⟨S256, .f32⟩
  | 67 => ⟨S4x4096x256, .f32⟩
  | 68 => ⟨S1x1x256, .f32⟩
  | 69 => ⟨S4x4096x256, .f32⟩
  | 70 => ⟨S4x4096x256, .f32⟩
  | 71 => ⟨S1x256, .f32⟩
  | 72 => ⟨S256, .f32⟩
  | 73 => ⟨S4x4096x256, .f32⟩
  | 74 => ⟨S1x1x256, .f32⟩
  | 75 => ⟨S4x4096x256, .f32⟩
  | 76 => ⟨S4x4096x256, .f32⟩
  | 77 => ⟨S1x256, .f32⟩
  | 78 => ⟨S256, .f32⟩
  | 79 => ⟨S4x4096x256, .f32⟩
  | 80 => ⟨S1x1x256, .f32⟩
  | 81 => ⟨S4x4096x256, .f32⟩
  | 82 => ⟨S4x4096x256, .f32⟩
  | 83 => ⟨S1x256, .f32⟩
  | 84 => ⟨S256, .f32⟩
  | 85 => ⟨S4x4096x256, .f32⟩
  | 86 => ⟨S1x1x256, .f32⟩
  | 87 => ⟨S4x4096x256, .f32⟩
  | 88 => ⟨S4x4096x256, .f32⟩
  | 89 => ⟨S1x256, .f32⟩
  | 90 => ⟨S256, .f32⟩
  | 91 => ⟨S4x4096x256, .f32⟩
  | 92 => ⟨S1x1x256, .f32⟩
  | 93 => ⟨S4x4096x256, .f32⟩
  | 94 => ⟨S4x4096x256, .f32⟩
  | 95 => ⟨S4x4096x256, .f32⟩
  | 96 => ⟨S4x4096x256, .f32⟩
  | 97 => ⟨S4x4096x256, .f32⟩
  | 98 => ⟨S4x4096x256, .f32⟩
  | 99 => ⟨S4x4096x256, .f32⟩
  | 100 => ⟨S4x4096x256, .f32⟩
  | 101 => ⟨S4x4096x256, .f32⟩
  | 102 => ⟨S4x4096x256, .f32⟩
  | 103 => ⟨S4x4096x256, .f32⟩
  | 104 => ⟨S4x4096x256, .f32⟩
  | 105 => ⟨S4x4096x256, .f32⟩
  | 106 => ⟨S4x4096x256, .f32⟩
  | 107 => ⟨S4x4096x256, .f32⟩
  | 108 => ⟨S4x4096x256, .f32⟩
  | 109 => ⟨S4x4096x256, .f32⟩
  | 110 => ⟨S4x4096x256, .f32⟩
  | 111 => ⟨S4x4096x256, .f32⟩
  | 112 => ⟨S4x4096x256, .f32⟩
  | 113 => ⟨S4x4096x256, .f32⟩
  | 114 => ⟨S4x4096x256, .f32⟩
  | 115 => ⟨S4x4096x256, .f32⟩
  | 116 => ⟨S4x4096x256, .f32⟩
  | 117 => ⟨S4x4096x256, .f32⟩
  | 118 => ⟨S4x4096x256, .f32⟩
  | 119 => ⟨S4x4096x256, .f32⟩
  | 120 => ⟨S4x4096x256, .f32⟩
  | 121 => ⟨S4x4096x256, .f32⟩
  | 122 => ⟨S4x4096x256, .f32⟩
  | 123 => ⟨S4x4096x256, .f32⟩
  | 124 => ⟨S4x4096x256, .f32⟩
  | 125 => ⟨S1x1x256, .f32⟩
  | 126 => ⟨S4x4096x256, .f32⟩
  | 127 => ⟨S4x4096x256, .f32⟩
  | _ => ⟨S4x4096x1024, .f32⟩

abbrev hbmTy0_3 (i : Nat) : BufTy := match i % 128 with
  | 0 => ⟨S_, .f32⟩
  | 1 => ⟨S4x4096, .f32⟩
  | 2 => ⟨S4x4096x1, .f32⟩
  | 3 => ⟨S_, .f32⟩
  | 4 => ⟨S4x4096x1, .f32⟩
  | 5 => ⟨S4x4096x1, .f32⟩
  | 6 => ⟨S4x4096x256, .f32⟩
  | 7 => ⟨S4x4096x256, .f32⟩
  | 8 => ⟨S4x4096x256, .f32⟩
  | 9 => ⟨S_, .f32⟩
  | 10 => ⟨S4x4096, .f32⟩
  | 11 => ⟨S4x4096x1, .f32⟩
  | 12 => ⟨S_, .f32⟩
  | 13 => ⟨S4x4096x1, .f32⟩
  | 14 => ⟨S4x4096x1, .f32⟩
  | 15 => ⟨S4x4096x256, .f32⟩
  | 16 => ⟨S4x4096x256, .f32⟩
  | 17 => ⟨S_, .f32⟩
  | 18 => ⟨S4x4096x1, .f32⟩
  | 19 => ⟨S4x4096x1, .f32⟩
  | 20 => ⟨S4x4096x1, .f32⟩
  | 21 => ⟨S4x4096x256, .f32⟩
  | 22 => ⟨S4x4096x256, .f32⟩
  | 23 => ⟨S1x1x256, .f32⟩
  | 24 => ⟨S4x4096x256, .f32⟩
  | 25 => ⟨S4x4096x256, .f32⟩
  | 26 => ⟨S1x1x256, .f32⟩
  | 27 => ⟨S4x4096x256, .f32⟩
  | 28 => ⟨S4x4096x256, .f32⟩
  | 29 => ⟨S4x4096x256, .f32⟩
  | 30 => ⟨S4x4096x256, .f32⟩
  | 31 => ⟨S_, .f32⟩
  | 32 => ⟨S4x4096x256, .f32⟩
  | 33 => ⟨S4x4096x256, .f32⟩
  | 34 => ⟨S_, .f32⟩
  | 35 => ⟨S4x4096x256, .f32⟩
  | 36 => ⟨S4x4096x256, .f32⟩
  | 37 => ⟨S4x4096x256, .f32⟩
  | 38 => ⟨S1x256x1024, .f32⟩
  | 39 => ⟨S256x1024, .f32⟩
  | 40 => ⟨S4x4096x1024, .f32⟩
  | 41 => ⟨S1x256x1024, .f32⟩
  | 42 => ⟨S256x1024, .f32⟩
  | 43 => ⟨S4x4096x1024, .f32⟩
  | 44 => ⟨S4x4096x1024, .f32⟩
  | 45 => ⟨S4x4096x1024, .f32⟩
  | _ => ⟨S4x4096x1024, .f32⟩

abbrev hbmTy (i : Nat) : BufTy := match i / 128 with
  | 0 => hbmTy0_0 i
  | 1 => hbmTy0_1 i
  | 2 => hbmTy0_2 i
  | 3 => hbmTy0_3 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_cst : Ref sig .tc := ⟨.hbm, 30, rfl⟩
abbrev main_v3 : Ref sig .tc := ⟨.hbm, 31, rfl⟩
abbrev main_v4 : Ref sig .tc := ⟨.hbm, 32, rfl⟩
abbrev main_cst_0 : Ref sig .tc := ⟨.hbm, 33, rfl⟩
abbrev main_v5 : Ref sig .tc := ⟨.hbm, 34, rfl⟩
abbrev main_v6 : Ref sig .tc := ⟨.hbm, 35, rfl⟩
abbrev main_cst_1 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_cst_2 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_cst_3 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_cst_4 : Ref sig .tc := ⟨.hbm, 67, rfl⟩
abbrev main_v35 : Ref sig .tc := ⟨.hbm, 68, rfl⟩
abbrev main_v36 : Ref sig .tc := ⟨.hbm, 69, rfl⟩
abbrev main_cst_5 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_cst_6 : Ref sig .tc := ⟨.hbm, 76, rfl⟩
abbrev main_v42 : Ref sig .tc := ⟨.hbm, 77, rfl⟩
abbrev main_v43 : Ref sig .tc := ⟨.hbm, 78, rfl⟩
abbrev main_cst_7 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_cst_8 : Ref sig .tc := ⟨.hbm, 85, rfl⟩
abbrev main_v49 : Ref sig .tc := ⟨.hbm, 86, rfl⟩
abbrev main_v50 : Ref sig .tc := ⟨.hbm, 87, rfl⟩
abbrev main_cst_9 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_cst_10 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_c : Ref sig .tc := ⟨.hbm, 107, rfl⟩
abbrev main_call0_v0 : Ref sig .tc := ⟨.hbm, 108, rfl⟩
abbrev main_call0_v1 : Ref sig .tc := ⟨.hbm, 109, rfl⟩
abbrev main_call0_v2 : Ref sig .tc := ⟨.hbm, 110, rfl⟩
abbrev main_call0_v3 : Ref sig .tc := ⟨.hbm, 111, rfl⟩
abbrev main_call0_v4 : Ref sig .tc := ⟨.hbm, 112, rfl⟩
abbrev main_call0_v5 : Ref sig .tc := ⟨.hbm, 113, rfl⟩
abbrev main_call0_v6 : Ref sig .tc := ⟨.hbm, 114, rfl⟩
abbrev main_call0_v7 : Ref sig .tc := ⟨.hbm, 115, rfl⟩
abbrev main_call0_v8 : Ref sig .tc := ⟨.hbm, 116, rfl⟩
abbrev main_call0_c : Ref sig .tc := ⟨.hbm, 117, rfl⟩
abbrev main_call0_v9 : Ref sig .tc := ⟨.hbm, 118, rfl⟩
abbrev main_call0_v10 : Ref sig .tc := ⟨.hbm, 119, rfl⟩
abbrev main_call0_v11 : Ref sig .tc := ⟨.hbm, 120, rfl⟩
abbrev main_call0_c_0 : Ref sig .tc := ⟨.hbm, 121, rfl⟩
abbrev main_call0_v12 : Ref sig .tc := ⟨.hbm, 122, rfl⟩
abbrev main_call0_v13 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_cst_11 : Ref sig .tc := ⟨.hbm, 155, rfl⟩
abbrev main_v99 : Ref sig .tc := ⟨.hbm, 156, rfl⟩
abbrev main_v100 : Ref sig .tc := ⟨.hbm, 157, rfl⟩
abbrev main_cst_12 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_c_13 : Ref sig .tc := ⟨.hbm, 162, rfl⟩
abbrev main_call1_v0 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_v190 : Ref sig .tc := ⟨.hbm, 250, rfl⟩
abbrev main_v191 : Ref sig .tc := ⟨.hbm, 251, rfl⟩
abbrev main_v192 : Ref sig .tc := ⟨.hbm, 252, rfl⟩
abbrev main_v193 : Ref sig .tc := ⟨.hbm, 253, rfl⟩
abbrev main_v194 : Ref sig .tc := ⟨.hbm, 254, rfl⟩
abbrev main_v195 : Ref sig .tc := ⟨.hbm, 255, rfl⟩
abbrev main_v196 : Ref sig .tc := ⟨.hbm, 256, rfl⟩
abbrev main_v197 : Ref sig .tc := ⟨.hbm, 257, rfl⟩
abbrev main_v198 : Ref sig .tc := ⟨.hbm, 258, rfl⟩
abbrev main_v199 : Ref sig .tc := ⟨.hbm, 259, rfl⟩
abbrev main_v200 : Ref sig .tc := ⟨.hbm, 260, rfl⟩
abbrev main_v201 : Ref sig .tc := ⟨.hbm, 261, rfl⟩
abbrev main_v202 : Ref sig .tc := ⟨.hbm, 262, rfl⟩
abbrev main_v203 : Ref sig .tc := ⟨.hbm, 263, rfl⟩
abbrev main_v204 : Ref sig .tc := ⟨.hbm, 264, rfl⟩
abbrev main_v205 : Ref sig .tc := ⟨.hbm, 265, rfl⟩
abbrev main_v206 : Ref sig .tc := ⟨.hbm, 266, rfl⟩
abbrev main_v207 : Ref sig .tc := ⟨.hbm, 267, rfl⟩
abbrev main_v208 : Ref sig .tc := ⟨.hbm, 268, rfl⟩
abbrev main_v209 : Ref sig .tc := ⟨.hbm, 269, rfl⟩
abbrev main_v210 : Ref sig .tc := ⟨.hbm, 270, rfl⟩
abbrev main_v211 : Ref sig .tc := ⟨.hbm, 271, rfl⟩
abbrev main_v212 : Ref sig .tc := ⟨.hbm, 272, rfl⟩
abbrev main_v213 : Ref sig .tc := ⟨.hbm, 273, rfl⟩
abbrev main_v214 : Ref sig .tc := ⟨.hbm, 274, rfl⟩
abbrev main_v215 : Ref sig .tc := ⟨.hbm, 275, rfl⟩
abbrev main_v216 : Ref sig .tc := ⟨.hbm, 276, rfl⟩
abbrev main_v217 : Ref sig .tc := ⟨.hbm, 277, rfl⟩
abbrev main_v218 : Ref sig .tc := ⟨.hbm, 278, rfl⟩
abbrev main_v219 : Ref sig .tc := ⟨.hbm, 279, rfl⟩
abbrev main_v220 : Ref sig .tc := ⟨.hbm, 280, rfl⟩
abbrev main_v221 : Ref sig .tc := ⟨.hbm, 281, rfl⟩
abbrev main_v222 : Ref sig .tc := ⟨.hbm, 282, rfl⟩
abbrev main_v223 : Ref sig .tc := ⟨.hbm, 283, rfl⟩
abbrev main_v224 : Ref sig .tc := ⟨.hbm, 284, rfl⟩
abbrev main_v225 : Ref sig .tc := ⟨.hbm, 285, rfl⟩
abbrev main_v226 : Ref sig .tc := ⟨.hbm, 286, rfl⟩
abbrev main_v227 : Ref sig .tc := ⟨.hbm, 287, rfl⟩
abbrev main_v228 : Ref sig .tc := ⟨.hbm, 288, rfl⟩
abbrev main_v229 : Ref sig .tc := ⟨.hbm, 289, rfl⟩
abbrev main_v230 : Ref sig .tc := ⟨.hbm, 290, rfl⟩
abbrev main_v231 : Ref sig .tc := ⟨.hbm, 291, rfl⟩
abbrev main_v232 : Ref sig .tc := ⟨.hbm, 292, rfl⟩
abbrev main_v233 : Ref sig .tc := ⟨.hbm, 293, rfl⟩
abbrev main_v234 : Ref sig .tc := ⟨.hbm, 294, rfl⟩
abbrev main_v235 : Ref sig .tc := ⟨.hbm, 295, rfl⟩
abbrev main_v236 : Ref sig .tc := ⟨.hbm, 296, rfl⟩
abbrev main_v237 : Ref sig .tc := ⟨.hbm, 297, rfl⟩
abbrev main_v238 : Ref sig .tc := ⟨.hbm, 298, rfl⟩
abbrev main_v239 : Ref sig .tc := ⟨.hbm, 299, rfl⟩
abbrev main_v240 : Ref sig .tc := ⟨.hbm, 300, rfl⟩
abbrev main_v241 : Ref sig .tc := ⟨.hbm, 301, rfl⟩
abbrev main_v242 : Ref sig .tc := ⟨.hbm, 302, rfl⟩
abbrev main_v243 : Ref sig .tc := ⟨.hbm, 303, rfl⟩
abbrev main_v244 : Ref sig .tc := ⟨.hbm, 304, rfl⟩
abbrev main_v245 : Ref sig .tc := ⟨.hbm, 305, rfl⟩
abbrev main_v246 : Ref sig .tc := ⟨.hbm, 306, rfl⟩
abbrev main_v247 : Ref sig .tc := ⟨.hbm, 307, rfl⟩
abbrev main_v248 : Ref sig .tc := ⟨.hbm, 308, rfl⟩
abbrev main_v249 : Ref sig .tc := ⟨.hbm, 309, rfl⟩
abbrev main_v250 : Ref sig .tc := ⟨.hbm, 310, rfl⟩
abbrev main_v251 : Ref sig .tc := ⟨.hbm, 311, rfl⟩
abbrev main_v252 : Ref sig .tc := ⟨.hbm, 312, rfl⟩
abbrev main_v253 : Ref sig .tc := ⟨.hbm, 313, rfl⟩
abbrev main_v254 : Ref sig .tc := ⟨.hbm, 314, rfl⟩
abbrev main_v255 : Ref sig .tc := ⟨.hbm, 315, rfl⟩
abbrev main_v256 : Ref sig .tc := ⟨.hbm, 316, rfl⟩
abbrev main_v257 : Ref sig .tc := ⟨.hbm, 317, rfl⟩
abbrev main_v258 : Ref sig .tc := ⟨.hbm, 318, rfl⟩
abbrev main_v259 : Ref sig .tc := ⟨.hbm, 319, rfl⟩
abbrev main_v260 : Ref sig .tc := ⟨.hbm, 320, rfl⟩
abbrev main_v261 : Ref sig .tc := ⟨.hbm, 321, rfl⟩
abbrev main_v262 : Ref sig .tc := ⟨.hbm, 322, rfl⟩
abbrev main_v263 : Ref sig .tc := ⟨.hbm, 323, rfl⟩
abbrev main_v264 : Ref sig .tc := ⟨.hbm, 324, rfl⟩
abbrev main_v265 : Ref sig .tc := ⟨.hbm, 325, rfl⟩
abbrev main_v266 : Ref sig .tc := ⟨.hbm, 326, rfl⟩
abbrev main_v267 : Ref sig .tc := ⟨.hbm, 327, rfl⟩
abbrev main_v268 : Ref sig .tc := ⟨.hbm, 328, rfl⟩
abbrev main_v269 : Ref sig .tc := ⟨.hbm, 329, rfl⟩
abbrev main_v270 : Ref sig .tc := ⟨.hbm, 330, rfl⟩
abbrev main_v271 : Ref sig .tc := ⟨.hbm, 331, rfl⟩
abbrev main_v272 : Ref sig .tc := ⟨.hbm, 332, rfl⟩
abbrev main_v273 : Ref sig .tc := ⟨.hbm, 333, rfl⟩
abbrev main_v274 : Ref sig .tc := ⟨.hbm, 334, rfl⟩
abbrev main_v275 : Ref sig .tc := ⟨.hbm, 335, rfl⟩
abbrev main_v276 : Ref sig .tc := ⟨.hbm, 336, rfl⟩
abbrev main_v277 : Ref sig .tc := ⟨.hbm, 337, rfl⟩
abbrev main_v278 : Ref sig .tc := ⟨.hbm, 338, rfl⟩
abbrev main_v279 : Ref sig .tc := ⟨.hbm, 339, rfl⟩
abbrev main_v280 : Ref sig .tc := ⟨.hbm, 340, rfl⟩
abbrev main_v281 : Ref sig .tc := ⟨.hbm, 341, rfl⟩
abbrev main_v282 : Ref sig .tc := ⟨.hbm, 342, rfl⟩
abbrev main_v283 : Ref sig .tc := ⟨.hbm, 343, rfl⟩
abbrev main_v284 : Ref sig .tc := ⟨.hbm, 344, rfl⟩
abbrev main_v285 : Ref sig .tc := ⟨.hbm, 345, rfl⟩
abbrev main_v286 : Ref sig .tc := ⟨.hbm, 346, rfl⟩
abbrev main_v287 : Ref sig .tc := ⟨.hbm, 347, rfl⟩
abbrev main_v288 : Ref sig .tc := ⟨.hbm, 348, rfl⟩
abbrev main_v289 : Ref sig .tc := ⟨.hbm, 349, rfl⟩
abbrev main_v290 : Ref sig .tc := ⟨.hbm, 350, rfl⟩
abbrev main_v291 : Ref sig .tc := ⟨.hbm, 351, rfl⟩
abbrev main_v292 : Ref sig .tc := ⟨.hbm, 352, rfl⟩
abbrev main_v293 : Ref sig .tc := ⟨.hbm, 353, rfl⟩
abbrev main_v294 : Ref sig .tc := ⟨.hbm, 354, rfl⟩
abbrev main_v295 : Ref sig .tc := ⟨.hbm, 355, rfl⟩
abbrev main_v296 : Ref sig .tc := ⟨.hbm, 356, rfl⟩
abbrev main_v297 : Ref sig .tc := ⟨.hbm, 357, rfl⟩
abbrev main_v298 : Ref sig .tc := ⟨.hbm, 358, rfl⟩
abbrev main_v299 : Ref sig .tc := ⟨.hbm, 359, rfl⟩
abbrev main_v300 : Ref sig .tc := ⟨.hbm, 360, rfl⟩
abbrev main_v301 : Ref sig .tc := ⟨.hbm, 361, rfl⟩
abbrev main_v302 : Ref sig .tc := ⟨.hbm, 362, rfl⟩
abbrev main_v303 : Ref sig .tc := ⟨.hbm, 363, rfl⟩
abbrev main_v304 : Ref sig .tc := ⟨.hbm, 364, rfl⟩
abbrev main_v305 : Ref sig .tc := ⟨.hbm, 365, rfl⟩
abbrev main_v306 : Ref sig .tc := ⟨.hbm, 366, rfl⟩
abbrev main_v307 : Ref sig .tc := ⟨.hbm, 367, rfl⟩
abbrev main_v308 : Ref sig .tc := ⟨.hbm, 368, rfl⟩
abbrev main_v309 : Ref sig .tc := ⟨.hbm, 369, rfl⟩
abbrev main_v310 : Ref sig .tc := ⟨.hbm, 370, rfl⟩
abbrev main_v311 : Ref sig .tc := ⟨.hbm, 371, rfl⟩
abbrev main_v312 : Ref sig .tc := ⟨.hbm, 372, rfl⟩
abbrev main_v313 : Ref sig .tc := ⟨.hbm, 373, rfl⟩
abbrev main_v314 : Ref sig .tc := ⟨.hbm, 374, rfl⟩
abbrev main_v315 : Ref sig .tc := ⟨.hbm, 375, rfl⟩
abbrev main_v316 : Ref sig .tc := ⟨.hbm, 376, rfl⟩
abbrev main_v317 : Ref sig .tc := ⟨.hbm, 377, rfl⟩
abbrev main_v318 : Ref sig .tc := ⟨.hbm, 378, rfl⟩
abbrev main_v319 : Ref sig .tc := ⟨.hbm, 379, rfl⟩
abbrev main_v320 : Ref sig .tc := ⟨.hbm, 380, rfl⟩
abbrev main_v321 : Ref sig .tc := ⟨.hbm, 381, rfl⟩
abbrev main_v322 : Ref sig .tc := ⟨.hbm, 382, rfl⟩
abbrev main_v323 : Ref sig .tc := ⟨.hbm, 383, rfl⟩
abbrev main_cst_14 : Ref sig .tc := ⟨.hbm, 384, rfl⟩
abbrev main_v324 : Ref sig .tc := ⟨.hbm, 385, rfl⟩
abbrev main_v325 : Ref sig .tc := ⟨.hbm, 386, rfl⟩
abbrev main_cst_15 : Ref sig .tc := ⟨.hbm, 387, rfl⟩
abbrev main_v326 : Ref sig .tc := ⟨.hbm, 388, rfl⟩
abbrev main_v327 : Ref sig .tc := ⟨.hbm, 389, rfl⟩
abbrev main_v328 : Ref sig .tc := ⟨.hbm, 390, rfl⟩
abbrev main_v329 : Ref sig .tc := ⟨.hbm, 391, rfl⟩
abbrev main_v330 : Ref sig .tc := ⟨.hbm, 392, rfl⟩
abbrev main_cst_16 : Ref sig .tc := ⟨.hbm, 393, rfl⟩
abbrev main_v331 : Ref sig .tc := ⟨.hbm, 394, rfl⟩
abbrev main_v332 : Ref sig .tc := ⟨.hbm, 395, rfl⟩
abbrev main_cst_17 : Ref sig .tc := ⟨.hbm, 396, rfl⟩
abbrev main_v333 : Ref sig .tc := ⟨.hbm, 397, rfl⟩
abbrev main_v334 : Ref sig .tc := ⟨.hbm, 398, rfl⟩
abbrev main_v335 : Ref sig .tc := ⟨.hbm, 399, rfl⟩
abbrev main_v336 : Ref sig .tc := ⟨.hbm, 400, rfl⟩
abbrev main_cst_18 : Ref sig .tc := ⟨.hbm, 401, rfl⟩
abbrev main_v337 : Ref sig .tc := ⟨.hbm, 402, rfl⟩
abbrev main_v338 : Ref sig .tc := ⟨.hbm, 403, rfl⟩
abbrev main_v339 : Ref sig .tc := ⟨.hbm, 404, rfl⟩
abbrev main_v340 : Ref sig .tc := ⟨.hbm, 405, rfl⟩
abbrev main_v341 : Ref sig .tc := ⟨.hbm, 406, rfl⟩
abbrev main_v342 : Ref sig .tc := ⟨.hbm, 407, rfl⟩
abbrev main_v343 : Ref sig .tc := ⟨.hbm, 408, rfl⟩
abbrev main_v344 : Ref sig .tc := ⟨.hbm, 409, rfl⟩
abbrev main_v345 : Ref sig .tc := ⟨.hbm, 410, rfl⟩
abbrev main_v346 : Ref sig .tc := ⟨.hbm, 411, rfl⟩
abbrev main_v347 : Ref sig .tc := ⟨.hbm, 412, rfl⟩
abbrev main_call2_v0 : Ref sig .tc := ⟨.hbm, 413, rfl⟩
abbrev main_call2_v1 : Ref sig .tc := ⟨.hbm, 414, rfl⟩
abbrev main_call2_cst : Ref sig .tc := ⟨.hbm, 415, rfl⟩
abbrev main_call2_v2 : Ref sig .tc := ⟨.hbm, 416, rfl⟩
abbrev main_call2_v3 : Ref sig .tc := ⟨.hbm, 417, rfl⟩
abbrev main_call2_cst_0 : Ref sig .tc := ⟨.hbm, 418, rfl⟩
abbrev main_call2_v4 : Ref sig .tc := ⟨.hbm, 419, rfl⟩
abbrev main_call2_v5 : Ref sig .tc := ⟨.hbm, 420, rfl⟩
abbrev main_v348 : Ref sig .tc := ⟨.hbm, 421, rfl⟩
abbrev main_v349 : Ref sig .tc := ⟨.hbm, 422, rfl⟩
abbrev main_v350 : Ref sig .tc := ⟨.hbm, 423, rfl⟩
abbrev main_v351 : Ref sig .tc := ⟨.hbm, 424, rfl⟩
abbrev main_v352 : Ref sig .tc := ⟨.hbm, 425, rfl⟩
abbrev main_v353 : Ref sig .tc := ⟨.hbm, 426, rfl⟩
abbrev main_v354 : Ref sig .tc := ⟨.hbm, 427, rfl⟩
abbrev main_v355 : Ref sig .tc := ⟨.hbm, 428, rfl⟩
abbrev main_v356 : Ref sig .tc := ⟨.hbm, 429, rfl⟩

abbrev nD : Nat := 1
abbrev τ : Topo := Topo.v7x

variable {F : FTy → Type} [FloatOps F]
-- ==== Proof.FfnMath.lean ====
/-
  The mathematics of one feed-forward layer of the model, over the extended reals, with no program in sight: the row
  functions (root-mean-square norm, product with a matrix, the three-tap gate, the gated activation, the embedding gate),
  the layer as a function of the whole stream, and the two facts of algebra the kernel's form of it needs.
-/
module

public import Idealize.ShloMosaic.Lib.Pointwise

@[expose] public section

noncomputable section

namespace Cert.Ffn

open Idealize.ShloMosaic

/-- The half, as the kernel's literal. -/
abbrev half : EReal := Ideal.ofBits .f32 1056964608#32

theorem half_eq : half = ((1 / 2 : ℝ) : EReal) := by
  simp [half, Ideal.ofBits, Ideal.ieee, -EReal.coe_mul]; norm_num

/-- The logistic function in the kernel's form, through the hyperbolic tangent. -/
def sigm (x : EReal) : EReal := half + half * Ideal.tanh (half * x)

/-- A reciprocal of a nonzero real, over the extended reals. -/
private theorem div_one_coe {y : ℝ} (h : y ≠ 0) : Ideal.div 1 (y : EReal) = ((1 / y : ℝ) : EReal) := by
  rw [Ideal.div_coe h, one_mul]

/-- The two forms of the logistic function agree over the reals. -/
private theorem real_sigm (x : ℝ) : 1 / 2 + 1 / 2 * Real.tanh (1 / 2 * x) = 1 / (1 + Real.exp (-x)) := by
  have hp : 0 < Real.exp (1 / 2 * x) := Real.exp_pos _
  have e : Real.exp (-x) = Real.exp (-(1 / 2 * x)) * Real.exp (-(1 / 2 * x)) := by
    rw [← Real.exp_add]; congr 1; ring
  rw [Real.tanh_eq_sinh_div_cosh, Real.sinh_eq, Real.cosh_eq, e, Real.exp_neg]
  field_simp
  ring

/-- The kernel's logistic function is the quotient `1 / (1 + e^{-x})`, at every extended real. -/
theorem sigm_eq (x : EReal) : sigm x = Ideal.div 1 (1 + Ideal.exp (-x)) := by
  unfold sigm
  rw [half_eq]
  induction x using EReal.rec with
  | bot =>
    rw [EReal.coe_mul_bot_of_pos (by norm_num), Ideal.tanh_bot, EReal.neg_bot, Ideal.exp_top]
    rw [EReal.add_top_of_ne_bot (by decide)]
    have : Ideal.div 1 ⊤ = 0 := by simp [Ideal.div]
    rw [this, mul_neg, mul_one, ← EReal.coe_neg, ← EReal.coe_add]
    norm_num
  | top =>
    rw [EReal.coe_mul_top_of_pos (by norm_num), Ideal.tanh_top, EReal.neg_top, Ideal.exp_bot, add_zero]
    have : Ideal.div 1 1 = ((1 / 1 : ℝ) : EReal) := div_one_coe one_ne_zero
    rw [this]
    norm_cast
    norm_num
  | coe r =>
    have h : (1 + Real.exp (-r)) ≠ 0 := by positivity
    have e : (1 : EReal) + Ideal.exp (-(r : EReal)) = ((1 + Real.exp (-r) : ℝ) : EReal) := by
      rw [← EReal.coe_neg, Ideal.exp_coe]; norm_cast
    rw [e, div_one_coe h, ← real_sigm r, ← EReal.coe_mul, Ideal.tanh_coe, ← EReal.coe_mul, ← EReal.coe_add]

/-- A row divided by its root mean square (with the literal `1e-6` under the root), times the gain. -/
def rms (x g : Fin 1024 → EReal) (c : Fin 1024) : EReal :=
  x c * Ideal.rsqrt (Ideal.div (∑ k, x k * x k) (Ideal.ofBits .f32 1149239296#32) + Ideal.ofBits .f32 897988541#32) * g c

/-- A row times a matrix. -/
def rowMul {n m : ℕ} (x : Fin n → EReal) (W : Fin n → Fin m → EReal) (j : Fin m) : EReal := ∑ k, x k * W k j

/-- The three-tap gate: `a` two rows back, `b` one row back, `c` the row itself. -/
def gate (w : Fin 3 → Fin 2816 → EReal) (a b c : Fin 2816 → EReal) (j : Fin 2816) : EReal :=
  w 0 j * a j + w 1 j * b j + w 2 j * c j

/-- The gated activation `silu(gate) * up`. -/
def act (gt up : Fin 2816 → EReal) (j : Fin 2816) : EReal := gt j * sigm (gt j) * up j

/-- The row after the channel mixer: the residual plus the activation times the down projection. `a` and `b` are the gate
    products two rows and one row back. -/
def mixed (x g : Fin 1024 → EReal) (Wg Wu : Fin 1024 → Fin 2816 → EReal) (w : Fin 3 → Fin 2816 → EReal)
    (Wd : Fin 2816 → Fin 1024 → EReal) (a b : Fin 2816 → EReal) (c : Fin 1024) : EReal :=
  x c + rowMul (act (gate w a b (rowMul (rms x g) Wg)) (rowMul (rms x g) Wu)) Wd c

/-- The row after the per-layer embedding. -/
def embed (h1 g2 : Fin 1024 → EReal) (Wpg : Fin 1024 → Fin 1024 → EReal) (p : Fin 256 → EReal)
    (Wpp : Fin 256 → Fin 1024 → EReal) (c : Fin 1024) : EReal :=
  h1 c + rowMul p Wpp c * sigm (rowMul (rms h1 g2) Wpg c)

/-- The gate product of row `t` of a sequence. -/
def gateProd {T : ℕ} (h : Fin T → Fin 1024 → EReal) (g : Fin 1024 → EReal) (Wg : Fin 1024 → Fin 2816 → EReal) (t : Fin T) :
    Fin 2816 → EReal := rowMul (rms (h t) g) Wg

/-- A sequence's row `k` places back, zero before the first row. -/
def back {T : ℕ} (k : ℕ) (f : Fin T → Fin 2816 → EReal) (t : Fin T) (j : Fin 2816) : EReal :=
  if k ≤ t.val then f ⟨t.val - k, lt_of_le_of_lt (Nat.sub_le _ _) t.isLt⟩ j else 0

/-- THE LAYER: row `t` of the stream after the channel mixer and the per-layer embedding. -/
def layer {T : ℕ} (h : Fin T → Fin 1024 → EReal) (g : Fin 1024 → EReal) (Wg Wu : Fin 1024 → Fin 2816 → EReal)
    (w : Fin 3 → Fin 2816 → EReal) (Wd : Fin 2816 → Fin 1024 → EReal) (g2 : Fin 1024 → EReal)
    (Wpg : Fin 1024 → Fin 1024 → EReal) (p : Fin T → Fin 256 → EReal) (Wpp : Fin 256 → Fin 1024 → EReal)
    (t : Fin T) : Fin 1024 → EReal :=
  embed (mixed (h t) g Wg Wu w Wd (back 2 (gateProd h g Wg) t) (back 1 (gateProd h g Wg) t)) g2 Wpg (p t) Wpp

/-- A sum over the 2816 hidden columns as the sums over the kernel's six column chunks. -/
theorem sum_chunks (f : Fin 2816 → EReal) :
    ∑ j, f j = (∑ k : Fin 512, f ⟨k.val, by omega⟩) + (∑ k : Fin 512, f ⟨512 + k.val, by omega⟩)
      + (∑ k : Fin 512, f ⟨1024 + k.val, by omega⟩) + (∑ k : Fin 512, f ⟨1536 + k.val, by omega⟩)
      + (∑ k : Fin 512, f ⟨2048 + k.val, by omega⟩) + (∑ k : Fin 256, f ⟨2560 + k.val, by omega⟩) := by
  rw [Fin.sum_univ_add (a := 2560) (b := 256) f, Fin.sum_univ_add (a := 2048) (b := 512), Fin.sum_univ_add (a := 1536) (b := 512),
    Fin.sum_univ_add (a := 1024) (b := 512), Fin.sum_univ_add (a := 512) (b := 512)]
  rfl

end Cert.Ffn

end
-- ==== Proof.FfnBody.lean ====
/-
  What the feed-forward kernel's body leaves at one grid point, for the call of the last layer: the halo scratch as one
  function of its index, and the output block as the layer's row functions over it.
-/
module

public import proofs.«01_k».proof.Proof.Gen.KernelIdeal.Value
public import proofs.«01_k».proof.Proof.FfnMath
public import Idealize.ShloMosaic.Lib.Pipeline.ValueKit
public import Idealize.ShloMosaic.Lib.Pipeline.ReadBack

@[expose] public section

set_option maxRecDepth 16384

noncomputable section

namespace Cert.KernelIdeal.Body

open Idealize.ShloMosaic Idealize.ShloMosaic.TcCoe Idealize.ShloMosaic.Tactic Idealize.SL.Sem
open Cert.KernelIdeal Cert.KernelIdeal.Gen Cert.Ffn

/-- Row `r` of the gate product a point computes from its block of the stream. -/
def gp (x0 : Vec Ideal S1x512x1024 .f32) (x2 : Vec Ideal S1x1x1024 .f32) (x3 : Vec Ideal S1x1024x2816 .bf16) (r : Fin 512) :
    Fin 2816 → EReal :=
  rowMul (rms (fun k => x0 (ix3 0 r k)) (fun k => x2 (ix3 0 0 k))) (fun k j => x3 (ix3 0 k j))

/-- The scratch while the point reads it: eight halo rows, then the point's gate product. -/
def buf (halo : S520x2816.Idx → EReal) (x0 : Vec Ideal S1x512x1024 .f32) (x2 : Vec Ideal S1x1x1024 .f32)
    (x3 : Vec Ideal S1x1024x2816 .bf16) : S520x2816.Idx → EReal := fun y =>
  if h : (y 0).val < 8 then halo y else gp x0 x2 x3 ⟨(y 0).val - 8, by have := (y 0).isLt; change _ < 520 at this; omega⟩ (y 1)

/-- The six column chunks of the gate product, as the body stores them (last first), over earlier stores `L`. -/
abbrev pieces (L : List (View.Piece (Elt Ideal) S520x2816 .f32)) (x0 : Vec Ideal S1x512x1024 .f32) (x2 : Vec Ideal S1x1x1024 .f32) (x3 : Vec Ideal S1x1024x2816 .bf16) :
    List (View.Piece (Elt Ideal) S520x2816 .f32) :=
  ⟨Rect.unit ![8, 2560] ![512, 256] inb_S520x2816_S512x256_8_2560,
      k0_pay17 (k0_pay4 x0 x2) (View.ld x3 (Rect.unit ![0, 0, 2560] ![1, 1024, 256] inb_S1x1024x2816_S1x1024x256_0_0_2560))⟩ ::
  ⟨Rect.unit ![8, 2048] ![512, 512] inb_S520x2816_S512x512_8_2048,
      k0_pay15 (k0_pay4 x0 x2)
        (k0_pay14 (View.ld x3 (Rect.unit ![0, 0, 2048] ![1, 1024, 512] inb_S1x1024x2816_S1x1024x512_0_0_2048)))
        (constant S512x512 FTy.f32 0#32)⟩ ::
  ⟨Rect.unit ![8, 1536] ![512, 512] inb_S520x2816_S512x512_8_1536,
      k0_pay12 (k0_pay4 x0 x2) (View.ld x3 (Rect.unit ![0, 0, 1536] ![1, 1024, 512] inb_S1x1024x2816_S1x1024x512_0_0_1536))⟩ ::
  ⟨Rect.unit ![8, 1024] ![512, 512] inb_S520x2816_S512x512_8_1024,
      k0_pay10 (k0_pay4 x0 x2) (View.ld x3 (Rect.unit ![0, 0, 1024] ![1, 1024, 512] inb_S1x1024x2816_S1x1024x512_0_0_1024))⟩ ::
  ⟨Rect.unit ![8, 512] ![512, 512] inb_S520x2816_S512x512_8_512,
      k0_pay8 (k0_pay4 x0 x2)
        (k0_pay7 (View.ld x3 (Rect.unit ![0, 0, 512] ![1, 1024, 512] inb_S1x1024x2816_S1x1024x512_0_0_512)))
        (constant S512x512 FTy.f32 0#32)⟩ ::
  ⟨Rect.unit ![8, 0] ![512, 512] inb_S520x2816_S512x512_8_0,
      k0_pay5 x0 x2 (View.ld x3 (Rect.unit ![0, 0, 0] ![1, 1024, 512] inb_S1x1024x2816_S1x1024x512_0_0_0))⟩ :: L

/-- Each chunk stored is a block of the scratch function. -/
theorem pieces_of (halo : S520x2816.Idx → EReal) (x0 : Vec Ideal S1x512x1024 .f32) (x2 : Vec Ideal S1x1x1024 .f32)
    (x3 : Vec Ideal S1x1024x2816 .bf16) : View.PiecesOf (buf halo x0 x2 x3) (pieces [] x0 x2 x3) := by
  have key : ∀ (o n : ℕ) (ho : o + n ≤ 2816) (inb : ∀ a, (![8, o] : Fin 2 → ℕ) a + (![512, n] : Fin 2 → ℕ) a ≤ S520x2816.size a)
      (r : Fin 512) (c : Fin n),
      buf halo x0 x2 x3 ((Rect.unit (s := S520x2816) ![8, o] ![512, n] inb).emb (ix2 r c)) = gp x0 x2 x3 r ⟨o + c.val, by omega⟩ := by
    intro o n ho inb r c
    have e0 : ((Rect.unit (s := S520x2816) ![8, o] ![512, n] inb).emb (ix2 r c) 0).val = 8 + 1 * r.val := rfl
    have e1 : ((Rect.unit (s := S520x2816) ![8, o] ![512, n] inb).emb (ix2 r c) 1).val = o + 1 * c.val := rfl
    unfold buf
    rw [dif_neg (by rw [e0]; omega)]
    refine congrArg₂ (gp x0 x2 x3) (Fin.ext ?_) (Fin.ext ?_)
    · show 8 + 1 * r.val - 8 = r.val; omega
    · show o + 1 * c.val = o + c.val; omega
  refine ⟨?_, ?_, ?_, ?_, ?_, ?_, trivial⟩ <;> intro x <;> rw [eq_ix2 x] <;> refine Eq.trans ?_ (key _ _ (by decide) (by decide) _ _).symm
  all_goals
    unfold gp rowMul rms
    pointwise [k0_pay4, k0_pay3, k0_pay17, k0_pay15, k0_pay14, k0_pay12, k0_pay10, k0_pay8, k0_pay7, k0_pay5,
      dot_S512x1024_S1024x256_S512x256_1_0_0_1_n_n, dot_S512x1024_S1024x512_S512x512_1_0_0_1_n_n]

/-- The chunks cover every row after the halo. -/
theorem covered (L : List (View.Piece (Elt Ideal) S520x2816 .f32)) (x0 : Vec Ideal S1x512x1024 .f32) (x2 : Vec Ideal S1x1x1024 .f32)
    (x3 : Vec Ideal S1x1024x2816 .bf16) (y : S520x2816.Idx) (hy : 8 ≤ (y 0).val) : ∃ p ∈ pieces L x0 x2 x3, y ∈ p.1.set := by
  have h0 : (y 0).val < 520 := (y 0).isLt
  have h1 : (y 1).val < 2816 := (y 1).isLt
  have key : ∀ (o n : ℕ) (inb : ∀ a, (![8, o] : Fin 2 → ℕ) a + (![512, n] : Fin 2 → ℕ) a ≤ S520x2816.size a),
      o ≤ (y 1).val → (y 1).val < o + n → y ∈ (Rect.unit (s := S520x2816) ![8, o] ![512, n] inb).set := by
    intro o n inb hl hu
    rw [Rect.mem_set_unit]
    intro a
    fin_cases a
    · exact ⟨hy, h0⟩
    · exact ⟨hl, hu⟩
  by_cases c5 : 2560 ≤ (y 1).val
  · exact ⟨_, .head _, key _ _ (by decide) c5 h1⟩
  by_cases c4 : 2048 ≤ (y 1).val
  · exact ⟨_, .tail _ (.head _), key _ _ (by decide) c4 (by omega)⟩
  by_cases c3 : 1536 ≤ (y 1).val
  · exact ⟨_, .tail _ (.tail _ (.head _)), key _ _ (by decide) c3 (by omega)⟩
  by_cases c2 : 1024 ≤ (y 1).val
  · exact ⟨_, .tail _ (.tail _ (.tail _ (.head _))), key _ _ (by decide) c2 (by omega)⟩
  by_cases c1 : 512 ≤ (y 1).val
  · exact ⟨_, .tail _ (.tail _ (.tail _ (.tail _ (.head _)))), key _ _ (by decide) c1 (by omega)⟩
  · exact ⟨_, .tail _ (.tail _ (.tail _ (.tail _ (.tail _ (.head _))))), key _ _ (by decide) (Nat.zero_le _) (by omega)⟩

/-- No chunk reaches the halo rows. -/
theorem not_covered (x0 : Vec Ideal S1x512x1024 .f32) (x2 : Vec Ideal S1x1x1024 .f32) (x3 : Vec Ideal S1x1024x2816 .bf16)
    (y : S520x2816.Idx) (hy : (y 0).val < 8) : ∀ p ∈ pieces [] x0 x2 x3, y ∉ p.1.set := by
  have key : ∀ (o n : ℕ) (inb : ∀ a, (![8, o] : Fin 2 → ℕ) a + (![512, n] : Fin 2 → ℕ) a ≤ S520x2816.size a),
      y ∉ (Rect.unit (s := S520x2816) ![8, o] ![512, n] inb).set := by
    intro o n inb hm
    have := (Rect.mem_set_unit.mp hm 0).1
    change 8 ≤ (y 0).val at this
    omega
  intro p hp
  simp only [pieces, List.mem_cons, List.not_mem_nil, or_false] at hp
  rcases hp with rfl | rfl | rfl | rfl | rfl | rfl <;> exact key _ _ (by decide)

/-- The scratch after the chunks, over what the point before left: the halo rows as they were, then the gate product. -/
theorem read_pieces {σ : RefSig} {S : Memref σ .tc .vmem S520x2816 .f32} (hS : S.IsWhole) (xs0 : Vec Ideal S520x2816 .f32)
    (x0 : Vec Ideal S1x512x1024 .f32) (x2 : Vec Ideal S1x1x1024 .f32) (x3 : Vec Ideal S1x1024x2816 .bf16) :
    View.read (Elt Ideal) S.view (S.view.writes (Elt Ideal) (hS.unread xs0) (pieces [] x0 x2 x3)) = buf xs0 x0 x2 x3 := by
  funext y
  by_cases hy : (y 0).val < 8
  · rw [View.read_writes_apply_of_forall_not_mem _ _ _ _ (not_covered x0 x2 x3 y hy), hS.read_unread]
    unfold buf
    rw [dif_pos hy]
  · have hc := covered [] x0 x2 x3 y (by omega)
    rw [View.read_writes_apply_eq_canon _ _ _ _ hc]
    exact View.canon_apply_of_pieces _ _ (pieces_of xs0 x0 x2 x3).mem y hc

/-- A load of rows after the halo reads the gate product alone, whatever the halo holds. -/
theorem readCov_pieces (halo : S520x2816.Idx → EReal) (x0 : Vec Ideal S1x512x1024 .f32) (x2 : Vec Ideal S1x1x1024 .f32)
    (x3 : Vec Ideal S1x1024x2816 .bf16) {σ : RefSig} (v : View σ .tc .vmem S520x2816 .f32) (o n : Fin 2 → ℕ) (inb) (ho : 8 ≤ o 0) :
    v.readCov (Val := Elt Ideal) (pieces [] x0 x2 x3) (Rect.unit (s := S520x2816) o n inb).toLoadRect
      = View.ld (Val := Elt Ideal) (e' := .f32) (buf halo x0 x2 x3) (Rect.unit (s := S520x2816) o n inb) := by
  rw [View.readCov_eq_canon']
  funext j
  refine View.canon_apply_of_pieces _ _ (pieces_of halo x0 x2 x3).mem _ (covered [] x0 x2 x3 _ ?_)
  exact le_trans ho (Nat.le_add_right _ _)

/-- The zeros a batch's first point stores in the halo rows. -/
abbrev zeroPiece : View.Piece (Elt Ideal) S520x2816 .f32 := ⟨Rect.unit ![0, 0] ![8, 2816] inb_S520x2816_S8x2816_0_0, k0_pay2 (F := Ideal)⟩

/-- The scratch after a batch's first point's stores: zero halo rows, then the gate product. -/
theorem canon_pieces (x0 : Vec Ideal S1x512x1024 .f32) (x2 : Vec Ideal S1x1x1024 .f32) (x3 : Vec Ideal S1x1024x2816 .bf16) :
    View.canon (pieces [zeroPiece] x0 x2 x3) = buf (fun _ => 0) x0 x2 x3 := by
  have hz : ∀ p ∈ [zeroPiece], ∀ x : p.1.shape.Idx, p.2 x = buf (fun _ => 0) x0 x2 x3 (p.1.emb x) := by
    intro p hp
    obtain rfl := List.mem_singleton.mp hp
    intro x
    change (⟨2, ![8, 2816]⟩ : Shape).Idx at x
    have hx : (x 0).val < 8 := (x 0).isLt
    unfold buf
    rw [dif_pos (by show 0 + 1 * (x 0).val < 8; omega)]
    show k0_pay2 (F := Ideal) x = 0
    rw [eq_ix2 x]
    pointwise [k0_pay2]
  have hall : ∀ p ∈ pieces [] x0 x2 x3 ++ [zeroPiece], ∀ x : p.1.shape.Idx, p.2 x = buf (fun _ => 0) x0 x2 x3 (p.1.emb x) := by
    intro p hp
    rcases List.mem_append.mp hp with hp | hp
    · exact (pieces_of (fun _ => 0) x0 x2 x3).mem p hp
    · exact hz p hp
  funext y
  refine View.canon_apply_of_pieces _ (pieces [] x0 x2 x3 ++ [zeroPiece]) hall y ?_
  by_cases hy : 8 ≤ (y 0).val
  · exact covered [zeroPiece] x0 x2 x3 y hy
  · refine ⟨zeroPiece, List.mem_append_right _ (List.mem_singleton.mpr rfl), ?_⟩
    show y ∈ (Rect.unit (s := S520x2816) ![0, 0] ![8, 2816] inb_S520x2816_S8x2816_0_0).set
    rw [Rect.mem_set_unit]
    intro a
    fin_cases a
    · exact ⟨Nat.zero_le _, by show (y 0).val < 0 + 8; omega⟩
    · exact ⟨Nat.zero_le _, by show (y 1).val < 0 + 2816; have : (y 1).val < 2816 := (y 1).isLt; omega⟩

/-- Every load of a batch's first point reads that scratch. -/
theorem readCov_pieces_zero (x0 : Vec Ideal S1x512x1024 .f32) (x2 : Vec Ideal S1x1x1024 .f32) (x3 : Vec Ideal S1x1024x2816 .bf16)
    {σ : RefSig} (v : View σ .tc .vmem S520x2816 .f32) (r : Rect S520x2816) :
    v.readCov (Val := Elt Ideal) (pieces [zeroPiece] x0 x2 x3) r.toLoadRect
      = View.ld (Val := Elt Ideal) (e' := .f32) (buf (fun _ => 0) x0 x2 x3) r := by
  rw [View.readCov_eq_canon', canon_pieces]

end Cert.KernelIdeal.Body

end
-- ==== Proof.FfnOut.lean ====
/-
  The output block of one grid point of the feed-forward kernel, for the call of the last layer: read element by element,
  it is the layer's row functions over the point's block of the stream and the scratch.
-/
module

public import proofs.«01_k».proof.Proof.FfnBody

@[expose] public section

set_option maxRecDepth 16384

noncomputable section

namespace Cert.KernelIdeal.Body

open Idealize.ShloMosaic Idealize.ShloMosaic.TcCoe Idealize.ShloMosaic.Tactic Idealize.SL.Sem
open Cert.KernelIdeal Cert.KernelIdeal.Gen Cert.Ffn

/-- The row block after the channel mixer, as the body composes it from its windows and the scratch `B`. -/
abbrev mixPay (B : Vec Ideal S520x2816 .f32) (x0 : Vec Ideal S1x512x1024 .f32) (x2 : Vec Ideal S1x1x1024 .f32)
    (x4 : Vec Ideal S1x1024x2816 .bf16) (x5 : Vec Ideal S1x3x2816 .f32) (x6 : Vec Ideal S1x2816x1024 .bf16) :
    FVec Ideal S512x1024 .f32 :=
  (k0_pay29
    (k0_pay18 (k0_pay4 x0 x2)
      (View.ld x4 (Rect.unit ![0, 0, 2560] ![1, 1024, 256] inb_S1x1024x2816_S1x1024x256_0_0_2560)))
    (k0_pay28
      (k0_pay16 (k0_pay4 x0 x2)
        (View.ld x4 (Rect.unit ![0, 0, 2048] ![1, 1024, 512] inb_S1x1024x2816_S1x1024x512_0_0_2048)))
      (k0_pay26
        (k0_pay11 (k0_pay4 x0 x2)
          (View.ld x4 (Rect.unit ![0, 0, 1024] ![1, 1024, 512] inb_S1x1024x2816_S1x1024x512_0_0_1024)))
        (k0_pay23
          (k0_pay9 (k0_pay4 x0 x2)
            (View.ld x4 (Rect.unit ![0, 0, 512] ![1, 1024, 512] inb_S1x1024x2816_S1x1024x512_0_0_512)))
          (k0_pay21 (k0_pay3 x0)
            (k0_pay6 x0 x2 (View.ld x4 (Rect.unit ![0, 0, 0] ![1, 1024, 512] inb_S1x1024x2816_S1x1024x512_0_0_0)))
            (k0_pay19 (View.ld x5 (Rect.unit ![0, 0, 0] ![1, 1, 512] inb_S1x3x2816_S1x1x512_0_0_0))
              (View.ld B (Rect.unit ![6, 0] ![512, 512] inb_S520x2816_S512x512_6_0))
              (View.ld x5 (Rect.unit ![0, 1, 0] ![1, 1, 512] inb_S1x3x2816_S1x1x512_0_1_0))
              (View.ld B (Rect.unit ![7, 0] ![512, 512] inb_S520x2816_S512x512_7_0)))
            (k0_pay20 (View.ld x5 (Rect.unit ![0, 2, 0] ![1, 1, 512] inb_S1x3x2816_S1x1x512_0_2_0)))
            (View.ld B (Rect.unit ![8, 0] ![512, 512] inb_S520x2816_S512x512_8_0))
            (View.ld x6 (Rect.unit ![0, 0, 0] ![1, 512, 1024] inb_S1x2816x1024_S1x512x1024_0_0_0)))
          (k0_pay22 (View.ld x5 (Rect.unit ![0, 0, 512] ![1, 1, 512] inb_S1x3x2816_S1x1x512_0_0_512))
            (View.ld B (Rect.unit ![6, 512] ![512, 512] inb_S520x2816_S512x512_6_512))
            (View.ld x5 (Rect.unit ![0, 1, 512] ![1, 1, 512] inb_S1x3x2816_S1x1x512_0_1_512))
            (View.ld B (Rect.unit ![7, 512] ![512, 512] inb_S520x2816_S512x512_7_512))
            (View.ld x5 (Rect.unit ![0, 2, 512] ![1, 1, 512] inb_S1x3x2816_S1x1x512_0_2_512))
            (View.ld B (Rect.unit ![8, 512] ![512, 512] inb_S520x2816_S512x512_8_512)))
          (FloatOps.ofBits .f32 1056964608#32)
          (View.ld x6 (Rect.unit ![0, 512, 0] ![1, 512, 1024] inb_S1x2816x1024_S1x512x1024_0_512_0)))
        (k0_pay24 (View.ld x5 (Rect.unit ![0, 0, 1024] ![1, 1, 512] inb_S1x3x2816_S1x1x512_0_0_1024))
          (View.ld B (Rect.unit ![6, 1024] ![512, 512] inb_S520x2816_S512x512_6_1024))
          (View.ld x5 (Rect.unit ![0, 1, 1024] ![1, 1, 512] inb_S1x3x2816_S1x1x512_0_1_1024))
          (View.ld B (Rect.unit ![7, 1024] ![512, 512] inb_S520x2816_S512x512_7_1024))
          (View.ld x5 (Rect.unit ![0, 2, 1024] ![1, 1, 512] inb_S1x3x2816_S1x1x512_0_2_1024))
          (View.ld B (Rect.unit ![8, 1024] ![512, 512] inb_S520x2816_S512x512_8_1024)))
        (k0_pay25 (View.ld x5 (Rect.unit ![0, 0, 1024] ![1, 1, 512] inb_S1x3x2816_S1x1x512_0_0_1024))
          (View.ld B (Rect.unit ![6, 1024] ![512, 512] inb_S520x2816_S512x512_6_1024))
          (View.ld x5 (Rect.unit ![0, 1, 1024] ![1, 1, 512] inb_S1x3x2816_S1x1x512_0_1_1024))
          (View.ld B (Rect.unit ![7, 1024] ![512, 512] inb_S520x2816_S512x512_7_1024))
          (View.ld x5 (Rect.unit ![0, 2, 1024] ![1, 1, 512] inb_S1x3x2816_S1x1x512_0_2_1024))
          (View.ld B (Rect.unit ![8, 1024] ![512, 512] inb_S520x2816_S512x512_8_1024)))
        (FloatOps.ofBits .f32 1056964608#32)
        (View.ld x6 (Rect.unit ![0, 1024, 0] ![1, 512, 1024] inb_S1x2816x1024_S1x512x1024_0_1024_0)))
      (k0_pay27
        (k0_pay13 (k0_pay4 x0 x2)
          (View.ld x4 (Rect.unit ![0, 0, 1536] ![1, 1024, 512] inb_S1x1024x2816_S1x1024x512_0_0_1536)))
        (View.ld x5 (Rect.unit ![0, 0, 1536] ![1, 1, 512] inb_S1x3x2816_S1x1x512_0_0_1536))
        (View.ld B (Rect.unit ![6, 1536] ![512, 512] inb_S520x2816_S512x512_6_1536))
        (View.ld x5 (Rect.unit ![0, 1, 1536] ![1, 1, 512] inb_S1x3x2816_S1x1x512_0_1_1536))
        (View.ld B (Rect.unit ![7, 1536] ![512, 512] inb_S520x2816_S512x512_7_1536))
        (View.ld x5 (Rect.unit ![0, 2, 1536] ![1, 1, 512] inb_S1x3x2816_S1x1x512_0_2_1536))
        (View.ld B (Rect.unit ![8, 1536] ![512, 512] inb_S520x2816_S512x512_8_1536)))
      (View.ld x6 (Rect.unit ![0, 1536, 0] ![1, 512, 1024] inb_S1x2816x1024_S1x512x1024_0_1536_0))
      (View.ld x5 (Rect.unit ![0, 0, 2048] ![1, 1, 512] inb_S1x3x2816_S1x1x512_0_0_2048))
      (View.ld B (Rect.unit ![6, 2048] ![512, 512] inb_S520x2816_S512x512_6_2048))
      (View.ld x5 (Rect.unit ![0, 1, 2048] ![1, 1, 512] inb_S1x3x2816_S1x1x512_0_1_2048))
      (View.ld B (Rect.unit ![7, 2048] ![512, 512] inb_S520x2816_S512x512_7_2048))
      (View.ld x5 (Rect.unit ![0, 2, 2048] ![1, 1, 512] inb_S1x3x2816_S1x1x512_0_2_2048))
      (View.ld B (Rect.unit ![8, 2048] ![512, 512] inb_S520x2816_S512x512_8_2048))
      (View.ld x6 (Rect.unit ![0, 2048, 0] ![1, 512, 1024] inb_S1x2816x1024_S1x512x1024_0_2048_0)))
    (View.ld x5 (Rect.unit ![0, 0, 2560] ![1, 1, 256] inb_S1x3x2816_S1x1x256_0_0_2560))
    (View.ld B (Rect.unit ![6, 2560] ![512, 256] inb_S520x2816_S512x256_6_2560))
    (View.ld x5 (Rect.unit ![0, 1, 2560] ![1, 1, 256] inb_S1x3x2816_S1x1x256_0_1_2560))
    (View.ld B (Rect.unit ![7, 2560] ![512, 256] inb_S520x2816_S512x256_7_2560))
    (View.ld x5 (Rect.unit ![0, 2, 2560] ![1, 1, 256] inb_S1x3x2816_S1x1x256_0_2_2560))
    (View.ld B (Rect.unit ![8, 2560] ![512, 256] inb_S520x2816_S512x256_8_2560))
    (View.ld x6 (Rect.unit ![0, 2560, 0] ![1, 256, 1024] inb_S1x2816x1024_S1x256x1024_0_2560_0)))

/-- That block at a row and column: the residual plus the gated activation times the down projection. -/
theorem mixPay_apply (B : Vec Ideal S520x2816 .f32) (x0 : Vec Ideal S1x512x1024 .f32) (x2 : Vec Ideal S1x1x1024 .f32)
    (x4 : Vec Ideal S1x1024x2816 .bf16) (x5 : Vec Ideal S1x3x2816 .f32) (x6 : Vec Ideal S1x2816x1024 .bf16)
    (r : Fin 512) (c : Fin 1024) :
    mixPay B x0 x2 x4 x5 x6 (ix2 r c)
      = x0 (ix3 0 r c) + rowMul (act (gate (fun a j => x5 (ix3 0 a j)) (fun j => B (ix2 ⟨6 + r.val, by omega⟩ j))
          (fun j => B (ix2 ⟨7 + r.val, by omega⟩ j)) (fun j => B (ix2 ⟨8 + r.val, by omega⟩ j)))
          (rowMul (rms (fun k => x0 (ix3 0 r k)) (fun k => x2 (ix3 0 0 k))) (fun k j => x4 (ix3 0 k j))))
          (fun j c => x6 (ix3 0 j c)) c := by
  rw [rowMul, sum_chunks]
  simp only [← add_assoc]
  unfold act gate rowMul rms sigm half
  pointwise [k0_pay3, k0_pay4, k0_pay6, k0_pay9, k0_pay11, k0_pay13, k0_pay16, k0_pay18, k0_pay19, k0_pay20, k0_pay21, k0_pay22, k0_pay23, k0_pay24, k0_pay25, k0_pay26, k0_pay27, k0_pay28, k0_pay29,
    dot_S512x1024_S1024x256_S512x256_1_0_0_1_n_n, dot_S512x1024_S1024x512_S512x512_1_0_0_1_n_n,
    dot_S512x512_S512x1024_S512x1024_1_0_0_1_n_n, dot_S512x256_S256x1024_S512x1024_1_0_0_1_n_n]

/-- The gated activation's row block handed on: the per-layer embedding added. -/
theorem embedPay_apply (v : FVec Ideal S512x1024 .f32) (x7 : Vec Ideal S1x1x1024 .f32) (x8 : Vec Ideal S1x1024x1024 .bf16)
    (x1 : Vec Ideal S1x1x512x256 .f32) (x9 : Vec Ideal S1x256x1024 .bf16) (r : Fin 512) (c : Fin 1024) :
    k0_pay31 v x7 x8 x1 x9 (ix2 r c)
      = embed (fun k => v (ix2 r k)) (fun k => x7 (ix3 0 0 k)) (fun k j => x8 (ix3 0 k j)) (fun k => x1 (ix4 0 0 r k))
          (fun k j => x9 (ix3 0 k j)) c := by
  unfold embed rowMul rms sigm half
  pointwise [k0_pay31, dot_S512x1024_S1024x1024_S512x1024_1_0_0_1_n_n, dot_S512x256_S256x1024_S512x1024_1_0_0_1_n_n]

/-- The block stored: the norm that follows the layer. -/
theorem normPay_apply (v : FVec Ideal S512x1024 .f32) (x10 : Vec Ideal S1x1x1024 .f32) (r : Fin 512) (c : Fin 1024) :
    k0_pay1 v (k0_pay32 x10) (ix3 0 r c) = rms (fun k => v (ix2 r k)) (fun k => x10 (ix3 0 0 k)) c := by
  unfold rms
  pointwise [k0_pay1, k0_pay32]

/-- A row of the stream after the layer, from the point's windows and the two gate products before it. -/
def rowOut (x0 : Vec Ideal S1x512x1024 .f32) (x1 : Vec Ideal S1x1x512x256 .f32) (x2 : Vec Ideal S1x1x1024 .f32)
    (x3 x4 : Vec Ideal S1x1024x2816 .bf16) (x5 : Vec Ideal S1x3x2816 .f32) (x6 : Vec Ideal S1x2816x1024 .bf16)
    (x7 : Vec Ideal S1x1x1024 .f32) (x8 : Vec Ideal S1x1024x1024 .bf16) (x9 : Vec Ideal S1x256x1024 .bf16)
    (halo : Vec Ideal S520x2816 .f32) (r : Fin 512) : Fin 1024 → EReal :=
  embed (mixed (fun k => x0 (ix3 0 r k)) (fun k => x2 (ix3 0 0 k)) (fun k j => x3 (ix3 0 k j)) (fun k j => x4 (ix3 0 k j))
      (fun a j => x5 (ix3 0 a j)) (fun j c => x6 (ix3 0 j c)) (fun j => buf halo x0 x2 x3 (ix2 ⟨6 + r.val, by omega⟩ j))
      (fun j => buf halo x0 x2 x3 (ix2 ⟨7 + r.val, by omega⟩ j)))
    (fun k => x7 (ix3 0 0 k)) (fun k j => x8 (ix3 0 k j)) (fun k => x1 (ix4 0 0 r k)) (fun k j => x9 (ix3 0 k j))

/-- The scratch at a row after the halo is the gate product of that row of the block. -/
theorem buf_row (halo : Vec Ideal S520x2816 .f32) (x0 : Vec Ideal S1x512x1024 .f32) (x2 : Vec Ideal S1x1x1024 .f32)
    (x3 : Vec Ideal S1x1024x2816 .bf16) (r : Fin 512) (j : Fin 2816) :
    buf halo x0 x2 x3 (ix2 ⟨8 + r.val, by omega⟩ j) = gp x0 x2 x3 r j := by
  unfold buf
  rw [dif_neg (by show ¬8 + r.val < 8; omega)]
  exact congrArg₂ (gp x0 x2 x3) (Fin.ext (show 8 + r.val - 8 = r.val by omega)) rfl

/-- A halo row of the scratch. -/
theorem buf_halo (halo : Vec Ideal S520x2816 .f32) (x0 : Vec Ideal S1x512x1024 .f32) (x2 : Vec Ideal S1x1x1024 .f32)
    (x3 : Vec Ideal S1x1024x2816 .bf16) (r : Fin 520) (hr : r.val < 8) (j : Fin 2816) :
    buf halo x0 x2 x3 (ix2 r j) = halo (ix2 r j) := by
  exact dif_pos (show (ix2 r j 0 : Fin 520).val < 8 from hr)

/-- The row block the body composes, over the scratch it reads, is `rowOut`. -/
theorem stream_apply (halo : Vec Ideal S520x2816 .f32) (x0 : Vec Ideal S1x512x1024 .f32) (x1 : Vec Ideal S1x1x512x256 .f32)
    (x2 : Vec Ideal S1x1x1024 .f32) (x3 x4 : Vec Ideal S1x1024x2816 .bf16) (x5 : Vec Ideal S1x3x2816 .f32)
    (x6 : Vec Ideal S1x2816x1024 .bf16) (x7 : Vec Ideal S1x1x1024 .f32) (x8 : Vec Ideal S1x1024x1024 .bf16)
    (x9 : Vec Ideal S1x256x1024 .bf16) (r : Fin 512) (c : Fin 1024) :
    k0_pay31 (mixPay (buf halo x0 x2 x3) x0 x2 x4 x5 x6) x7 x8 x1 x9 (ix2 r c)
      = rowOut x0 x1 x2 x3 x4 x5 x6 x7 x8 x9 halo r c := by
  rw [embedPay_apply]
  unfold rowOut mixed
  refine congrArg (fun h => embed h _ _ _ _ c) (funext fun k => ?_)
  rw [mixPay_apply]
  simp only [buf_row]
  rfl

/-- The newest store of the scratch is the copy of its last eight rows to its first eight. -/
theorem halo_top (halo : Vec Ideal S520x2816 .f32) (L : List (View.Piece (Elt Ideal) S520x2816 .f32)) (x0 : Vec Ideal S1x512x1024 .f32)
    (x2 : Vec Ideal S1x1x1024 .f32) (x3 : Vec Ideal S1x1024x2816 .bf16) (r : Fin 520) (hr : r.val < 8) (j : Fin 2816) :
    View.canon (⟨Rect.unit ![0, 0] ![8, 2816] inb_S520x2816_S8x2816_0_0,
        k0_pay30 (F := Ideal) (View.ld (Val := Elt Ideal) (e' := .f32) (buf halo x0 x2 x3) (Rect.unit ![512, 0] ![8, 2816] inb_S520x2816_S8x2816_512_0))⟩ :: L) (ix2 r j)
      = gp x0 x2 x3 ⟨504 + r.val, by omega⟩ j := by
  have e : (ix2 r j : S520x2816.Idx)
      = (Rect.unit (s := S520x2816) ![0, 0] ![8, 2816] inb_S520x2816_S8x2816_0_0).emb (ix2 ⟨r.val, hr⟩ j) := by
    rw [eq_ix2 ((Rect.unit (s := S520x2816) ![0, 0] ![8, 2816] inb_S520x2816_S8x2816_0_0).emb (ix2 ⟨r.val, hr⟩ j))]
    exact congrArg₂ ix2 (Fin.ext (show r.val = 0 + 1 * r.val by omega)) (Fin.ext (show j.val = 0 + 1 * j.val by omega))
  rw [e, View.canon_cons_emb]
  refine Eq.trans (b := buf halo x0 x2 x3 (ix2 ⟨8 + (504 + r.val), by omega⟩ j)) ?_ (buf_row halo x0 x2 x3 ⟨504 + r.val, by omega⟩ j)
  pointwise [k0_pay30]
  exact congrArg (fun i => buf halo x0 x2 x3 (ix2 i j)) (Fin.ext (show 512 + r.val = 8 + (504 + r.val) by omega))

/-- The output block a first point of a batch leaves. -/
theorem out_A (c : Dev nD) (i : grid0.Coords) (arg2 : Memref sig .tc .vmem S1x512x1024 .f32) (harg2 : arg2.IsWhole) (arg3 : Memref sig .tc .vmem S1x1x512x256 .f32) (harg3 : arg3.IsWhole) (arg4 : Memref sig .tc .vmem S1x1x1024 .f32) (harg4 : arg4.IsWhole) (arg5 : Memref sig .tc .vmem S1x1024x2816 .bf16) (harg5 : arg5.IsWhole) (arg6 : Memref sig .tc .vmem S1x1024x2816 .bf16) (harg6 : arg6.IsWhole) (arg7 : Memref sig .tc .vmem S1x3x2816 .f32) (harg7 : arg7.IsWhole) (arg8 : Memref sig .tc .vmem S1x2816x1024 .bf16) (harg8 : arg8.IsWhole) (arg9 : Memref sig .tc .vmem S1x1x1024 .f32) (harg9 : arg9.IsWhole) (arg10 : Memref sig .tc .vmem S1x1024x1024 .bf16) (harg10 : arg10.IsWhole) (arg11 : Memref sig .tc .vmem S1x256x1024 .bf16) (harg11 : arg11.IsWhole) (arg12 : Memref sig .tc .vmem S1x1x1024 .f32) (harg12 : arg12.IsWhole) (arg13 : Memref sig .tc .vmem S1x512x1024 .f32) (harg13 : arg13.IsWhole) (arg14 : Memref sig .tc .vmem S520x2816 .f32) (harg14 : arg14.IsWhole) (hc0 : cond0_0 i)
    (x0 : Vec Ideal S1x512x1024 .f32) (x1 : Vec Ideal S1x1x512x256 .f32) (x2 : Vec Ideal S1x1x1024 .f32) (x3 : Vec Ideal S1x1024x2816 .bf16) (x4 : Vec Ideal S1x1024x2816 .bf16) (x5 : Vec Ideal S1x3x2816 .f32) (x6 : Vec Ideal S1x2816x1024 .bf16) (x7 : Vec Ideal S1x1x1024 .f32) (x8 : Vec Ideal S1x1024x1024 .bf16) (x9 : Vec Ideal S1x256x1024 .bf16) (x10 : Vec Ideal S1x1x1024 .f32) (r : Fin 512) (q : Fin 1024) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 (ix3 0 r q)
      = rms (rowOut x0 x1 x2 x3 x4 x5 x6 x7 x8 x9 (fun _ => 0) r) (fun k => x10 (ix3 0 0 k)) q := by
  frame_out
  simp only [readCov_pieces_zero]
  rw [normPay_apply]
  exact congrArg (fun h => rms h _ q) (funext fun k => stream_apply _ x0 x1 x2 x3 x4 x5 x6 x7 x8 x9 r k)

/-- The halo rows a first point of a batch hands on: the last eight rows of its gate product. -/
theorem halo_A (c : Dev nD) (i : grid0.Coords) (arg2 : Memref sig .tc .vmem S1x512x1024 .f32) (harg2 : arg2.IsWhole) (arg3 : Memref sig .tc .vmem S1x1x512x256 .f32) (harg3 : arg3.IsWhole) (arg4 : Memref sig .tc .vmem S1x1x1024 .f32) (harg4 : arg4.IsWhole) (arg5 : Memref sig .tc .vmem S1x1024x2816 .bf16) (harg5 : arg5.IsWhole) (arg6 : Memref sig .tc .vmem S1x1024x2816 .bf16) (harg6 : arg6.IsWhole) (arg7 : Memref sig .tc .vmem S1x3x2816 .f32) (harg7 : arg7.IsWhole) (arg8 : Memref sig .tc .vmem S1x2816x1024 .bf16) (harg8 : arg8.IsWhole) (arg9 : Memref sig .tc .vmem S1x1x1024 .f32) (harg9 : arg9.IsWhole) (arg10 : Memref sig .tc .vmem S1x1024x1024 .bf16) (harg10 : arg10.IsWhole) (arg11 : Memref sig .tc .vmem S1x256x1024 .bf16) (harg11 : arg11.IsWhole) (arg12 : Memref sig .tc .vmem S1x1x1024 .f32) (harg12 : arg12.IsWhole) (arg13 : Memref sig .tc .vmem S1x512x1024 .f32) (harg13 : arg13.IsWhole) (arg14 : Memref sig .tc .vmem S520x2816 .f32) (harg14 : arg14.IsWhole) (hc0 : cond0_0 i)
    (x0 : Vec Ideal S1x512x1024 .f32) (x1 : Vec Ideal S1x1x512x256 .f32) (x2 : Vec Ideal S1x1x1024 .f32) (x3 : Vec Ideal S1x1024x2816 .bf16) (x4 : Vec Ideal S1x1024x2816 .bf16) (x5 : Vec Ideal S1x3x2816 .f32) (x6 : Vec Ideal S1x2816x1024 .bf16) (x7 : Vec Ideal S1x1x1024 .f32) (x8 : Vec Ideal S1x1024x1024 .bf16) (x9 : Vec Ideal S1x256x1024 .bf16) (x10 : Vec Ideal S1x1x1024 .f32) (r : Fin 520) (hr : r.val < 8) (j : Fin 2816) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 (ix2 r j) = gp x0 x2 x3 ⟨504 + r.val, by omega⟩ j := by
  frame_out
  simp only [readCov_pieces_zero]
  exact halo_top _ _ x0 x2 x3 r hr j

/-- The output block a later point of a batch leaves. -/
theorem out_B (c : Dev nD) (i : grid0.Coords) (arg2 : Memref sig .tc .vmem S1x512x1024 .f32) (harg2 : arg2.IsWhole) (arg3 : Memref sig .tc .vmem S1x1x512x256 .f32) (harg3 : arg3.IsWhole) (arg4 : Memref sig .tc .vmem S1x1x1024 .f32) (harg4 : arg4.IsWhole) (arg5 : Memref sig .tc .vmem S1x1024x2816 .bf16) (harg5 : arg5.IsWhole) (arg6 : Memref sig .tc .vmem S1x1024x2816 .bf16) (harg6 : arg6.IsWhole) (arg7 : Memref sig .tc .vmem S1x3x2816 .f32) (harg7 : arg7.IsWhole) (arg8 : Memref sig .tc .vmem S1x2816x1024 .bf16) (harg8 : arg8.IsWhole) (arg9 : Memref sig .tc .vmem S1x1x1024 .f32) (harg9 : arg9.IsWhole) (arg10 : Memref sig .tc .vmem S1x1024x1024 .bf16) (harg10 : arg10.IsWhole) (arg11 : Memref sig .tc .vmem S1x256x1024 .bf16) (harg11 : arg11.IsWhole) (arg12 : Memref sig .tc .vmem S1x1x1024 .f32) (harg12 : arg12.IsWhole) (arg13 : Memref sig .tc .vmem S1x512x1024 .f32) (harg13 : arg13.IsWhole) (arg14 : Memref sig .tc .vmem S520x2816 .f32) (harg14 : arg14.IsWhole) (hc0 : ¬cond0_0 i)
    (x0 : Vec Ideal S1x512x1024 .f32) (x1 : Vec Ideal S1x1x512x256 .f32) (x2 : Vec Ideal S1x1x1024 .f32) (x3 : Vec Ideal S1x1024x2816 .bf16) (x4 : Vec Ideal S1x1024x2816 .bf16) (x5 : Vec Ideal S1x3x2816 .f32) (x6 : Vec Ideal S1x2816x1024 .bf16) (x7 : Vec Ideal S1x1x1024 .f32) (x8 : Vec Ideal S1x1024x1024 .bf16) (x9 : Vec Ideal S1x256x1024 .bf16) (x10 : Vec Ideal S1x1x1024 .f32) (xs0 : Vec Ideal S520x2816 .f32) (r : Fin 512) (q : Fin 1024) :
    out0_B_11 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xs0 (ix3 0 r q)
      = rms (rowOut x0 x1 x2 x3 x4 x5 x6 x7 x8 x9 xs0 r) (fun k => x10 (ix3 0 0 k)) q := by
  frame_out
  rw [read_pieces harg14 xs0 x0 x2 x3]
  simp only [readCov_pieces xs0 x0 x2 x3 _ ![8, _] _ _ (show 8 ≤ 8 from le_refl _)]
  rw [normPay_apply]
  exact congrArg (fun h => rms h _ q) (funext fun k => stream_apply _ x0 x1 x2 x3 x4 x5 x6 x7 x8 x9 r k)

/-- The halo rows a later point of a batch hands on: the last eight rows of its gate product. -/
theorem halo_B (c : Dev nD) (i : grid0.Coords) (arg2 : Memref sig .tc .vmem S1x512x1024 .f32) (harg2 : arg2.IsWhole) (arg3 : Memref sig .tc .vmem S1x1x512x256 .f32) (harg3 : arg3.IsWhole) (arg4 : Memref sig .tc .vmem S1x1x1024 .f32) (harg4 : arg4.IsWhole) (arg5 : Memref sig .tc .vmem S1x1024x2816 .bf16) (harg5 : arg5.IsWhole) (arg6 : Memref sig .tc .vmem S1x1024x2816 .bf16) (harg6 : arg6.IsWhole) (arg7 : Memref sig .tc .vmem S1x3x2816 .f32) (harg7 : arg7.IsWhole) (arg8 : Memref sig .tc .vmem S1x2816x1024 .bf16) (harg8 : arg8.IsWhole) (arg9 : Memref sig .tc .vmem S1x1x1024 .f32) (harg9 : arg9.IsWhole) (arg10 : Memref sig .tc .vmem S1x1024x1024 .bf16) (harg10 : arg10.IsWhole) (arg11 : Memref sig .tc .vmem S1x256x1024 .bf16) (harg11 : arg11.IsWhole) (arg12 : Memref sig .tc .vmem S1x1x1024 .f32) (harg12 : arg12.IsWhole) (arg13 : Memref sig .tc .vmem S1x512x1024 .f32) (harg13 : arg13.IsWhole) (arg14 : Memref sig .tc .vmem S520x2816 .f32) (harg14 : arg14.IsWhole) (hc0 : ¬cond0_0 i)
    (x0 : Vec Ideal S1x512x1024 .f32) (x1 : Vec Ideal S1x1x512x256 .f32) (x2 : Vec Ideal S1x1x1024 .f32) (x3 : Vec Ideal S1x1024x2816 .bf16) (x4 : Vec Ideal S1x1024x2816 .bf16) (x5 : Vec Ideal S1x3x2816 .f32) (x6 : Vec Ideal S1x2816x1024 .bf16) (x7 : Vec Ideal S1x1x1024 .f32) (x8 : Vec Ideal S1x1024x1024 .bf16) (x9 : Vec Ideal S1x256x1024 .bf16) (x10 : Vec Ideal S1x1x1024 .f32) (xs0 : Vec Ideal S520x2816 .f32) (r : Fin 520) (hr : r.val < 8) (j : Fin 2816) :
    sout0_B_0 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xs0 (ix2 r j) = gp x0 x2 x3 ⟨504 + r.val, by omega⟩ j := by
  frame_out
  simp only [readCov_pieces (fun _ => 0) x0 x2 x3 _ ![512, _] _ _ (show 8 ≤ 512 by decide)]
  exact halo_top _ _ x0 x2 x3 r hr j

end Cert.KernelIdeal.Body

end
-- ==== Proof.FfnBlocks.lean ====
/-
  The windows of the feed-forward call of the last layer, read at an index of the arguments: where each grid point's block
  of the stream, the embedding, the weights and the gains lies.
-/
module

public import proofs.«01_k».proof.Proof.FfnOut
public import Idealize.ShloMosaic.Lib.Claim

@[expose] public section

set_option maxRecDepth 16384

noncomputable section

namespace Cert.KernelIdeal.Body

open Idealize.ShloMosaic Idealize.ShloMosaic.TcCoe Idealize.ShloMosaic.Tactic Idealize.SL.Sem
open Cert.KernelIdeal Cert.KernelIdeal.Gen Cert.Ffn

variable (m : (ℓ : Loc nD τ sig) → Buf (Elt Ideal) ℓ)

/-- The block indices of the windows at a grid point, decided over the grid. -/
theorem idx : ∀ t : Fin cfg0.N, win0_0.index t = ![t.val / 8, t.val % 8, 0] ∧ win0_1.index t = ![1, t.val / 8, t.val % 8, 0]
    ∧ win0_2.index t = ![1, 0, 0] ∧ win0_3.index t = ![1, 0, 0] ∧ win0_4.index t = ![1, 0, 0] ∧ win0_5.index t = ![1, 0, 0]
    ∧ win0_6.index t = ![1, 0, 0] ∧ win0_7.index t = ![1, 0, 0] ∧ win0_8.index t = ![1, 0, 0] ∧ win0_9.index t = ![1, 0, 0]
    ∧ win0_10.index t = ![1, 0, 0] :=
  (by decide +kernel : ∀ t : Fin grid0.N, _)

/-- The stream's block at a point: 512 rows of one sequence. -/
theorem blk0 (c : Dev nD) (t : Fin cfg0.N) (r : Fin 512) (k : Fin 1024) :
    iblk m c 0 t (ix3 0 r k) = m ((c : Thread nD τ).loc main_arg0)
      (ix3 ⟨t.val / 8, by have := lt_of_lt_of_eq t.isLt N_0; omega⟩ ⟨t.val % 8 * 512 + r.val, by omega⟩ k) := by
  blk_ext! [iblk, V, idx t]

/-- The embedding's block. -/
theorem blk1 (c : Dev nD) (t : Fin cfg0.N) (r : Fin 512) (k : Fin 256) :
    iblk m c 1 t (ix4 0 0 r k) = m ((c : Thread nD τ).loc main_arg1)
      (ix4 1 ⟨t.val / 8, by have := lt_of_lt_of_eq t.isLt N_0; omega⟩ ⟨t.val % 8 * 512 + r.val, by omega⟩ k) := by
  blk_ext! [iblk, V, idx t]

/-- The norm's gain before the channel mixer. -/
theorem blk2 (c : Dev nD) (t : Fin cfg0.N) (k : Fin 1024) :
    iblk m c 2 t (ix3 0 0 k) = m ((c : Thread nD τ).loc main_arg2) (ix2 1 k) := by
  blk_ext! [iblk, V, idx t]

/-- The gate projection. -/
theorem blk3 (c : Dev nD) (t : Fin cfg0.N) (k : Fin 1024) (j : Fin 2816) :
    iblk m c 3 t (ix3 0 k j) = m ((c : Thread nD τ).loc main_arg3) (ix3 1 k j) := by
  blk_ext! [iblk, V, idx t]

/-- The up projection. -/
theorem blk4 (c : Dev nD) (t : Fin cfg0.N) (k : Fin 1024) (j : Fin 2816) :
    iblk m c 4 t (ix3 0 k j) = m ((c : Thread nD τ).loc main_arg4) (ix3 1 k j) := by
  blk_ext! [iblk, V, idx t]

/-- The three taps of the gate. -/
theorem blk5 (c : Dev nD) (t : Fin cfg0.N) (a : Fin 3) (j : Fin 2816) :
    iblk m c 5 t (ix3 0 a j) = m ((c : Thread nD τ).loc main_arg5) (ix3 1 a j) := by
  blk_ext! [iblk, V, idx t]

/-- The down projection. -/
theorem blk6 (c : Dev nD) (t : Fin cfg0.N) (j : Fin 2816) (k : Fin 1024) :
    iblk m c 6 t (ix3 0 j k) = m ((c : Thread nD τ).loc main_arg6) (ix3 1 j k) := by
  blk_ext! [iblk, V, idx t]

/-- The norm's gain before the embedding gate. -/
theorem blk7 (c : Dev nD) (t : Fin cfg0.N) (k : Fin 1024) :
    iblk m c 7 t (ix3 0 0 k) = m ((c : Thread nD τ).loc main_arg7) (ix2 1 k) := by
  blk_ext! [iblk, V, idx t]

/-- The embedding's gate projection. -/
theorem blk8 (c : Dev nD) (t : Fin cfg0.N) (k j : Fin 1024) :
    iblk m c 8 t (ix3 0 k j) = m ((c : Thread nD τ).loc main_arg8) (ix3 1 k j) := by
  blk_ext! [iblk, V, idx t]

/-- The embedding's projection. -/
theorem blk9 (c : Dev nD) (t : Fin cfg0.N) (k : Fin 256) (j : Fin 1024) :
    iblk m c 9 t (ix3 0 k j) = m ((c : Thread nD τ).loc main_arg9) (ix3 1 k j) := by
  blk_ext! [iblk, V, idx t]

/-- The gain of the norm that follows the layer: after the last layer, the model's final norm. -/
theorem blk10 (c : Dev nD) (t : Fin cfg0.N) (k : Fin 1024) :
    iblk m c 10 t (ix3 0 0 k) = m ((c : Thread nD τ).loc main_arg11) (ix1 k) := by
  have e : ∀ x : S2x1x1024.Idx, (x 0).val = 1 → x 2 = k →
      V m c main_v10 x = m ((c : Thread nD τ).loc main_arg11) (ix1 k) := by
    intro x h0 h2
    entry_read
    obtain rfl : x = ix3 1 0 k := by
      rw [eq_ix3 x]
      exact congr (congrArg₂ ix3 (Fin.ext h0) (Subsingleton.elim _ _)) h2
    pointwise
  refine e _ ?_ ?_
  · blk_simp [idx t]
    rfl
  · refine Fin.ext ?_
    blk_simp [idx t]

end Cert.KernelIdeal.Body

end
-- ==== Proof.FfnKernel.lean ====
/-
  What the feed-forward call of the last layer leaves in its result: row by row, the layer of `FfnMath` and the final norm.
  The scratch a point hands on holds the last gate products of its block, so that a point reads, two rows and one row
  back, the sequence's own gate products, and zeros before the sequence's first row.
-/
module

public import proofs.«01_k».proof.Proof.FfnBlocks

@[expose] public section

set_option maxRecDepth 16384

noncomputable section

namespace Cert.KernelIdeal.Body

open Idealize.ShloMosaic Idealize.ShloMosaic.TcCoe Idealize.ShloMosaic.Tactic Idealize.SL.Sem
open Cert.KernelIdeal Cert.KernelIdeal.Gen Cert.Ffn

variable (m : (ℓ : Loc nD τ sig) → Buf (Elt Ideal) ℓ)

/-- Sequence `b` of the stream on device `c`. -/
abbrev seq (c : Dev nD) (b : Fin 4) (t : Fin 4096) (k : Fin 1024) : EReal := m ((c : Thread nD τ).loc main_arg0) (ix3 b t k)

/-- The gate product of row `t` of sequence `b`. -/
abbrev gprod (c : Dev nD) (b : Fin 4) : Fin 4096 → Fin 2816 → EReal :=
  gateProd (seq m c b) (fun k => m ((c : Thread nD τ).loc main_arg2) (ix2 1 k))
    (fun k j => m ((c : Thread nD τ).loc main_arg3) (ix3 1 k j))

/-- The stream after the last layer: row `t` of sequence `b`. -/
abbrev after (c : Dev nD) (b : Fin 4) (t : Fin 4096) : Fin 1024 → EReal :=
  layer (seq m c b) (fun k => m ((c : Thread nD τ).loc main_arg2) (ix2 1 k))
    (fun k j => m ((c : Thread nD τ).loc main_arg3) (ix3 1 k j)) (fun k j => m ((c : Thread nD τ).loc main_arg4) (ix3 1 k j))
    (fun a j => m ((c : Thread nD τ).loc main_arg5) (ix3 1 a j)) (fun j k => m ((c : Thread nD τ).loc main_arg6) (ix3 1 j k))
    (fun k => m ((c : Thread nD τ).loc main_arg7) (ix2 1 k)) (fun k j => m ((c : Thread nD τ).loc main_arg8) (ix3 1 k j))
    (fun t k => m ((c : Thread nD τ).loc main_arg1) (ix4 1 b t k)) (fun k j => m ((c : Thread nD τ).loc main_arg9) (ix3 1 k j)) t

/-- The sequence a point works on. -/
abbrev bat (t : Fin cfg0.N) : Fin 4 := ⟨t.val / 8, by have := lt_of_lt_of_eq t.isLt N_0; omega⟩

/-- The row of its sequence that a point's row `r` is. -/
abbrev row (t : Fin cfg0.N) (r : Fin 512) : Fin 4096 := ⟨t.val % 8 * 512 + r.val, by omega⟩

/-- The gate product a point computes is the sequence's. -/
theorem gp_blk (c : Dev nD) (t : Fin cfg0.N) (r : Fin 512) :
    gp (iblk m c 0 t) (iblk m c 2 t) (iblk m c 3 t) r = gprod m c (bat t) (row t r) := by
  unfold gp
  simp only [blk0, blk2, blk3]
  rfl

/-- The components of a pair known by an equation. -/
theorem fst_eq {A B : Type} {p : A × B} {a : A} {b : B} (h : p = (a, b)) : p.1 = a := by rw [h]

@[inherit_doc fst_eq]
theorem snd_eq {A B : Type} {p : A × B} {a : A} {b : B} (h : p = (a, b)) : p.2 = b := by rw [h]

/-- The halo rows a point hands on. -/
theorem halo_at (c : Dev nD) (t : Fin cfg0.N) (r : Fin 520) (hr : r.val < 8) (j : Fin 2816) :
    (outsAt0 m c t.val t.isLt).2 (ix2 r j) = gprod m c (bat t) (row t ⟨504 + r.val, by omega⟩) j := by
  rw [← gp_blk]
  by_cases h0 : t.val % 8 = 0
  · exact (congrFun (snd_eq (outsAt0_A m c t h0)) _).trans
      (halo_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) r hr j)
  · exact (congrFun (snd_eq (outsAt0_B m c t h0)) _).trans
      (halo_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2 r hr j)

/-- The scratch a point reads, `k` rows before its row `r` (`k` at most two), is the sequence's gate product `k` rows back,
    once the halo rows are: zeros at a sequence's first point, the last rows of the block before at another. -/
theorem buf_back (c : Dev nD) (t : Fin cfg0.N) (halo : Vec Ideal S520x2816 .f32) (k : ℕ) (hk : k ≤ 2)
    (hA : t.val % 8 = 0 → halo = fun _ => 0)
    (hB : ¬t.val % 8 = 0 → ∀ (r : Fin 520) (hr : r.val < 8) (j : Fin 2816), halo (ix2 r j)
      = gprod m c (bat t) ⟨t.val % 8 * 512 - 8 + r.val, by omega⟩ j)
    (r : Fin 512) (j : Fin 2816) :
    buf halo (iblk m c 0 t) (iblk m c 2 t) (iblk m c 3 t) (ix2 ⟨8 - k + r.val, by omega⟩ j)
      = back k (gprod m c (bat t)) (row t r) j := by
  unfold back
  by_cases hr : r.val < k
  · rw [buf_halo _ _ _ _ _ (show 8 - k + r.val < 8 by omega)]
    by_cases h0 : t.val % 8 = 0
    · rw [hA h0, if_neg (show ¬k ≤ t.val % 8 * 512 + r.val by omega)]
    · rw [hB h0 _ (show 8 - k + r.val < 8 by omega), if_pos (show k ≤ t.val % 8 * 512 + r.val by omega)]
      exact congrArg (fun i => gprod m c (bat t) i j)
        (Fin.ext (show t.val % 8 * 512 - 8 + (8 - k + r.val) = t.val % 8 * 512 + r.val - k by omega))
  · have e : (⟨8 - k + r.val, by omega⟩ : Fin 520) = ⟨8 + (⟨r.val - k, by omega⟩ : Fin 512).val, by omega⟩ :=
      Fin.ext (show 8 - k + r.val = 8 + (r.val - k) by omega)
    rw [e, buf_row, gp_blk, if_pos (show k ≤ t.val % 8 * 512 + r.val by omega)]
    exact congrArg (fun i => gprod m c (bat t) i j)
      (Fin.ext (show t.val % 8 * 512 + (r.val - k) = t.val % 8 * 512 + r.val - k by omega))

/-- A row of a point's block after the layer is the layer's row of its sequence. -/
theorem rowOut_blk (c : Dev nD) (t : Fin cfg0.N) (halo : Vec Ideal S520x2816 .f32)
    (hA : t.val % 8 = 0 → halo = fun _ => 0)
    (hB : ¬t.val % 8 = 0 → ∀ (r : Fin 520) (hr : r.val < 8) (j : Fin 2816), halo (ix2 r j)
      = gprod m c (bat t) ⟨t.val % 8 * 512 - 8 + r.val, by omega⟩ j) (r : Fin 512) :
    rowOut (iblk m c 0 t) (iblk m c 1 t) (iblk m c 2 t) (iblk m c 3 t) (iblk m c 4 t) (iblk m c 5 t) (iblk m c 6 t)
      (iblk m c 7 t) (iblk m c 8 t) (iblk m c 9 t) halo r = after m c (bat t) (row t r) := by
  have e2 : (fun j => buf halo (iblk m c 0 t) (iblk m c 2 t) (iblk m c 3 t) (ix2 ⟨6 + r.val, by omega⟩ j))
      = back 2 (gprod m c (bat t)) (row t r) := funext fun j => buf_back m c t halo 2 (by omega) hA hB r j
  have e1 : (fun j => buf halo (iblk m c 0 t) (iblk m c 2 t) (iblk m c 3 t) (ix2 ⟨7 + r.val, by omega⟩ j))
      = back 1 (gprod m c (bat t)) (row t r) := funext fun j => buf_back m c t halo 1 (by omega) hA hB r j
  unfold rowOut
  rw [e1, e2]
  simp only [blk0, blk1, blk2, blk3, blk4, blk5, blk6, blk7, blk8, blk9]
  rfl

/-- What a point leaves in the result's staging buffer. -/
theorem out_at (c : Dev nD) (t : Fin cfg0.N) (r : Fin 512) (q : Fin 1024) :
    (outsAt0 m c t.val t.isLt).1 (ix3 0 r q)
      = rms (after m c (bat t) (row t r)) (fun k => m ((c : Thread nD τ).loc main_arg11) (ix1 k)) q := by
  have e10 : (fun k => iblk m c 10 t (ix3 0 0 k)) = fun k => m ((c : Thread nD τ).loc main_arg11) (ix1 k) :=
    funext fun k => blk10 m c t k
  rw [← e10]
  by_cases h0 : t.val % 8 = 0
  · refine ((congrFun (fst_eq (outsAt0_A m c t h0)) _).trans
      (out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) r q)).trans ?_
    rw [rowOut_blk m c t _ (fun _ => rfl) (fun h => absurd h0 h)]
  · refine ((congrFun (fst_eq (outsAt0_B m c t h0)) _).trans
      (out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2 r q)).trans ?_
    rw [rowOut_blk m c t _ (fun h => absurd h h0) (fun _ r hr j => ?_)]
    have hl : t.val - 1 < cfg0.N := Nat.lt_of_le_of_lt (Nat.sub_le _ _) t.isLt
    refine (halo_at m c ⟨t.val - 1, hl⟩ r hr j).trans ?_
    refine congrArg₂ (fun b i => gprod m c b i j) (Fin.ext (show (t.val - 1) / 8 = t.val / 8 by omega)) (Fin.ext ?_)
    show (t.val - 1) % 8 * 512 + (504 + r.val) = t.val % 8 * 512 - 8 + r.val
    omega

/-- THE RESULT: row `t` of sequence `b` is the model's last row after its final norm. -/
theorem result (c : Dev nD) (b : Fin 4) (t : Fin 4096) (q : Fin 1024) :
    Value.G11 m c (ix3 b t q)
      = rms (after m c b t) (fun k => m ((c : Thread nD τ).loc main_arg11) (ix1 k)) q := by
  have hp : Value.pt11Of (ix3 b t q) = 8 * b.val + t.val / 512 := by
    show 8 * (b.val / 1 - 0) + 1 * (t.val / 512 - 0) + 1 * (q.val / 1024 - 0) = _
    omega
  have hlt : 8 * b.val + t.val / 512 < cfg0.N := by rw [show cfg0.N = 32 from N_0]; omega
  have hlt' : Value.pt11Of (ix3 b t q) < cfg0.N := by rw [hp]; exact hlt
  unfold Value.G11
  rw [dif_pos hlt', ← Value.outsAt0_sweep m c _ hlt']
  have hl : Value.loc11Of (ix3 b t q) = ix3 0 ⟨t.val % 512, Nat.mod_lt _ (by decide)⟩ q := by
    funext a
    fin_cases a
    · exact Fin.ext (Nat.mod_one _)
    · rfl
    · exact Fin.ext (Nat.mod_eq_of_lt q.isLt)
  rw [hl]
  refine (out_at m c ⟨_, hlt'⟩ _ q).trans ?_
  refine congrArg (fun h => rms h _ q) ?_
  refine congrArg₂ (after m c) (Fin.ext ?_) (Fin.ext ?_)
  · show Value.pt11Of (ix3 b t q) / 8 = b.val
    rw [hp]; omega
  · show Value.pt11Of (ix3 b t q) % 8 * 512 + t.val % 512 = t.val
    rw [hp]; omega

end Cert.KernelIdeal.Body

end
-- ==== Proof.FfnRef.lean ====
/-
  What the reference of the last layer's feed-forward half computes: row by row, the layer of `FfnMath` and the final norm.
-/
module

public import proofs.«01_k».proof.Proof.FfnMath
public import proofs.«01_k».proof.Proof.Gen.ReferenceIdeal.Read
public import Idealize.ShloMosaic.Lib.Pointwise

@[expose] public section

set_option maxRecDepth 16384

noncomputable section

namespace Cert.ReferenceIdeal.Rows

open Idealize.ShloMosaic Idealize.ShloMosaic.TcCoe Idealize.ShloMosaic.Tactic Idealize.SL.Sem Idealize.ShloMosaic.StableHlo
open Cert.ReferenceIdeal Cert.ReferenceIdeal.Gen Cert.ReferenceIdeal.Read Cert.Ffn

variable (x0 : Vec Ideal S4x4096x1024 .f32) (x1 : Vec Ideal S2x4x4096x256 .f32) (x2 : Vec Ideal S2x1024 .f32)
  (x3 x4 : Vec Ideal S2x1024x2816 .f32) (x5 : Vec Ideal S2x3x2816 .f32) (x6 : Vec Ideal S2x2816x1024 .f32)
  (x7 : Vec Ideal S2x1024 .f32) (x8 : Vec Ideal S2x1024x1024 .f32) (x9 : Vec Ideal S2x256x1024 .f32)
  (x11 : Vec Ideal S1024 .f32) (b : Fin 4) (t : Fin 4096)

/-- The layer's normed input. -/
theorem normed (k : Fin 1024) :
    val_main_v14 (F := Ideal) x0 x2 (ix3 b t k) = rms (fun k => x0 (ix3 b t k)) (fun k => x2 (ix2 1 k)) k := by
  unfold rms
  pointwise [val_main_v14, val_main_v13, val_main_v12, val_main_v11, val_main_v10, val_main_v9, val_main_v8, val_main_v7,
    val_main_cst_1, val_main_v6, val_main_v5, val_main_cst_0, val_main_v4, val_main_v3, val_main_cst, val_main_v2,
    val_main_v1, val_main_v0]

/-- The gate product. -/
theorem gate_dot (j : Fin 2816) :
    val_main_v17 (F := Ideal) x0 x2 x3 (ix3 b t j)
      = gateProd (fun t k => x0 (ix3 b t k)) (fun k => x2 (ix2 1 k)) (fun k j => x3 (ix3 1 k j)) t j := by
  unfold gateProd rowMul
  simp only [← normed]
  pointwise [val_main_v17, val_main_v16, val_main_v15, dot_S4x4096x1024_S1024x2816_S4x4096x2816_2_0_01_1_n_n]

/-- The padding value, the integer zero read as a number. -/
theorem zero_int : (FloatOps.sitofp (F := Ideal) .f32 (0#32) : EReal) = 0 := by
  show (((0#32 : BitVec 32).toInt : ℝ) : EReal) = 0
  norm_num

/-- The gate. -/
theorem gated (j : Fin 2816) :
    val_main_v40 (F := Ideal) x0 x2 x3 x5 (ix3 b t j)
      = gate (fun a j => x5 (ix3 1 a j))
        (back 2 (fun t j => val_main_v17 (F := Ideal) x0 x2 x3 (ix3 b t j)) t)
        (back 1 (fun t j => val_main_v17 (F := Ideal) x0 x2 x3 (ix3 b t j)) t)
        (fun j => val_main_v17 (F := Ideal) x0 x2 x3 (ix3 b t j)) j := by
  unfold gate back
  pointwise [val_main_v40, val_main_v39, val_main_v38, val_main_v37, val_main_v36, val_main_v35, val_main_v34, val_main_v33,
    val_main_v32, val_main_v31, val_main_v30, val_main_v29, val_main_v28, val_main_v27, val_main_v26, val_main_v25,
    val_main_v24, val_main_v23, val_main_v22, val_main_v21, val_main_v20, val_main_call0_v0, val_main_c, val_main_v19,
    val_main_v18]
  rw [zero_int]
  refine congrArg₂ (· + ·) (congrArg₂ (· + ·) (congrArg (x5 (ix3 1 0 j) * ·) ?_) (congrArg (x5 (ix3 1 1 j) * ·) ?_)) rfl
  · by_cases h : 2 ≤ t.val
    · rw [dif_pos ⟨h, by omega⟩, if_pos h]
    · rw [dif_neg (fun h' => h h'.1), if_neg h]
  · by_cases h : 1 ≤ t.val
    · rw [dif_pos ⟨by omega, by omega⟩, if_pos h]
      exact congrArg (fun i => val_main_v17 (F := Ideal) x0 x2 x3 (ix3 b i j)) (Fin.ext (show 1 + t.val - 2 = t.val - 1 by omega))
    · rw [dif_neg (fun h' => h (by omega)), if_neg h]

/-- The activation. -/
theorem activated (j : Fin 2816) :
    val_main_v45 (F := Ideal) x0 x2 x3 x4 x5 (ix3 b t j)
      = act (fun j => val_main_v40 (F := Ideal) x0 x2 x3 x5 (ix3 b t j))
        (rowMul (fun k => val_main_v14 (F := Ideal) x0 x2 (ix3 b t k)) (fun k j => x4 (ix3 1 k j))) j := by
  unfold act rowMul
  rw [sigm_eq]
  pointwise [val_main_v45, val_main_v41, val_main_call1_v5, val_main_call1_v4, val_main_call1_cst_0, val_main_call1_v3,
    val_main_call1_v2, val_main_call1_cst, val_main_call1_v1, val_main_call1_v0, val_main_v44, val_main_v43, val_main_v42,
    dot_S4x4096x1024_S1024x2816_S4x4096x2816_2_0_01_1_n_n]

/-- The row after the channel mixer. -/
theorem mixed_row (k : Fin 1024) :
    val_main_v49 (F := Ideal) x0 x2 x3 x4 x5 x6 (ix3 b t k)
      = x0 (ix3 b t k) + rowMul (fun j => val_main_v45 (F := Ideal) x0 x2 x3 x4 x5 (ix3 b t j)) (fun j k => x6 (ix3 1 j k)) k := by
  unfold rowMul
  pointwise [val_main_v49, val_main_v48, val_main_v47, val_main_v46, dot_S4x4096x2816_S2816x1024_S4x4096x1024_2_0_01_1_n_n]

/-- The embedding's normed input. -/
theorem normed_mixed (k : Fin 1024) :
    val_main_v64 (F := Ideal) x0 x2 x3 x4 x5 x6 x7 (ix3 b t k)
      = rms (fun k => val_main_v49 (F := Ideal) x0 x2 x3 x4 x5 x6 (ix3 b t k)) (fun k => x7 (ix2 1 k)) k := by
  unfold rms
  pointwise [val_main_v64, val_main_v63, val_main_v62, val_main_v61, val_main_v60, val_main_v59, val_main_v58, val_main_v57,
    val_main_cst_4, val_main_v56, val_main_v55, val_main_cst_3, val_main_v54, val_main_v53, val_main_cst_2, val_main_v52,
    val_main_v51, val_main_v50]

/-- The row after the embedding. -/
theorem embedded (k : Fin 1024) :
    val_main_v80 (F := Ideal) x0 x1 x2 x3 x4 x5 x6 x7 x8 x9 (ix3 b t k)
      = val_main_v49 (F := Ideal) x0 x2 x3 x4 x5 x6 (ix3 b t k)
        + rowMul (fun k => x1 (ix4 1 b t k)) (fun k j => x9 (ix3 1 k j)) k
          * sigm (rowMul (fun k => val_main_v64 (F := Ideal) x0 x2 x3 x4 x5 x6 x7 (ix3 b t k)) (fun k j => x8 (ix3 1 k j)) k) := by
  unfold rowMul
  rw [sigm_eq]
  pointwise [val_main_v80, val_main_v79, val_main_v78, val_main_v77, val_main_cst_6, val_main_v76, val_main_v75,
    val_main_cst_5, val_main_v74, val_main_v73, val_main_v72, val_main_v71, val_main_v70, val_main_v69, val_main_v68,
    val_main_v67, val_main_v66, val_main_v65, dot_S4x4096x1024_S1024x1024_S4x4096x1024_2_0_01_1_n_n,
    dot_S4x4096x256_S256x1024_S4x4096x1024_2_0_01_1_n_n]

/-- The final norm. -/
theorem final (k : Fin 1024) :
    val_main_v93 (F := Ideal) x0 x1 x2 x3 x4 x5 x6 x7 x8 x9 x11 (ix3 b t k)
      = rms (fun k => val_main_v80 (F := Ideal) x0 x1 x2 x3 x4 x5 x6 x7 x8 x9 (ix3 b t k)) (fun k => x11 (ix1 k)) k := by
  unfold rms
  pointwise [val_main_v93, val_main_v92, val_main_v91, val_main_v90, val_main_v89, val_main_v88, val_main_v87, val_main_v86,
    val_main_cst_9, val_main_v85, val_main_v84, val_main_cst_8, val_main_v83, val_main_v82, val_main_cst_7, val_main_v81]

/-- The stream after the layer. -/
theorem stream : (fun k => val_main_v80 (F := Ideal) x0 x1 x2 x3 x4 x5 x6 x7 x8 x9 (ix3 b t k))
    = layer (fun t k => x0 (ix3 b t k)) (fun k => x2 (ix2 1 k)) (fun k j => x3 (ix3 1 k j)) (fun k j => x4 (ix3 1 k j))
      (fun a j => x5 (ix3 1 a j)) (fun j k => x6 (ix3 1 j k)) (fun k => x7 (ix2 1 k)) (fun k j => x8 (ix3 1 k j))
      (fun t k => x1 (ix4 1 b t k)) (fun k j => x9 (ix3 1 k j)) t := by
  have e49 : (fun k => val_main_v49 (F := Ideal) x0 x2 x3 x4 x5 x6 (ix3 b t k)) = _ := funext (mixed_row x0 x2 x3 x4 x5 x6 b t)
  have e64 : (fun k => val_main_v64 (F := Ideal) x0 x2 x3 x4 x5 x6 x7 (ix3 b t k)) = _ :=
    funext (normed_mixed x0 x2 x3 x4 x5 x6 x7 b t)
  have e14 : (fun k => val_main_v14 (F := Ideal) x0 x2 (ix3 b t k)) = _ := funext (normed x0 x2 b t)
  have e17 : (fun t j => val_main_v17 (F := Ideal) x0 x2 x3 (ix3 b t j)) = _ :=
    funext fun t => funext (gate_dot x0 x2 x3 b t)
  have e17' : (fun j => val_main_v17 (F := Ideal) x0 x2 x3 (ix3 b t j)) = _ := funext (gate_dot x0 x2 x3 b t)
  have e40 : (fun j => val_main_v40 (F := Ideal) x0 x2 x3 x5 (ix3 b t j)) = _ := funext (gated x0 x2 x3 x5 b t)
  have e45 : (fun j => val_main_v45 (F := Ideal) x0 x2 x3 x4 x5 (ix3 b t j)) = _ := funext (activated x0 x2 x3 x4 x5 b t)
  rw [e17, e17'] at e40
  rw [e40, e14] at e45
  rw [e45] at e49
  rw [e49] at e64
  funext k
  rw [embedded, e64, congrFun e49 k]
  rfl

end Cert.ReferenceIdeal.Rows

end
-- ==== Proof.FfnLast.lean ====
/-
  The last layer's feed-forward call and its reference leave the same result array: both are the layer of `FfnMath` and the
  final norm, read at every index from the same arguments.
-/
module

public import proofs.«01_k».proof.Defs
public import proofs.«01_k».proof.Proof.FfnKernel
public import proofs.«01_k».proof.Proof.FfnRef

@[expose] public section

set_option maxRecDepth 16384

noncomputable section

namespace Cert.Ffn

open Idealize.ShloMosaic Idealize.ShloMosaic.TcCoe Idealize.SL.Sem Idealize.ShloMosaic.StableHlo

/-- The kernel and the reference run to the same result over the extended reals, whatever the arguments hold. -/
theorem last_layer : Cert.algebraic_KernelIdeal_ReferenceIdeal (hKernelIdeal := Cert.KernelIdeal.Gen.facts)
    (hReferenceIdeal := Cert.ReferenceIdeal.Gen.facts) := by
  intro m ρ m' ρ' _ hagree
  refine ⟨fun c => Cert.KernelIdeal.Value.G11 m c, Cert.KernelIdeal.Value.run (F := Ideal) m ρ, ?_⟩
  refine (θ_run Cert.ReferenceIdeal.defs _ _).mono (fun r h c => ⟨?_, (h c).2⟩) (Cert.ReferenceIdeal.Value.run (F := Ideal) m' ρ')
  refine (h c).1.trans ((Cert.ReferenceIdeal.Read.val_main_v93_eq (F := Ideal) (launchContents m' c)).trans ?_)
  obtain ⟨h0, h1, h2, h3, h4, h5, h6, h7, h8, h9, -, h11⟩ := hagree c
  rw [show launchContents m' c (Proc.devRef .tc Cert.ReferenceIdeal.main_arg0) = _ from h0,
    show launchContents m' c (Proc.devRef .tc Cert.ReferenceIdeal.main_arg1) = _ from h1,
    show launchContents m' c (Proc.devRef .tc Cert.ReferenceIdeal.main_arg2) = _ from h2,
    show launchContents m' c (Proc.devRef .tc Cert.ReferenceIdeal.main_arg3) = _ from h3,
    show launchContents m' c (Proc.devRef .tc Cert.ReferenceIdeal.main_arg4) = _ from h4,
    show launchContents m' c (Proc.devRef .tc Cert.ReferenceIdeal.main_arg5) = _ from h5,
    show launchContents m' c (Proc.devRef .tc Cert.ReferenceIdeal.main_arg6) = _ from h6,
    show launchContents m' c (Proc.devRef .tc Cert.ReferenceIdeal.main_arg7) = _ from h7,
    show launchContents m' c (Proc.devRef .tc Cert.ReferenceIdeal.main_arg8) = _ from h8,
    show launchContents m' c (Proc.devRef .tc Cert.ReferenceIdeal.main_arg9) = _ from h9,
    show launchContents m' c (Proc.devRef .tc Cert.ReferenceIdeal.main_arg11) = _ from h11]
  funext i
  rw [eq_ix3 i]
  exact ((Cert.ReferenceIdeal.Rows.final _ _ _ _ _ _ _ _ _ _ _ _ _ _).trans
    (congrArg (fun h => rms h _ _) (Cert.ReferenceIdeal.Rows.stream _ _ _ _ _ _ _ _ _ _ _ _))).trans
    (Cert.KernelIdeal.Body.result m c _ _ _).symm

end Cert.Ffn

end
-- ==== Proof.FirstOut.lean ====
/-
  What one grid point of the feed-forward kernel leaves in the call of the first layer: the block of the stream after the
  layer, its normed copy for the next layer, and the halo rows. The body computes what it computes in the last layer's call,
  and stores one block more.
-/
module

public import proofs.«01_k».proof.Proof.Gen.Kernel2Ideal.Value
public import proofs.«01_k».proof.Proof.FfnOut

@[expose] public section

set_option maxRecDepth 16384

noncomputable section

namespace Cert.Kernel2Ideal.Body

open Idealize.ShloMosaic Idealize.ShloMosaic.TcCoe Idealize.ShloMosaic.Tactic Idealize.SL.Sem
open Cert.Kernel2Ideal Cert.Kernel2Ideal.Gen Cert.Ffn Cert.KernelIdeal.Body

/-- The steps that the body shares with the last layer's call are the same functions. -/
theorem steps :
    k0_pay3 (F := Ideal) = Cert.KernelIdeal.Gen.k0_pay2 (F := Ideal) ∧
    k0_pay4 (F := Ideal) = Cert.KernelIdeal.Gen.k0_pay3 (F := Ideal) ∧
    k0_pay5 (F := Ideal) = Cert.KernelIdeal.Gen.k0_pay4 (F := Ideal) ∧
    k0_pay6 (F := Ideal) = Cert.KernelIdeal.Gen.k0_pay5 (F := Ideal) ∧
    k0_pay7 (F := Ideal) = Cert.KernelIdeal.Gen.k0_pay6 (F := Ideal) ∧
    k0_pay8 (F := Ideal) = Cert.KernelIdeal.Gen.k0_pay7 (F := Ideal) ∧
    k0_pay9 (F := Ideal) = Cert.KernelIdeal.Gen.k0_pay8 (F := Ideal) ∧
    k0_pay10 (F := Ideal) = Cert.KernelIdeal.Gen.k0_pay9 (F := Ideal) ∧
    k0_pay11 (F := Ideal) = Cert.KernelIdeal.Gen.k0_pay10 (F := Ideal) ∧
    k0_pay12 (F := Ideal) = Cert.KernelIdeal.Gen.k0_pay11 (F := Ideal) ∧
    k0_pay13 (F := Ideal) = Cert.KernelIdeal.Gen.k0_pay12 (F := Ideal) ∧
    k0_pay14 (F := Ideal) = Cert.KernelIdeal.Gen.k0_pay13 (F := Ideal) ∧
    k0_pay15 (F := Ideal) = Cert.KernelIdeal.Gen.k0_pay14 (F := Ideal) ∧
    k0_pay16 (F := Ideal) = Cert.KernelIdeal.Gen.k0_pay15 (F := Ideal) ∧
    k0_pay17 (F := Ideal) = Cert.KernelIdeal.Gen.k0_pay16 (F := Ideal) ∧
    k0_pay18 (F := Ideal) = Cert.KernelIdeal.Gen.k0_pay17 (F := Ideal) ∧
    k0_pay19 (F := Ideal) = Cert.KernelIdeal.Gen.k0_pay18 (F := Ideal) ∧
    k0_pay20 (F := Ideal) = Cert.KernelIdeal.Gen.k0_pay19 (F := Ideal) ∧
    k0_pay21 (F := Ideal) = Cert.KernelIdeal.Gen.k0_pay20 (F := Ideal) ∧
    k0_pay22 (F := Ideal) = Cert.KernelIdeal.Gen.k0_pay21 (F := Ideal) ∧
    k0_pay23 (F := Ideal) = Cert.KernelIdeal.Gen.k0_pay22 (F := Ideal) ∧
    k0_pay24 (F := Ideal) = Cert.KernelIdeal.Gen.k0_pay23 (F := Ideal) ∧
    k0_pay25 (F := Ideal) = Cert.KernelIdeal.Gen.k0_pay24 (F := Ideal) ∧
    k0_pay26 (F := Ideal) = Cert.KernelIdeal.Gen.k0_pay25 (F := Ideal) ∧
    k0_pay27 (F := Ideal) = Cert.KernelIdeal.Gen.k0_pay26 (F := Ideal) ∧
    k0_pay28 (F := Ideal) = Cert.KernelIdeal.Gen.k0_pay27 (F := Ideal) ∧
    k0_pay29 (F := Ideal) = Cert.KernelIdeal.Gen.k0_pay28 (F := Ideal) ∧
    k0_pay30 (F := Ideal) = Cert.KernelIdeal.Gen.k0_pay29 (F := Ideal) ∧
    k0_pay31 (F := Ideal) = Cert.KernelIdeal.Gen.k0_pay30 (F := Ideal) ∧
    k0_pay32 (F := Ideal) = Cert.KernelIdeal.Gen.k0_pay31 (F := Ideal) ∧
    k0_pay33 (F := Ideal) = Cert.KernelIdeal.Gen.k0_pay32 (F := Ideal) :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The block of the stream stored is the row block with a leading axis. -/
theorem streamPay_apply (v : FVec Ideal S512x1024 .f32) (r : Fin 512) (q : Fin 1024) :
    k0_pay1 v (ix3 0 r q) = v (ix2 r q) := by
  pointwise [k0_pay1]

/-- The normed copy stored. -/
theorem normPay2_apply (v : FVec Ideal S512x1024 .f32) (x10 : Vec Ideal S1x1x1024 .f32) (r : Fin 512) (q : Fin 1024) :
    k0_pay2 v (Cert.KernelIdeal.Gen.k0_pay32 x10) (ix3 0 r q) = rms (fun k => v (ix2 r k)) (fun k => x10 (ix3 0 0 k)) q := by
  unfold rms
  pointwise [k0_pay2, Cert.KernelIdeal.Gen.k0_pay32]

variable (c : Dev nD) (i : grid0.Coords) (arg2 : Memref sig .tc .vmem S1x512x1024 .f32) (harg2 : arg2.IsWhole)
  (arg3 : Memref sig .tc .vmem S1x1x512x256 .f32) (harg3 : arg3.IsWhole) (arg4 : Memref sig .tc .vmem S1x1x1024 .f32)
  (harg4 : arg4.IsWhole) (arg5 : Memref sig .tc .vmem S1x1024x2816 .bf16) (harg5 : arg5.IsWhole)
  (arg6 : Memref sig .tc .vmem S1x1024x2816 .bf16) (harg6 : arg6.IsWhole) (arg7 : Memref sig .tc .vmem S1x3x2816 .f32)
  (harg7 : arg7.IsWhole) (arg8 : Memref sig .tc .vmem S1x2816x1024 .bf16) (harg8 : arg8.IsWhole)
  (arg9 : Memref sig .tc .vmem S1x1x1024 .f32) (harg9 : arg9.IsWhole)
  (arg10 : Memref sig .tc .vmem S1x1024x1024 .bf16) (harg10 : arg10.IsWhole)
  (arg11 : Memref sig .tc .vmem S1x256x1024 .bf16) (harg11 : arg11.IsWhole)
  (arg12 : Memref sig .tc .vmem S1x1x1024 .f32) (harg12 : arg12.IsWhole)
  (arg13 : Memref sig .tc .vmem S1x512x1024 .f32) (harg13 : arg13.IsWhole)
  (arg14 : Memref sig .tc .vmem S1x512x1024 .bf16) (harg14 : arg14.IsWhole)
  (arg15 : Memref sig .tc .vmem S520x2816 .f32) (harg15 : arg15.IsWhole)
variable (x0 : Vec Ideal S1x512x1024 .f32) (x1 : Vec Ideal S1x1x512x256 .f32) (x2 : Vec Ideal S1x1x1024 .f32)
  (x3 : Vec Ideal S1x1024x2816 .bf16) (x4 : Vec Ideal S1x1024x2816 .bf16) (x5 : Vec Ideal S1x3x2816 .f32)
  (x6 : Vec Ideal S1x2816x1024 .bf16) (x7 : Vec Ideal S1x1x1024 .f32) (x8 : Vec Ideal S1x1024x1024 .bf16)
  (x9 : Vec Ideal S1x256x1024 .bf16) (x10 : Vec Ideal S1x1x1024 .f32)
  (xs0 : Vec Ideal S520x2816 .f32)

/-- The block of the stream that a first point of a batch leaves. -/
theorem stream_A (hc0 : cond0_0 i) (r : Fin 512) (q : Fin 1024) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 (ix3 0 r q)
      = rowOut x0 x1 x2 x3 x4 x5 x6 x7 x8 x9 (fun _ => 0) r q := by
  frame_out
  simp only [steps, readCov_pieces_zero]
  rw [streamPay_apply]
  exact stream_apply _ x0 x1 x2 x3 x4 x5 x6 x7 x8 x9 r q

/-- The normed block that a first point of a batch leaves. -/
theorem norm_A (hc0 : cond0_0 i) (r : Fin 512) (q : Fin 1024) :
    out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 (ix3 0 r q)
      = rms (rowOut x0 x1 x2 x3 x4 x5 x6 x7 x8 x9 (fun _ => 0) r) (fun k => x10 (ix3 0 0 k)) q := by
  frame_out
  simp only [steps, readCov_pieces_zero]
  rw [normPay2_apply]
  exact congrArg (fun h => rms h _ q) (funext fun k => stream_apply _ x0 x1 x2 x3 x4 x5 x6 x7 x8 x9 r k)

/-- The halo rows that a first point of a batch hands on: the last eight rows of its gate product. -/
theorem halo_A (hc0 : cond0_0 i) (r : Fin 520) (hr : r.val < 8) (j : Fin 2816) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 (ix2 r j)
      = gp x0 x2 x3 ⟨504 + r.val, by omega⟩ j := by
  frame_out
  simp only [steps, readCov_pieces_zero]
  exact halo_top _ _ x0 x2 x3 r hr j

/-- The block of the stream that a later point of a batch leaves. -/
theorem stream_B (hc0 : ¬cond0_0 i) (r : Fin 512) (q : Fin 1024) :
    out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 (ix3 0 r q)
      = rowOut x0 x1 x2 x3 x4 x5 x6 x7 x8 x9 xs0 r q := by
  frame_out
  simp only [steps]
  rw [read_pieces harg15 xs0 x0 x2 x3]
  simp only [readCov_pieces xs0 x0 x2 x3 _ ![8, _] _ _ (show 8 ≤ 8 from le_refl _)]
  rw [streamPay_apply]
  exact stream_apply _ x0 x1 x2 x3 x4 x5 x6 x7 x8 x9 r q

/-- The normed block that a later point of a batch leaves. -/
theorem norm_B (hc0 : ¬cond0_0 i) (r : Fin 512) (q : Fin 1024) :
    out0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 (ix3 0 r q)
      = rms (rowOut x0 x1 x2 x3 x4 x5 x6 x7 x8 x9 xs0 r) (fun k => x10 (ix3 0 0 k)) q := by
  frame_out
  simp only [steps]
  rw [read_pieces harg15 xs0 x0 x2 x3]
  simp only [readCov_pieces xs0 x0 x2 x3 _ ![8, _] _ _ (show 8 ≤ 8 from le_refl _)]
  rw [normPay2_apply]
  exact congrArg (fun h => rms h _ q) (funext fun k => stream_apply _ x0 x1 x2 x3 x4 x5 x6 x7 x8 x9 r k)

/-- The halo rows that a later point of a batch hands on: the last eight rows of its gate product. -/
theorem halo_B (hc0 : ¬cond0_0 i) (r : Fin 520) (hr : r.val < 8) (j : Fin 2816) :
    sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 (ix2 r j)
      = gp x0 x2 x3 ⟨504 + r.val, by omega⟩ j := by
  frame_out
  simp only [steps, readCov_pieces (fun _ => 0) x0 x2 x3 _ ![512, _] _ _ (show 8 ≤ 512 by decide)]
  exact halo_top _ _ x0 x2 x3 r hr j

end Cert.Kernel2Ideal.Body

end
-- ==== Proof.FirstBlocks.lean ====
/-
  The windows of the feed-forward call of the first layer, read at an index of the arguments: where each grid point's block
  of the stream, the embedding, the weights and the gains lies.
-/
module

public import proofs.«01_k».proof.Proof.FirstOut
public import Idealize.ShloMosaic.Lib.Claim

@[expose] public section

set_option maxRecDepth 16384

noncomputable section

namespace Cert.Kernel2Ideal.Body

open Idealize.ShloMosaic Idealize.ShloMosaic.TcCoe Idealize.ShloMosaic.Tactic Idealize.SL.Sem
open Cert.Kernel2Ideal Cert.Kernel2Ideal.Gen Cert.Ffn

variable (m : (ℓ : Loc nD τ sig) → Buf (Elt Ideal) ℓ)

/-- The block indices of the windows at a grid point, decided over the grid. -/
theorem idx : ∀ t : Fin cfg0.N, win0_0.index t = ![t.val / 8, t.val % 8, 0] ∧ win0_1.index t = ![0, t.val / 8, t.val % 8, 0]
    ∧ win0_2.index t = ![0, 0, 0] ∧ win0_3.index t = ![0, 0, 0] ∧ win0_4.index t = ![0, 0, 0] ∧ win0_5.index t = ![0, 0, 0]
    ∧ win0_6.index t = ![0, 0, 0] ∧ win0_7.index t = ![0, 0, 0] ∧ win0_8.index t = ![0, 0, 0] ∧ win0_9.index t = ![0, 0, 0]
    ∧ win0_10.index t = ![0, 0, 0] :=
  (by decide +kernel : ∀ t : Fin grid0.N, _)

/-- The stream's block at a point: 512 rows of one sequence. -/
theorem blk0 (c : Dev nD) (t : Fin cfg0.N) (r : Fin 512) (k : Fin 1024) :
    iblk m c 0 t (ix3 0 r k) = m ((c : Thread nD τ).loc main_arg0)
      (ix3 ⟨t.val / 8, by have := lt_of_lt_of_eq t.isLt N_0; omega⟩ ⟨t.val % 8 * 512 + r.val, by omega⟩ k) := by
  blk_ext! [iblk, V, idx t]

/-- The embedding's block. -/
theorem blk1 (c : Dev nD) (t : Fin cfg0.N) (r : Fin 512) (k : Fin 256) :
    iblk m c 1 t (ix4 0 0 r k) = m ((c : Thread nD τ).loc main_arg1)
      (ix4 0 ⟨t.val / 8, by have := lt_of_lt_of_eq t.isLt N_0; omega⟩ ⟨t.val % 8 * 512 + r.val, by omega⟩ k) := by
  blk_ext! [iblk, V, idx t]

/-- The norm's gain before the channel mixer. -/
theorem blk2 (c : Dev nD) (t : Fin cfg0.N) (k : Fin 1024) :
    iblk m c 2 t (ix3 0 0 k) = m ((c : Thread nD τ).loc main_arg2) (ix2 0 k) := by
  blk_ext! [iblk, V, idx t]

/-- The gate projection. -/
theorem blk3 (c : Dev nD) (t : Fin cfg0.N) (k : Fin 1024) (j : Fin 2816) :
    iblk m c 3 t (ix3 0 k j) = m ((c : Thread nD τ).loc main_arg3) (ix3 0 k j) := by
  blk_ext! [iblk, V, idx t]

/-- The up projection. -/
theorem blk4 (c : Dev nD) (t : Fin cfg0.N) (k : Fin 1024) (j : Fin 2816) :
    iblk m c 4 t (ix3 0 k j) = m ((c : Thread nD τ).loc main_arg4) (ix3 0 k j) := by
  blk_ext! [iblk, V, idx t]

/-- The three taps of the gate. -/
theorem blk5 (c : Dev nD) (t : Fin cfg0.N) (a : Fin 3) (j : Fin 2816) :
    iblk m c 5 t (ix3 0 a j) = m ((c : Thread nD τ).loc main_arg5) (ix3 0 a j) := by
  blk_ext! [iblk, V, idx t]

/-- The down projection. -/
theorem blk6 (c : Dev nD) (t : Fin cfg0.N) (j : Fin 2816) (k : Fin 1024) :
    iblk m c 6 t (ix3 0 j k) = m ((c : Thread nD τ).loc main_arg6) (ix3 0 j k) := by
  blk_ext! [iblk, V, idx t]

/-- The norm's gain before the embedding gate. -/
theorem blk7 (c : Dev nD) (t : Fin cfg0.N) (k : Fin 1024) :
    iblk m c 7 t (ix3 0 0 k) = m ((c : Thread nD τ).loc main_arg7) (ix2 0 k) := by
  blk_ext! [iblk, V, idx t]

/-- The embedding's gate projection. -/
theorem blk8 (c : Dev nD) (t : Fin cfg0.N) (k j : Fin 1024) :
    iblk m c 8 t (ix3 0 k j) = m ((c : Thread nD τ).loc main_arg8) (ix3 0 k j) := by
  blk_ext! [iblk, V, idx t]

/-- The embedding's projection. -/
theorem blk9 (c : Dev nD) (t : Fin cfg0.N) (k : Fin 256) (j : Fin 1024) :
    iblk m c 9 t (ix3 0 k j) = m ((c : Thread nD τ).loc main_arg9) (ix3 0 k j) := by
  blk_ext! [iblk, V, idx t]

/-- The gain of the norm that follows the layer: the next layer's own. -/
theorem blk10 (c : Dev nD) (t : Fin cfg0.N) (k : Fin 1024) :
    iblk m c 10 t (ix3 0 0 k) = m ((c : Thread nD τ).loc main_arg10) (ix2 1 k) := by
  have e : ∀ x : S2x1x1024.Idx, (x 0).val = 0 → x 2 = k →
      V m c main_v10 x = m ((c : Thread nD τ).loc main_arg10) (ix2 1 k) := by
    intro x h0 h2
    entry_read
    obtain rfl : x = ix3 0 0 k := by
      rw [eq_ix3 x]
      exact congr (congrArg₂ ix3 (Fin.ext h0) (Subsingleton.elim _ _)) h2
    pointwise
  refine e _ ?_ ?_
  · blk_simp [idx t]
    rfl
  · refine Fin.ext ?_
    blk_simp [idx t]

end Cert.Kernel2Ideal.Body

end
-- ==== Proof.FirstKernel.lean ====
/-
  What the feed-forward call of the first layer leaves in its two results: row by row, the layer of `FfnMath`, and its norm
  for the next layer.
  The scratch a point hands on holds the last gate products of its block, so that a point reads, two rows and one row
  back, the sequence's own gate products, and zeros before the sequence's first row.
-/
module

public import proofs.«01_k».proof.Proof.FirstBlocks
public import proofs.«01_k».proof.Proof.FfnKernel

@[expose] public section

set_option maxRecDepth 16384

noncomputable section

namespace Cert.Kernel2Ideal.Body

open Idealize.ShloMosaic Idealize.ShloMosaic.TcCoe Idealize.ShloMosaic.Tactic Idealize.SL.Sem
open Cert.Kernel2Ideal Cert.Kernel2Ideal.Gen Cert.Ffn
open Cert.KernelIdeal.Body (gp buf buf_halo buf_row rowOut fst_eq snd_eq)

variable (m : (ℓ : Loc nD τ sig) → Buf (Elt Ideal) ℓ)

/-- Sequence `b` of the stream on device `c`. -/
abbrev seq (c : Dev nD) (b : Fin 4) (t : Fin 4096) (k : Fin 1024) : EReal := m ((c : Thread nD τ).loc main_arg0) (ix3 b t k)

/-- The gate product of row `t` of sequence `b`. -/
abbrev gprod (c : Dev nD) (b : Fin 4) : Fin 4096 → Fin 2816 → EReal :=
  gateProd (seq m c b) (fun k => m ((c : Thread nD τ).loc main_arg2) (ix2 0 k))
    (fun k j => m ((c : Thread nD τ).loc main_arg3) (ix3 0 k j))

/-- The stream after the first layer: row `t` of sequence `b`. -/
abbrev after (c : Dev nD) (b : Fin 4) (t : Fin 4096) : Fin 1024 → EReal :=
  layer (seq m c b) (fun k => m ((c : Thread nD τ).loc main_arg2) (ix2 0 k))
    (fun k j => m ((c : Thread nD τ).loc main_arg3) (ix3 0 k j)) (fun k j => m ((c : Thread nD τ).loc main_arg4) (ix3 0 k j))
    (fun a j => m ((c : Thread nD τ).loc main_arg5) (ix3 0 a j)) (fun j k => m ((c : Thread nD τ).loc main_arg6) (ix3 0 j k))
    (fun k => m ((c : Thread nD τ).loc main_arg7) (ix2 0 k)) (fun k j => m ((c : Thread nD τ).loc main_arg8) (ix3 0 k j))
    (fun t k => m ((c : Thread nD τ).loc main_arg1) (ix4 0 b t k)) (fun k j => m ((c : Thread nD τ).loc main_arg9) (ix3 0 k j)) t

/-- The sequence a point works on. -/
abbrev bat (t : Fin cfg0.N) : Fin 4 := ⟨t.val / 8, by have := lt_of_lt_of_eq t.isLt N_0; omega⟩

/-- The row of its sequence that a point's row `r` is. -/
abbrev row (t : Fin cfg0.N) (r : Fin 512) : Fin 4096 := ⟨t.val % 8 * 512 + r.val, by omega⟩

/-- The gate product a point computes is the sequence's. -/
theorem gp_blk (c : Dev nD) (t : Fin cfg0.N) (r : Fin 512) :
    gp (iblk m c 0 t) (iblk m c 2 t) (iblk m c 3 t) r = gprod m c (bat t) (row t r) := by
  unfold gp
  simp only [blk0, blk2, blk3]
  rfl

/-- The halo rows a point hands on. -/
theorem halo_at (c : Dev nD) (t : Fin cfg0.N) (r : Fin 520) (hr : r.val < 8) (j : Fin 2816) :
    (outsAt0 m c t.val t.isLt).2.2 (ix2 r j) = gprod m c (bat t) (row t ⟨504 + r.val, by omega⟩) j := by
  rw [← gp_blk]
  by_cases h0 : t.val % 8 = 0
  · exact (congrFun (snd_eq (snd_eq (outsAt0_A m c t h0))) _).trans
      (halo_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) ((hcond0_0 t).mpr h0) r hr j)
  · exact (congrFun (snd_eq (snd_eq (outsAt0_B m c t h0))) _).trans
      (halo_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2 (fun h => h0 ((hcond0_0 t).mp h)) r hr j)

/-- The scratch a point reads, `k` rows before its row `r` (`k` at most two), is the sequence's gate product `k` rows back,
    once the halo rows are: zeros at a sequence's first point, the last rows of the block before at another. -/
theorem buf_back (c : Dev nD) (t : Fin cfg0.N) (halo : Vec Ideal S520x2816 .f32) (k : ℕ) (hk : k ≤ 2)
    (hA : t.val % 8 = 0 → halo = fun _ => 0)
    (hB : ¬t.val % 8 = 0 → ∀ (r : Fin 520) (hr : r.val < 8) (j : Fin 2816), halo (ix2 r j)
      = gprod m c (bat t) ⟨t.val % 8 * 512 - 8 + r.val, by omega⟩ j)
    (r : Fin 512) (j : Fin 2816) :
    buf halo (iblk m c 0 t) (iblk m c 2 t) (iblk m c 3 t) (ix2 ⟨8 - k + r.val, by omega⟩ j)
      = back k (gprod m c (bat t)) (row t r) j := by
  unfold back
  by_cases hr : r.val < k
  · rw [buf_halo _ _ _ _ _ (show 8 - k + r.val < 8 by omega)]
    by_cases h0 : t.val % 8 = 0
    · rw [hA h0, if_neg (show ¬k ≤ t.val % 8 * 512 + r.val by omega)]
    · rw [hB h0 _ (show 8 - k + r.val < 8 by omega), if_pos (show k ≤ t.val % 8 * 512 + r.val by omega)]
      exact congrArg (fun i => gprod m c (bat t) i j)
        (Fin.ext (show t.val % 8 * 512 - 8 + (8 - k + r.val) = t.val % 8 * 512 + r.val - k by omega))
  · have e : (⟨8 - k + r.val, by omega⟩ : Fin 520) = ⟨8 + (⟨r.val - k, by omega⟩ : Fin 512).val, by omega⟩ :=
      Fin.ext (show 8 - k + r.val = 8 + (r.val - k) by omega)
    rw [e, buf_row, gp_blk, if_pos (show k ≤ t.val % 8 * 512 + r.val by omega)]
    exact congrArg (fun i => gprod m c (bat t) i j)
      (Fin.ext (show t.val % 8 * 512 + (r.val - k) = t.val % 8 * 512 + r.val - k by omega))

/-- A row of a point's block after the layer is the layer's row of its sequence. -/
theorem rowOut_blk (c : Dev nD) (t : Fin cfg0.N) (halo : Vec Ideal S520x2816 .f32)
    (hA : t.val % 8 = 0 → halo = fun _ => 0)
    (hB : ¬t.val % 8 = 0 → ∀ (r : Fin 520) (hr : r.val < 8) (j : Fin 2816), halo (ix2 r j)
      = gprod m c (bat t) ⟨t.val % 8 * 512 - 8 + r.val, by omega⟩ j) (r : Fin 512) :
    rowOut (iblk m c 0 t) (iblk m c 1 t) (iblk m c 2 t) (iblk m c 3 t) (iblk m c 4 t) (iblk m c 5 t) (iblk m c 6 t)
      (iblk m c 7 t) (iblk m c 8 t) (iblk m c 9 t) halo r = after m c (bat t) (row t r) := by
  have e2 : (fun j => buf halo (iblk m c 0 t) (iblk m c 2 t) (iblk m c 3 t) (ix2 ⟨6 + r.val, by omega⟩ j))
      = back 2 (gprod m c (bat t)) (row t r) := funext fun j => buf_back m c t halo 2 (by omega) hA hB r j
  have e1 : (fun j => buf halo (iblk m c 0 t) (iblk m c 2 t) (iblk m c 3 t) (ix2 ⟨7 + r.val, by omega⟩ j))
      = back 1 (gprod m c (bat t)) (row t r) := funext fun j => buf_back m c t halo 1 (by omega) hA hB r j
  unfold rowOut
  rw [e1, e2]
  simp only [blk0, blk1, blk2, blk3, blk4, blk5, blk6, blk7, blk8, blk9]
  rfl

/-- What a point leaves in the staging buffer of the stream. -/
theorem stream_at (c : Dev nD) (t : Fin cfg0.N) (r : Fin 512) (q : Fin 1024) :
    (outsAt0 m c t.val t.isLt).1 (ix3 0 r q)
      = after m c (bat t) (row t r) q := by
  by_cases h0 : t.val % 8 = 0
  · refine ((congrFun (fst_eq (outsAt0_A m c t h0)) _).trans
      (stream_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) ((hcond0_0 t).mpr h0) r q)).trans ?_
    rw [rowOut_blk m c t _ (fun _ => rfl) (fun h => absurd h0 h)]
  · refine ((congrFun (fst_eq (outsAt0_B m c t h0)) _).trans
      (stream_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2 (fun h => h0 ((hcond0_0 t).mp h)) r q)).trans ?_
    rw [rowOut_blk m c t _ (fun h => absurd h h0) (fun _ r hr j => ?_)]
    have hl : t.val - 1 < cfg0.N := Nat.lt_of_le_of_lt (Nat.sub_le _ _) t.isLt
    refine (halo_at m c ⟨t.val - 1, hl⟩ r hr j).trans ?_
    refine congrArg₂ (fun b i => gprod m c b i j) (Fin.ext (show (t.val - 1) / 8 = t.val / 8 by omega)) (Fin.ext ?_)
    show (t.val - 1) % 8 * 512 + (504 + r.val) = t.val % 8 * 512 - 8 + r.val
    omega

/-- What a point leaves in the staging buffer of the normed copy. -/
theorem norm_at (c : Dev nD) (t : Fin cfg0.N) (r : Fin 512) (q : Fin 1024) :
    (outsAt0 m c t.val t.isLt).2.1 (ix3 0 r q)
      = rms (after m c (bat t) (row t r)) (fun k => m ((c : Thread nD τ).loc main_arg10) (ix2 1 k)) q := by
  have e10 : (fun k => iblk m c 10 t (ix3 0 0 k)) = fun k => m ((c : Thread nD τ).loc main_arg10) (ix2 1 k) :=
    funext fun k => blk10 m c t k
  rw [← e10]
  by_cases h0 : t.val % 8 = 0
  · refine ((congrFun (fst_eq (snd_eq (outsAt0_A m c t h0))) _).trans
      (norm_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) ((hcond0_0 t).mpr h0) r q)).trans ?_
    rw [rowOut_blk m c t _ (fun _ => rfl) (fun h => absurd h0 h)]
  · refine ((congrFun (fst_eq (snd_eq (outsAt0_B m c t h0))) _).trans
      (norm_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2 (fun h => h0 ((hcond0_0 t).mp h)) r q)).trans ?_
    rw [rowOut_blk m c t _ (fun h => absurd h h0) (fun _ r hr j => ?_)]
    have hl : t.val - 1 < cfg0.N := Nat.lt_of_le_of_lt (Nat.sub_le _ _) t.isLt
    refine (halo_at m c ⟨t.val - 1, hl⟩ r hr j).trans ?_
    refine congrArg₂ (fun b i => gprod m c b i j) (Fin.ext (show (t.val - 1) / 8 = t.val / 8 by omega)) (Fin.ext ?_)
    show (t.val - 1) % 8 * 512 + (504 + r.val) = t.val % 8 * 512 - 8 + r.val
    omega

/-- THE STREAM: row `t` of sequence `b` is the layer's. -/
theorem result_stream (c : Dev nD) (b : Fin 4) (t : Fin 4096) (q : Fin 1024) :
    Value.G11 m c (ix3 b t q)
      = after m c b t q := by
  have hp : Value.pt11Of (ix3 b t q) = 8 * b.val + t.val / 512 := by
    show 8 * (b.val / 1 - 0) + 1 * (t.val / 512 - 0) + 1 * (q.val / 1024 - 0) = _
    omega
  have hlt : 8 * b.val + t.val / 512 < cfg0.N := by rw [show cfg0.N = 32 from N_0]; omega
  have hlt' : Value.pt11Of (ix3 b t q) < cfg0.N := by rw [hp]; exact hlt
  unfold Value.G11
  rw [dif_pos hlt', ← Value.outsAt0_sweep m c _ hlt']
  have hl : Value.loc11Of (ix3 b t q) = ix3 0 ⟨t.val % 512, Nat.mod_lt _ (by decide)⟩ q := by
    funext a
    fin_cases a
    · exact Fin.ext (Nat.mod_one _)
    · rfl
    · exact Fin.ext (Nat.mod_eq_of_lt q.isLt)
  rw [hl]
  refine (stream_at m c ⟨_, hlt'⟩ _ q).trans ?_
  refine congrArg₂ (fun b t => after m c b t q) (Fin.ext ?_) (Fin.ext ?_)
  · show Value.pt11Of (ix3 b t q) / 8 = b.val
    rw [hp]; omega
  · show Value.pt11Of (ix3 b t q) % 8 * 512 + t.val % 512 = t.val
    rw [hp]; omega

/-- THE NORMED COPY: row `t` of sequence `b` is the layer's row after the next layer's norm. -/
theorem result_norm (c : Dev nD) (b : Fin 4) (t : Fin 4096) (q : Fin 1024) :
    Value.G12 m c (ix3 b t q)
      = rms (after m c b t) (fun k => m ((c : Thread nD τ).loc main_arg10) (ix2 1 k)) q := by
  have hp : Value.pt12Of (ix3 b t q) = 8 * b.val + t.val / 512 := by
    show 8 * (b.val / 1 - 0) + 1 * (t.val / 512 - 0) + 1 * (q.val / 1024 - 0) = _
    omega
  have hlt : 8 * b.val + t.val / 512 < cfg0.N := by rw [show cfg0.N = 32 from N_0]; omega
  have hlt' : Value.pt12Of (ix3 b t q) < cfg0.N := by rw [hp]; exact hlt
  unfold Value.G12
  rw [dif_pos hlt', ← Value.outsAt0_sweep m c _ hlt']
  have hl : Value.loc12Of (ix3 b t q) = ix3 0 ⟨t.val % 512, Nat.mod_lt _ (by decide)⟩ q := by
    funext a
    fin_cases a
    · exact Fin.ext (Nat.mod_one _)
    · rfl
    · exact Fin.ext (Nat.mod_eq_of_lt q.isLt)
  rw [hl]
  refine (norm_at m c ⟨_, hlt'⟩ _ q).trans ?_
  refine congrArg (fun h => rms h _ q) ?_
  refine congrArg₂ (after m c) (Fin.ext ?_) (Fin.ext ?_)
  · show Value.pt12Of (ix3 b t q) / 8 = b.val
    rw [hp]; omega
  · show Value.pt12Of (ix3 b t q) % 8 * 512 + t.val % 512 = t.val
    rw [hp]; omega

end Cert.Kernel2Ideal.Body

end
-- ==== Proof.FirstRef.lean ====
/-
  What the reference of the first layer's feed-forward half computes: row by row, the layer of `FfnMath`, and its norm for
  the next layer.
-/
module

public import proofs.«01_k».proof.Proof.FfnMath
public import proofs.«01_k».proof.Proof.Gen.Reference2Ideal.Read
public import Idealize.ShloMosaic.Lib.Pointwise

@[expose] public section

set_option maxRecDepth 16384

noncomputable section

namespace Cert.Reference2Ideal.Rows

open Idealize.ShloMosaic Idealize.ShloMosaic.TcCoe Idealize.ShloMosaic.Tactic Idealize.SL.Sem Idealize.ShloMosaic.StableHlo
open Cert.Reference2Ideal Cert.Reference2Ideal.Gen Cert.Reference2Ideal.Read Cert.Ffn

variable (x0 : Vec Ideal S4x4096x1024 .f32) (x1 : Vec Ideal S2x4x4096x256 .f32) (x2 : Vec Ideal S2x1024 .f32)
  (x3 x4 : Vec Ideal S2x1024x2816 .f32) (x5 : Vec Ideal S2x3x2816 .f32) (x6 : Vec Ideal S2x2816x1024 .f32)
  (x7 : Vec Ideal S2x1024 .f32) (x8 : Vec Ideal S2x1024x1024 .f32) (x9 : Vec Ideal S2x256x1024 .f32)
  (x10 : Vec Ideal S2x1024 .f32) (b : Fin 4) (t : Fin 4096)

/-- The layer's normed input. -/
theorem normed (k : Fin 1024) :
    val_main_v14 (F := Ideal) x0 x2 (ix3 b t k) = rms (fun k => x0 (ix3 b t k)) (fun k => x2 (ix2 0 k)) k := by
  unfold rms
  pointwise [val_main_v14, val_main_v13, val_main_v12, val_main_v11, val_main_v10, val_main_v9, val_main_v8, val_main_v7,
    val_main_cst_1, val_main_v6, val_main_v5, val_main_cst_0, val_main_v4, val_main_v3, val_main_cst, val_main_v2,
    val_main_v1, val_main_v0]

/-- The gate product. -/
theorem gate_dot (j : Fin 2816) :
    val_main_v17 (F := Ideal) x0 x2 x3 (ix3 b t j)
      = gateProd (fun t k => x0 (ix3 b t k)) (fun k => x2 (ix2 0 k)) (fun k j => x3 (ix3 0 k j)) t j := by
  unfold gateProd rowMul
  simp only [← normed]
  pointwise [val_main_v17, val_main_v16, val_main_v15, dot_S4x4096x1024_S1024x2816_S4x4096x2816_2_0_01_1_n_n]

/-- The padding value, the integer zero read as a number. -/
theorem zero_int : (FloatOps.sitofp (F := Ideal) .f32 (0#32) : EReal) = 0 := by
  show (((0#32 : BitVec 32).toInt : ℝ) : EReal) = 0
  norm_num

/-- The gate. -/
theorem gated (j : Fin 2816) :
    val_main_v40 (F := Ideal) x0 x2 x3 x5 (ix3 b t j)
      = gate (fun a j => x5 (ix3 0 a j))
        (back 2 (fun t j => val_main_v17 (F := Ideal) x0 x2 x3 (ix3 b t j)) t)
        (back 1 (fun t j => val_main_v17 (F := Ideal) x0 x2 x3 (ix3 b t j)) t)
        (fun j => val_main_v17 (F := Ideal) x0 x2 x3 (ix3 b t j)) j := by
  unfold gate back
  pointwise [val_main_v40, val_main_v39, val_main_v38, val_main_v37, val_main_v36, val_main_v35, val_main_v34, val_main_v33,
    val_main_v32, val_main_v31, val_main_v30, val_main_v29, val_main_v28, val_main_v27, val_main_v26, val_main_v25,
    val_main_v24, val_main_v23, val_main_v22, val_main_v21, val_main_v20, val_main_call0_v0, val_main_c, val_main_v19,
    val_main_v18]
  rw [zero_int]
  refine congrArg₂ (· + ·) (congrArg₂ (· + ·) (congrArg (x5 (ix3 0 0 j) * ·) ?_) (congrArg (x5 (ix3 0 1 j) * ·) ?_)) rfl
  · by_cases h : 2 ≤ t.val
    · rw [dif_pos ⟨h, by omega⟩, if_pos h]
    · rw [dif_neg (fun h' => h h'.1), if_neg h]
  · by_cases h : 1 ≤ t.val
    · rw [dif_pos ⟨by omega, by omega⟩, if_pos h]
      exact congrArg (fun i => val_main_v17 (F := Ideal) x0 x2 x3 (ix3 b i j)) (Fin.ext (show 1 + t.val - 2 = t.val - 1 by omega))
    · rw [dif_neg (fun h' => h (by omega)), if_neg h]

/-- The activation. -/
theorem activated (j : Fin 2816) :
    val_main_v45 (F := Ideal) x0 x2 x3 x4 x5 (ix3 b t j)
      = act (fun j => val_main_v40 (F := Ideal) x0 x2 x3 x5 (ix3 b t j))
        (rowMul (fun k => val_main_v14 (F := Ideal) x0 x2 (ix3 b t k)) (fun k j => x4 (ix3 0 k j))) j := by
  unfold act rowMul
  rw [sigm_eq]
  pointwise [val_main_v45, val_main_v41, val_main_call1_v5, val_main_call1_v4, val_main_call1_cst_0, val_main_call1_v3,
    val_main_call1_v2, val_main_call1_cst, val_main_call1_v1, val_main_call1_v0, val_main_v44, val_main_v43, val_main_v42,
    dot_S4x4096x1024_S1024x2816_S4x4096x2816_2_0_01_1_n_n]

/-- The row after the channel mixer. -/
theorem mixed_row (k : Fin 1024) :
    val_main_v49 (F := Ideal) x0 x2 x3 x4 x5 x6 (ix3 b t k)
      = x0 (ix3 b t k) + rowMul (fun j => val_main_v45 (F := Ideal) x0 x2 x3 x4 x5 (ix3 b t j)) (fun j k => x6 (ix3 0 j k)) k := by
  unfold rowMul
  pointwise [val_main_v49, val_main_v48, val_main_v47, val_main_v46, dot_S4x4096x2816_S2816x1024_S4x4096x1024_2_0_01_1_n_n]

/-- The embedding's normed input. -/
theorem normed_mixed (k : Fin 1024) :
    val_main_v64 (F := Ideal) x0 x2 x3 x4 x5 x6 x7 (ix3 b t k)
      = rms (fun k => val_main_v49 (F := Ideal) x0 x2 x3 x4 x5 x6 (ix3 b t k)) (fun k => x7 (ix2 0 k)) k := by
  unfold rms
  pointwise [val_main_v64, val_main_v63, val_main_v62, val_main_v61, val_main_v60, val_main_v59, val_main_v58, val_main_v57,
    val_main_cst_4, val_main_v56, val_main_v55, val_main_cst_3, val_main_v54, val_main_v53, val_main_cst_2, val_main_v52,
    val_main_v51, val_main_v50]

/-- The row after the embedding. -/
theorem embedded (k : Fin 1024) :
    val_main_v80 (F := Ideal) x0 x1 x2 x3 x4 x5 x6 x7 x8 x9 (ix3 b t k)
      = val_main_v49 (F := Ideal) x0 x2 x3 x4 x5 x6 (ix3 b t k)
        + rowMul (fun k => x1 (ix4 0 b t k)) (fun k j => x9 (ix3 0 k j)) k
          * sigm (rowMul (fun k => val_main_v64 (F := Ideal) x0 x2 x3 x4 x5 x6 x7 (ix3 b t k)) (fun k j => x8 (ix3 0 k j)) k) := by
  unfold rowMul
  rw [sigm_eq]
  pointwise [val_main_v80, val_main_v79, val_main_v78, val_main_v77, val_main_cst_6, val_main_v76, val_main_v75,
    val_main_cst_5, val_main_v74, val_main_v73, val_main_v72, val_main_v71, val_main_v70, val_main_v69, val_main_v68,
    val_main_v67, val_main_v66, val_main_v65, dot_S4x4096x1024_S1024x1024_S4x4096x1024_2_0_01_1_n_n,
    dot_S4x4096x256_S256x1024_S4x4096x1024_2_0_01_1_n_n]

/-- The normed copy. -/
theorem final (k : Fin 1024) :
    val_main_v96 (F := Ideal) x0 x1 x2 x3 x4 x5 x6 x7 x8 x9 x10 (ix3 b t k)
      = rms (fun k => val_main_v80 (F := Ideal) x0 x1 x2 x3 x4 x5 x6 x7 x8 x9 (ix3 b t k)) (fun k => x10 (ix2 1 k)) k := by
  unfold rms
  pointwise [val_main_v96, val_main_v95, val_main_v94, val_main_v93, val_main_v92, val_main_v91, val_main_v90, val_main_v89,
    val_main_v88, val_main_v87, val_main_v86, val_main_cst_9, val_main_v85, val_main_cst_8, val_main_v84, val_main_v83,
    val_main_cst_7, val_main_v82, val_main_v81]

/-- The stream after the layer. -/
theorem stream : (fun k => val_main_v80 (F := Ideal) x0 x1 x2 x3 x4 x5 x6 x7 x8 x9 (ix3 b t k))
    = layer (fun t k => x0 (ix3 b t k)) (fun k => x2 (ix2 0 k)) (fun k j => x3 (ix3 0 k j)) (fun k j => x4 (ix3 0 k j))
      (fun a j => x5 (ix3 0 a j)) (fun j k => x6 (ix3 0 j k)) (fun k => x7 (ix2 0 k)) (fun k j => x8 (ix3 0 k j))
      (fun t k => x1 (ix4 0 b t k)) (fun k j => x9 (ix3 0 k j)) t := by
  have e49 : (fun k => val_main_v49 (F := Ideal) x0 x2 x3 x4 x5 x6 (ix3 b t k)) = _ := funext (mixed_row x0 x2 x3 x4 x5 x6 b t)
  have e64 : (fun k => val_main_v64 (F := Ideal) x0 x2 x3 x4 x5 x6 x7 (ix3 b t k)) = _ :=
    funext (normed_mixed x0 x2 x3 x4 x5 x6 x7 b t)
  have e14 : (fun k => val_main_v14 (F := Ideal) x0 x2 (ix3 b t k)) = _ := funext (normed x0 x2 b t)
  have e17 : (fun t j => val_main_v17 (F := Ideal) x0 x2 x3 (ix3 b t j)) = _ :=
    funext fun t => funext (gate_dot x0 x2 x3 b t)
  have e17' : (fun j => val_main_v17 (F := Ideal) x0 x2 x3 (ix3 b t j)) = _ := funext (gate_dot x0 x2 x3 b t)
  have e40 : (fun j => val_main_v40 (F := Ideal) x0 x2 x3 x5 (ix3 b t j)) = _ := funext (gated x0 x2 x3 x5 b t)
  have e45 : (fun j => val_main_v45 (F := Ideal) x0 x2 x3 x4 x5 (ix3 b t j)) = _ := funext (activated x0 x2 x3 x4 x5 b t)
  rw [e17, e17'] at e40
  rw [e40, e14] at e45
  rw [e45] at e49
  rw [e49] at e64
  funext k
  rw [embedded, e64, congrFun e49 k]
  rfl

end Cert.Reference2Ideal.Rows

end
-- ==== Proof.FirstLast.lean ====
/-
  The first layer's feed-forward call and its reference leave the same two result arrays: the stream after the layer of
  `FfnMath`, and its norm for the next layer, read at every index from the same arguments.
-/
module

public import proofs.«01_k».proof.Defs
public import proofs.«01_k».proof.Proof.FirstKernel
public import proofs.«01_k».proof.Proof.FirstRef

@[expose] public section

set_option maxRecDepth 16384

noncomputable section

namespace Cert.Ffn

open Idealize.ShloMosaic Idealize.ShloMosaic.TcCoe Idealize.SL.Sem Idealize.ShloMosaic.StableHlo

/-- The kernel and the reference run to the same two results over the extended reals, whatever the arguments hold. -/
theorem first_layer : Cert.algebraic_Kernel2Ideal_Reference2Ideal (hKernel2Ideal := Cert.Kernel2Ideal.Gen.facts)
    (hReference2Ideal := Cert.Reference2Ideal.Gen.facts) := by
  intro m ρ m' ρ' _ hagree
  refine ⟨fun c => Cert.Kernel2Ideal.Value.G11 m c, fun c => Cert.Kernel2Ideal.Value.G12 m c,
    Cert.Kernel2Ideal.Value.run (F := Ideal) m ρ, ?_⟩
  refine (θ_run Cert.Reference2Ideal.defs _ _).mono (fun r h c => ⟨?_, ?_, (h c).2.2⟩) (Cert.Reference2Ideal.Value.run (F := Ideal) m' ρ')
  all_goals obtain ⟨h0, h1, h2, h3, h4, h5, h6, h7, h8, h9, h10, -⟩ := hagree c
  · refine (h c).1.trans ((Cert.Reference2Ideal.Read.val_main_v80_eq (F := Ideal) (launchContents m' c)).trans ?_)
    rw [show launchContents m' c (Proc.devRef .tc Cert.Reference2Ideal.main_arg0) = _ from h0,
      show launchContents m' c (Proc.devRef .tc Cert.Reference2Ideal.main_arg1) = _ from h1,
      show launchContents m' c (Proc.devRef .tc Cert.Reference2Ideal.main_arg2) = _ from h2,
      show launchContents m' c (Proc.devRef .tc Cert.Reference2Ideal.main_arg3) = _ from h3,
      show launchContents m' c (Proc.devRef .tc Cert.Reference2Ideal.main_arg4) = _ from h4,
      show launchContents m' c (Proc.devRef .tc Cert.Reference2Ideal.main_arg5) = _ from h5,
      show launchContents m' c (Proc.devRef .tc Cert.Reference2Ideal.main_arg6) = _ from h6,
      show launchContents m' c (Proc.devRef .tc Cert.Reference2Ideal.main_arg7) = _ from h7,
      show launchContents m' c (Proc.devRef .tc Cert.Reference2Ideal.main_arg8) = _ from h8,
      show launchContents m' c (Proc.devRef .tc Cert.Reference2Ideal.main_arg9) = _ from h9]
    funext i
    rw [eq_ix3 i]
    exact (congrFun (Cert.Reference2Ideal.Rows.stream _ _ _ _ _ _ _ _ _ _ _ _) _).trans
      (Cert.Kernel2Ideal.Body.result_stream m c _ _ _).symm
  · refine (h c).2.1.trans ((Cert.Reference2Ideal.Read.val_main_v96_eq (F := Ideal) (launchContents m' c)).trans ?_)
    rw [show launchContents m' c (Proc.devRef .tc Cert.Reference2Ideal.main_arg0) = _ from h0,
      show launchContents m' c (Proc.devRef .tc Cert.Reference2Ideal.main_arg1) = _ from h1,
      show launchContents m' c (Proc.devRef .tc Cert.Reference2Ideal.main_arg2) = _ from h2,
      show launchContents m' c (Proc.devRef .tc Cert.Reference2Ideal.main_arg3) = _ from h3,
      show launchContents m' c (Proc.devRef .tc Cert.Reference2Ideal.main_arg4) = _ from h4,
      show launchContents m' c (Proc.devRef .tc Cert.Reference2Ideal.main_arg5) = _ from h5,
      show launchContents m' c (Proc.devRef .tc Cert.Reference2Ideal.main_arg6) = _ from h6,
      show launchContents m' c (Proc.devRef .tc Cert.Reference2Ideal.main_arg7) = _ from h7,
      show launchContents m' c (Proc.devRef .tc Cert.Reference2Ideal.main_arg8) = _ from h8,
      show launchContents m' c (Proc.devRef .tc Cert.Reference2Ideal.main_arg9) = _ from h9,
      show launchContents m' c (Proc.devRef .tc Cert.Reference2Ideal.main_arg10) = _ from h10]
    funext i
    rw [eq_ix3 i]
    exact ((Cert.Reference2Ideal.Rows.final _ _ _ _ _ _ _ _ _ _ _ _ _ _).trans
      (congrArg (fun h => rms h _ _) (Cert.Reference2Ideal.Rows.stream _ _ _ _ _ _ _ _ _ _ _ _))).trans
      (Cert.Kernel2Ideal.Body.result_norm m c _ _ _).symm

end Cert.Ffn

end
-- ==== Proof.MixRun.lean ====
module

public import proofs.«01_k».proof.Proof.Gen.Kernel3Ideal.Frame.RunA

@[expose] public section

set_option maxRecDepth 16384

noncomputable section

namespace Cert.Kernel3Ideal.Mixing

open Cert.Kernel3Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 6000000 in
/-- The mixing call's ideal kernel run at a point after the first: from the blocks `x·`, from the carried scratch as the point before left it (`xs·`)
    and from the other scratch at anything, the body ends with each buffer it stores into holding the listed pieces, last first. -/
noncomputable def runB (c : Dev nD) (i : grid0.Coords) (arg2 : Memref sig .tc .vmem S4x128x1024 .f32) (harg2 : arg2.IsWhole) (arg3 : Memref sig .tc .vmem S4x128x1024 .f32) (harg3 : arg3.IsWhole) (arg4 : Memref sig .tc .vmem S256x256 .bf16) (harg4 : arg4.IsWhole) (arg5 : Memref sig .tc .vmem S256x256 .f32) (harg5 : arg5.IsWhole) (arg6 : Memref sig .tc .vmem S128x512 .bf16) (harg6 : arg6.IsWhole) (arg7 : Memref sig .tc .vmem S1x1x1024 .f32) (harg7 : arg7.IsWhole) (arg8 : Memref sig .tc .vmem S1x1024x1536 .bf16) (harg8 : arg8.IsWhole) (arg9 : Memref sig .tc .vmem S1x1024x1536 .bf16) (harg9 : arg9.IsWhole) (arg10 : Memref sig .tc .vmem S1x1024x128 .bf16) (harg10 : arg10.IsWhole) (arg11 : Memref sig .tc .vmem S1x16x256 .f32) (harg11 : arg11.IsWhole) (arg12 : Memref sig .tc .vmem S1x128x512 .f32) (harg12 : arg12.IsWhole) (arg13 : Memref sig .tc .vmem S1x128x256 .f32) (harg13 : arg13.IsWhole) (arg14 : Memref sig .tc .vmem S1x4x768 .f32) (harg14 : arg14.IsWhole) (arg15 : Memref sig .tc .vmem S1x1x1024 .f32) (harg15 : arg15.IsWhole) (arg16 : Memref sig .tc .vmem S1x128x256 .f32) (harg16 : arg16.IsWhole) (arg17 : Memref sig .tc .vmem S1x128x256 .f32) (harg17 : arg17.IsWhole) (arg18 : Memref sig .tc .vmem S1x128x256 .f32) (harg18 : arg18.IsWhole) (arg19 : Memref sig .tc .vmem S1x31x256 .f32) (harg19 : arg19.IsWhole) (arg20 : Memref sig .tc .vmem S1x1024x1024 .bf16) (harg20 : arg20.IsWhole) (arg21 : Memref sig .tc .vmem S4x128x1024 .f32) (harg21 : arg21.IsWhole) (arg22 : Memref sig .tc .vmem S512x3200 .f32) (harg22 : arg22.IsWhole) (arg23 : Memref sig .tc .vmem S4x136x768 .f32) (harg23 : arg23.IsWhole) (arg24 : Memref sig .tc .vmem S4x136x1024 .f32) (harg24 : arg24.IsWhole) (arg25 : Memref sig .tc .vmem S4x160x256 .f32) (harg25 : arg25.IsWhole) (arg26 : Memref sig .tc .vmem S4x136x256 .f32) (harg26 : arg26.IsWhole) (arg27 : Memref sig .tc .vmem S4x256x256 .f32) (harg27 : arg27.IsWhole) (arg28 : Memref sig .tc .vmem S4x256x256 .f32) (harg28 : arg28.IsWhole) (arg29 : Memref sig .tc .vmem S512x1024 .f32) (harg29 : arg29.IsWhole) (hc0 : ¬cond0_0 i)
    (x0 : Vec F S4x128x1024 .f32) (x1 : Vec F S4x128x1024 .f32) (x2 : Vec F S256x256 .bf16) (x3 : Vec F S256x256 .f32) (x4 : Vec F S128x512 .bf16) (x5 : Vec F S1x1x1024 .f32) (x6 : Vec F S1x1024x1536 .bf16) (x7 : Vec F S1x1024x1536 .bf16) (x8 : Vec F S1x1024x128 .bf16) (x9 : Vec F S1x16x256 .f32) (x10 : Vec F S1x128x512 .f32) (x11 : Vec F S1x128x256 .f32) (x12 : Vec F S1x4x768 .f32) (x13 : Vec F S1x1x1024 .f32) (x14 : Vec F S1x128x256 .f32) (x15 : Vec F S1x128x256 .f32) (x16 : Vec F S1x128x256 .f32) (x17 : Vec F S1x31x256 .f32) (x18 : Vec F S1x1024x1024 .bf16) (xs1 : Vec F S4x136x768 .f32) (xs2 : Vec F S4x136x1024 .f32) (xs3 : Vec F S4x160x256 .f32) (xs5 : Vec F S4x256x256 .f32) (xs6 : Vec F S4x256x256 .f32) :
    Σ' (L19 : List (View.Piece (Elt F) S4x128x1024 .f32)), Σ' (LS1 : List (View.Piece (Elt F) S4x136x768 .f32)), Σ' (LS2 : List (View.Piece (Elt F) S4x136x1024 .f32)), Σ' (LS3 : List (View.Piece (Elt F) S4x160x256 .f32)), Σ' (LS5 : List (View.Piece (Elt F) S4x256x256 .f32)), Σ' (LS6 : List (View.Piece (Elt F) S4x256x256 .f32)), Σ' (LT0 : List (View.Piece (Elt F) S512x3200 .f32)), Σ' (LT4 : List (View.Piece (Elt F) S4x136x256 .f32)), { LT7 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ (∃ d, owns (c : Thread nD τ) arg21 fullShare d) ∗ (∃ d, owns (c : Thread nD τ) arg22 fullShare d) ∗ owns (c : Thread nD τ) arg23 fullShare xs1 ∗ owns (c : Thread nD τ) arg24 fullShare xs2 ∗ owns (c : Thread nD τ) arg25 fullShare xs3 ∗ (∃ d, owns (c : Thread nD τ) arg26 fullShare d) ∗ owns (c : Thread nD τ) arg27 fullShare xs5 ∗ owns (c : Thread nD τ) arg28 fullShare xs6 ∗ (∃ d, owns (c : Thread nD τ) arg29 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f LT0) ∗ (∃ f, arg23.view.loc (c : Thread nD τ) ↦[arg23.view.set]{fullShare} arg23.view.writes (Elt F) f LS1) ∗ (∃ f, arg24.view.loc (c : Thread nD τ) ↦[arg24.view.set]{fullShare} arg24.view.writes (Elt F) f LS2) ∗ (∃ f, arg25.view.loc (c : Thread nD τ) ↦[arg25.view.set]{fullShare} arg25.view.writes (Elt F) f LS3) ∗ (∃ f, arg26.view.loc (c : Thread nD τ) ↦[arg26.view.set]{fullShare} arg26.view.writes (Elt F) f LT4) ∗ (∃ f, arg27.view.loc (c : Thread nD τ) ↦[arg27.view.set]{fullShare} arg27.view.writes (Elt F) f LS5) ∗ (∃ f, arg28.view.loc (c : Thread nD τ) ↦[arg28.view.set]{fullShare} arg28.view.writes (Elt F) f LS6) ∗ (∃ f, arg29.view.loc (c : Thread nD τ) ↦[arg29.view.set]{fullShare} arg29.view.writes (Elt F) f LT7)) -∗ K ⟨⟩))
          ⊢ wp frame (wpE (defs₀ (F := F)) Variants.none c none) E (cc0_mix i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K } := by
  refine ⟨?_, ?_, ?_, ?_, ?_, ?_, ?_, ?_, ?_, fun E K => ?run⟩
  case run =>
    simp only [cc0_mix_eq_skeleton]; unfold cc0_mix_skel
    simp only [k0_part99_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part100_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%ds0, %fs0, -, HS0⟩, ⟨%fs1, %hfs1, HS1⟩, ⟨%fs2, %hfs2, HS2⟩, ⟨%fs3, %hfs3, HS3⟩, ⟨%ds4, %fs4, -, HS4⟩, ⟨%fs5, %hfs5, HS5⟩, ⟨%fs6, %hfs6, HS6⟩, ⟨%ds7, %fs7, -, HS7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg23.eq_unread hfs1; obtain rfl := harg24.eq_unread hfs2; obtain rfl := harg25.eq_unread hfs3; obtain rfl := harg27.eq_unread hfs5; obtain rfl := harg28.eq_unread hfs6
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]; · iexists _; iexact H19
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    iexists _; iexact HS7

end Cert.Kernel3Ideal.Mixing

end
-- ==== Proof.MixFrame.lean ====
module

public import proofs.«01_k».proof.Proof.MixRun
public import Idealize.ShloMosaic.Lib.Claim

@[expose] public section

/-! The frame of the mixing call (its ideal kernel): what each point leaves in the output's buffer and in the scratch carried
    between points, and from it that the whole call terminates, leaves its arguments unchanged and every counter at zero. The
    first point's run is the generated one; the other points' is `runB`. -/

set_option maxRecDepth 16384

noncomputable section

namespace Cert.Kernel3Ideal.Mixing

open Cert.Kernel3Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a point leaves: the output's block, then the five buffers carried to the next point. -/
abbrev Left (F : FTy → Type) : Type := Vec F S4x128x1024 .f32 × Vec F S4x136x768 .f32 × Vec F S4x136x1024 .f32 × Vec F S4x160x256 .f32 × Vec F S4x256x256 .f32 × Vec F S4x256x256 .f32

/-- The body's run at the first point. -/
abbrev atA (c : Dev nD) (t : Fin cfg0.N) (h0 : t.val % 32 = 0) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)

/-- The body's run at a later point, over what the point before left. -/
abbrev atB (c : Dev nD) (t : Fin cfg0.N) (h0 : ¬t.val % 32 = 0) (p : Left F) :=
  runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) p.2.1 p.2.2.1 p.2.2.2.1 p.2.2.2.2.1 p.2.2.2.2.2

/-- What the first point leaves: each buffer's pieces read back. -/
def outA (c : Dev nD) (t : Fin cfg0.N) (h0 : t.val % 32 = 0) : Left F :=
  (VO0_19.read (Elt F) (VO0_19.writes (Elt F) VO0_19.junk (atA m c t h0).1),
    VS0_1.read (Elt F) (VS0_1.writes (Elt F) VS0_1.junk (atA m c t h0).2.1),
    VS0_2.read (Elt F) (VS0_2.writes (Elt F) VS0_2.junk (atA m c t h0).2.2.1),
    VS0_3.read (Elt F) (VS0_3.writes (Elt F) VS0_3.junk (atA m c t h0).2.2.2.1),
    VS0_5.read (Elt F) (VS0_5.writes (Elt F) VS0_5.junk (atA m c t h0).2.2.2.2.1),
    VS0_6.read (Elt F) (VS0_6.writes (Elt F) VS0_6.junk (atA m c t h0).2.2.2.2.2.1))

/-! The pieces cover each buffer. -/
theorem coverA_19 (c : Dev nD) (t : Fin cfg0.N) (h0 : t.val % 32 = 0) (y : S4x128x1024.Idx) : ∃ pc ∈ (atA m c t h0).1, y ∈ pc.1.set :=
  View.cover_of_tiledL (atA m c t h0).1 S4x128x1024.size (by sl_kernel_rfl) y
theorem coverA_1 (c : Dev nD) (t : Fin cfg0.N) (h0 : t.val % 32 = 0) (y : S4x136x768.Idx) : ∃ pc ∈ (atA m c t h0).2.1, y ∈ pc.1.set :=
  View.cover_of_tiledBy (atA m c t h0).2.1 ![1, 8, 768] (by sl_kernel_rfl) y
theorem coverA_2 (c : Dev nD) (t : Fin cfg0.N) (h0 : t.val % 32 = 0) (y : S4x136x1024.Idx) : ∃ pc ∈ (atA m c t h0).2.2.1, y ∈ pc.1.set :=
  View.cover_of_tiledBy (atA m c t h0).2.2.1 ![1, 8, 1024] (by sl_kernel_rfl) y
theorem coverA_3 (c : Dev nD) (t : Fin cfg0.N) (h0 : t.val % 32 = 0) (y : S4x160x256.Idx) : ∃ pc ∈ (atA m c t h0).2.2.2.1, y ∈ pc.1.set :=
  View.cover_of_tiledBy (atA m c t h0).2.2.2.1 ![1, 32, 256] (by sl_kernel_rfl) y
theorem coverA_5 (c : Dev nD) (t : Fin cfg0.N) (h0 : t.val % 32 = 0) (y : S4x256x256.Idx) : ∃ pc ∈ (atA m c t h0).2.2.2.2.1, y ∈ pc.1.set :=
  View.cover_of_wholeMem (atA m c t h0).2.2.2.2.1 (by sl_whole_mem) y
theorem coverA_6 (c : Dev nD) (t : Fin cfg0.N) (h0 : t.val % 32 = 0) (y : S4x256x256.Idx) : ∃ pc ∈ (atA m c t h0).2.2.2.2.2.1, y ∈ pc.1.set :=
  View.cover_of_wholeMem (atA m c t h0).2.2.2.2.2.1 (by sl_whole_mem) y

/-- What a later point leaves: each buffer's pieces read back. -/
def outB (c : Dev nD) (t : Fin cfg0.N) (h0 : ¬t.val % 32 = 0) (p : Left F) : Left F :=
  (VO0_19.read (Elt F) (VO0_19.writes (Elt F) VO0_19.junk (atB m c t h0 p).1),
    VS0_1.read (Elt F) (VS0_1.writes (Elt F) VS0_1.junk (atB m c t h0 p).2.1),
    VS0_2.read (Elt F) (VS0_2.writes (Elt F) VS0_2.junk (atB m c t h0 p).2.2.1),
    VS0_3.read (Elt F) (VS0_3.writes (Elt F) VS0_3.junk (atB m c t h0 p).2.2.2.1),
    VS0_5.read (Elt F) (VS0_5.writes (Elt F) VS0_5.junk (atB m c t h0 p).2.2.2.2.1),
    VS0_6.read (Elt F) (VS0_6.writes (Elt F) VS0_6.junk (atB m c t h0 p).2.2.2.2.2.1))

/-! The pieces cover each buffer. -/
theorem coverB_19 (c : Dev nD) (t : Fin cfg0.N) (h0 : ¬t.val % 32 = 0) (p : Left F) (y : S4x128x1024.Idx) : ∃ pc ∈ (atB m c t h0 p).1, y ∈ pc.1.set :=
  View.cover_of_tiledL (atB m c t h0 p).1 S4x128x1024.size (by sl_kernel_rfl) y
theorem coverB_1 (c : Dev nD) (t : Fin cfg0.N) (h0 : ¬t.val % 32 = 0) (p : Left F) (y : S4x136x768.Idx) : ∃ pc ∈ (atB m c t h0 p).2.1, y ∈ pc.1.set :=
  View.cover_of_tiledBy (atB m c t h0 p).2.1 ![1, 8, 768] (by sl_kernel_rfl) y
theorem coverB_2 (c : Dev nD) (t : Fin cfg0.N) (h0 : ¬t.val % 32 = 0) (p : Left F) (y : S4x136x1024.Idx) : ∃ pc ∈ (atB m c t h0 p).2.2.1, y ∈ pc.1.set :=
  View.cover_of_tiledBy (atB m c t h0 p).2.2.1 ![1, 8, 1024] (by sl_kernel_rfl) y
theorem coverB_3 (c : Dev nD) (t : Fin cfg0.N) (h0 : ¬t.val % 32 = 0) (p : Left F) (y : S4x160x256.Idx) : ∃ pc ∈ (atB m c t h0 p).2.2.2.1, y ∈ pc.1.set :=
  View.cover_of_tiledBy (atB m c t h0 p).2.2.2.1 ![1, 32, 256] (by sl_kernel_rfl) y
theorem coverB_5 (c : Dev nD) (t : Fin cfg0.N) (h0 : ¬t.val % 32 = 0) (p : Left F) (y : S4x256x256.Idx) : ∃ pc ∈ (atB m c t h0 p).2.2.2.2.1, y ∈ pc.1.set :=
  View.cover_of_tiledL (atB m c t h0 p).2.2.2.2.1 S1x256x256.size (by sl_kernel_rfl) y
theorem coverB_6 (c : Dev nD) (t : Fin cfg0.N) (h0 : ¬t.val % 32 = 0) (p : Left F) (y : S4x256x256.Idx) : ∃ pc ∈ (atB m c t h0 p).2.2.2.2.2.1, y ∈ pc.1.set :=
  View.cover_of_tiledL (atB m c t h0 p).2.2.2.2.2.1 S1x256x256.size (by sl_kernel_rfl) y

/-- What the points leave, one after the other. -/
def outsAt (c : Dev nD) : (n : ℕ) → n < cfg0.N → Left F
  | 0, hn => outA m c ⟨0, hn⟩ (Nat.zero_mod _)
  | n + 1, hn => if h0 : (n + 1) % 32 = 0 then outA m c ⟨n + 1, hn⟩ h0 else outB m c ⟨n + 1, hn⟩ h0 (outsAt c n (Nat.lt_of_succ_lt hn))

theorem outsAt_A (c : Dev nD) (t : Fin cfg0.N) (h0 : t.val % 32 = 0) : outsAt m c t.val t.isLt = outA m c t h0 := by
  obtain ⟨n, hn⟩ := t
  cases n with
  | zero => exact rfl
  | succ n => exact (dif_pos h0).trans rfl

theorem outsAt_B (c : Dev nD) (t : Fin cfg0.N) (h0 : ¬t.val % 32 = 0) :
    outsAt m c t.val t.isLt = outB m c t h0 (outsAt m c (t.val - 1) (Nat.lt_of_le_of_lt (Nat.sub_le _ _) t.isLt)) := by
  obtain ⟨n, hn⟩ := t
  cases n with
  | zero => exact absurd (Nat.zero_mod _) h0
  | succ n => exact (dif_neg h0).trans rfl

/-- What the scratch holds before point `n`: at the first anything, afterwards the carried buffers what the point before left. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((outsAt m c n hn).2.1) ∗ owns (c : Thread nD τ) scM0_2 fullShare ((outsAt m c n hn).2.2.1) ∗ owns (c : Thread nD τ) scM0_3 fullShare ((outsAt m c n hn).2.2.2.1) ∗ (∃ d, owns (c : Thread nD τ) scM0_4 fullShare d) ∗ owns (c : Thread nD τ) scM0_5 fullShare ((outsAt m c n hn).2.2.2.2.1) ∗ owns (c : Thread nD τ) scM0_6 fullShare ((outsAt m c n hn).2.2.2.2.2) ∗ (∃ d, owns (c : Thread nD τ) scM0_7 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((outsAt m c n hn).2.1) ∗ owns (c : Thread nD τ) scM0_2 fullShare ((outsAt m c n hn).2.2.1) ∗ owns (c : Thread nD τ) scM0_3 fullShare ((outsAt m c n hn).2.2.2.1) ∗ (∃ d, owns (c : Thread nD τ) scM0_4 fullShare d) ∗ owns (c : Thread nD τ) scM0_5 fullShare ((outsAt m c n hn).2.2.2.2.1) ∗ owns (c : Thread nD τ) scM0_6 fullShare ((outsAt m c n hn).2.2.2.2.2) ∗ (∃ d, owns (c : Thread nD τ) scM0_7 fullShare d)) ∗ (∃ r, prngReg c r)) := rfl

theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((outsAt m c (n - 1) (by omega)).2.1) ∗ owns (c : Thread nD τ) scM0_2 fullShare ((outsAt m c (n - 1) (by omega)).2.2.1) ∗ owns (c : Thread nD τ) scM0_3 fullShare ((outsAt m c (n - 1) (by omega)).2.2.2.1) ∗ (∃ d, owns (c : Thread nD τ) scM0_4 fullShare d) ∗ owns (c : Thread nD τ) scM0_5 fullShare ((outsAt m c (n - 1) (by omega)).2.2.2.2.1) ∗ owns (c : Thread nD τ) scM0_6 fullShare ((outsAt m c (n - 1) (by omega)).2.2.2.2.2) ∗ (∃ d, owns (c : Thread nD τ) scM0_7 fullShare d)) ∗ (∃ r, prngReg c r)) := by
  cases n with
  | zero => exact absurd rfl hz
  | succ n => rfl

/-- The pipeline's proof data: the arrays as the call finds them, each input's buffer at its block, the output's at `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => (outsAt m c t.val t.isLt).1
    | ⟨_ + 20, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = (outsAt m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t))

set_option maxHeartbeats 22400000 in
/-- The body at any point: the run of its case applies, and leaves what `outsAt` says. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19]
  rw [show (dats m 0 c).Φ t.succ = PhiS m c (t.val + 1) t.isLt from rfl, PhiS_succ]
  have hN : t.val < 32 := lt_of_lt_of_eq t.isLt (show cfg0.N = 32 from N_0)
  by_cases h0 : t.val % 32 = 0
  · by_cases hz : t.val = 0
    · rw [PhiS_castSucc m c t, PhiS_zero m c _ _ hz, PhiA0_eq]
      rw [outsAt_A m c t h0]
      unfold outA; (try dsimp only)
      iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
      iapply ((atA m c t h0).2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexists _; iexact H19
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      iintro ⟨H0, H1, H2, H3, H4, H5, H6, H7, H8, H9, H10, H11, H12, H13, H14, H15, H16, H17, H18, ⟨%e19, H19⟩, ⟨%fT0, HS0⟩, ⟨%es1, HS1⟩, ⟨%es2, HS2⟩, ⟨%es3, HS3⟩, ⟨%fT4, HS4⟩, ⟨%es5, HS5⟩, ⟨%es6, HS6⟩, ⟨%fT7, HS7⟩⟩
      isplitl [HS0 HS1 HS2 HS3 HS4 HS5 HS6 HS7 Hg]
      · isplitl [HS0 HS1 HS2 HS3 HS4 HS5 HS6 HS7]
        · isplitl [HS0]
          · iexists _; unfold owns; iexists _; isplitr
            swap; · iexact HS0
            ipureintro; rfl
          isplitl [HS1]
          · unfold owns; iexists _; isplitr
            swap; · iexact HS1
            ipureintro; exact View.read_writes_of_cover _ _ _ _ _ (coverA_1 m c t h0)
          isplitl [HS2]
          · unfold owns; iexists _; isplitr
            swap; · iexact HS2
            ipureintro; exact View.read_writes_of_cover _ _ _ _ _ (coverA_2 m c t h0)
          isplitl [HS3]
          · unfold owns; iexists _; isplitr
            swap; · iexact HS3
            ipureintro; exact View.read_writes_of_cover _ _ _ _ _ (coverA_3 m c t h0)
          isplitl [HS4]
          · iexists _; unfold owns; iexists _; isplitr
            swap; · iexact HS4
            ipureintro; rfl
          isplitl [HS5]
          · unfold owns; iexists _; isplitr
            swap; · iexact HS5
            ipureintro; exact View.read_writes_of_cover _ _ _ _ _ (coverA_5 m c t h0)
          isplitl [HS6]
          · unfold owns; iexists _; isplitr
            swap; · iexact HS6
            ipureintro; exact View.read_writes_of_cover _ _ _ _ _ (coverA_6 m c t h0)
          iexists _; unfold owns; iexists _; isplitr
          swap; · iexact HS7
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      unfold owns; iexists _; isplitr
      swap; · iexact H19
      ipureintro; exact View.read_writes_of_cover _ _ _ _ _ (coverA_19 m c t h0)
    · exfalso; have hN : t.val < 32 := lt_of_lt_of_eq t.isLt (show cfg0.N = 32 from N_0); omega
  · by_cases hz : t.val = 0
    · exfalso; have hN : t.val < 32 := lt_of_lt_of_eq t.isLt (show cfg0.N = 32 from N_0); omega
    · rw [PhiS_castSucc m c t, PhiS_pos m c _ _ hz]
      rw [outsAt_B m c t h0]
      unfold outB; (try dsimp only)
      iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
      iapply ((atB m c t h0 (outsAt m c (t.val - 1) (Nat.lt_of_le_of_lt (Nat.sub_le _ _) t.isLt))).2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexists _; iexact H19
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      iintro ⟨H0, H1, H2, H3, H4, H5, H6, H7, H8, H9, H10, H11, H12, H13, H14, H15, H16, H17, H18, ⟨%e19, H19⟩, ⟨%fT0, HS0⟩, ⟨%es1, HS1⟩, ⟨%es2, HS2⟩, ⟨%es3, HS3⟩, ⟨%fT4, HS4⟩, ⟨%es5, HS5⟩, ⟨%es6, HS6⟩, ⟨%fT7, HS7⟩⟩
      isplitl [HS0 HS1 HS2 HS3 HS4 HS5 HS6 HS7 Hg]
      · isplitl [HS0 HS1 HS2 HS3 HS4 HS5 HS6 HS7]
        · isplitl [HS0]
          · iexists _; unfold owns; iexists _; isplitr
            swap; · iexact HS0
            ipureintro; rfl
          isplitl [HS1]
          · unfold owns; iexists _; isplitr
            swap; · iexact HS1
            ipureintro; exact View.read_writes_of_cover _ _ _ _ _ (coverB_1 m c t h0 _)
          isplitl [HS2]
          · unfold owns; iexists _; isplitr
            swap; · iexact HS2
            ipureintro; exact View.read_writes_of_cover _ _ _ _ _ (coverB_2 m c t h0 _)
          isplitl [HS3]
          · unfold owns; iexists _; isplitr
            swap; · iexact HS3
            ipureintro; exact View.read_writes_of_cover _ _ _ _ _ (coverB_3 m c t h0 _)
          isplitl [HS4]
          · iexists _; unfold owns; iexists _; isplitr
            swap; · iexact HS4
            ipureintro; rfl
          isplitl [HS5]
          · unfold owns; iexists _; isplitr
            swap; · iexact HS5
            ipureintro; exact View.read_writes_of_cover _ _ _ _ _ (coverB_5 m c t h0 _)
          isplitl [HS6]
          · unfold owns; iexists _; isplitr
            swap; · iexact HS6
            ipureintro; exact View.read_writes_of_cover _ _ _ _ _ (coverB_6 m c t h0 _)
          iexists _; unfold owns; iexists _; isplitr
          swap; · iexact HS7
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      unfold owns; iexists _; isplitr
      swap; · iexact H19
      ipureintro; exact View.read_writes_of_cover _ _ _ _ _ (coverB_19 m c t h0 _)

theorem defs₀_row (t : Fin cfg0.N) :
    defs₀ (F := F) .tc cfg0.body (cfg0.bodyArgs t (cfg0.slots t)) = bodyAt0 t := by
  unfold defs₀; rw [Defs.onTc_tc]

set_option maxHeartbeats 4000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- Before the first point the scratch is at anything. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6, HS7⟩, Hg⟩
  isplitl [HS0 HS1 HS2 HS3 HS4 HS5 HS6 HS7]
  · isplitl [HS0]
    · iexact HS0
    isplitl [HS1]
    · iexists _; iexact HS1
    isplitl [HS2]
    · iexists _; iexact HS2
    isplitl [HS3]
    · iexists _; iexact HS3
    isplitl [HS4]
    · iexact HS4
    isplitl [HS5]
    · iexists _; iexact HS5
    isplitl [HS6]
    · iexists _; iexact HS6
    iexact HS7
  iexact Hg

/-- After the last point the scratch is given back. -/
theorem hout (c : Dev nD) : (dats m 0 c).Φ (Fin.last cfg0.N) ⊢ Pipeline.ΦA spec0 c :=
  Phi_out m c _ (by rw [Fin.val_last]; have : cfg0.N = 32 := N_0; omega)

set_option backward.isDefEq.respectTransparency.types false in
/-- Every execution of the call ends with the arrays as the proof data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  frame_of m ρ (dats m) (A_eq m) (run_main m ρ)

/-- The call terminates, leaves its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26))
      ∧ r.2.sem = fun _ => 0) :=
  θ_run_and (unchanged m ρ) ((θ_run defs _ _).mono (fun _ h => h.2) (run_main_quiescent m ρ))

end Cert.Kernel3Ideal.Mixing

end
-- ==== Proof.MixMath.lean ====
/-
  The mathematics of the two feed-forward groups of the mixing call, over the extended reals, with no program in sight: the
  gated spatial unit (group A) and the causal depthwise convolution unit (group D), and the layer's output row made of them.
-/
module

public import proofs.«01_k».proof.Proof.FfnMath

@[expose] public section

noncomputable section

namespace Cert.Mix

open Idealize.ShloMosaic Cert.Ffn

/-- The tanh form of the Gaussian error unit. -/
def gelu (x : EReal) : EReal :=
  half * x * (1 + Ideal.tanh (Ideal.ofBits .f32 1061962282#32 * (x + Ideal.ofBits .f32 1027024659#32 * (x * x * x))))

/-- The mean of a row of 256. -/
def mean (x : Fin 256 → EReal) : EReal := Ideal.div (∑ k, x k) (Ideal.ofBits .f32 1132462080#32)

/-- The layer norm of a row of 256, with gain and bias. -/
def lnorm (x g b : Fin 256 → EReal) (c : Fin 256) : EReal :=
  (x c - mean x) * Ideal.rsqrt (mean (fun k => (x k - mean x) * (x k - mean x)) + Ideal.ofBits .f32 925353388#32) * g c + b c

/-- The weight of position `j` for position `i` of a block of 128: none when `j` lies in a later half than `i`. -/
def masked (w : Fin 128 → Fin 128 → EReal) (i j : Fin 128) : EReal := if j.val / 64 ≤ i.val / 64 then w i j else 0

/-- The head of a channel of group A. -/
def head (c : Fin 256) : Fin 4 := ⟨c.val / 64, by omega⟩

/-- Group A over one block of 128 positions: `u` and `v` are the two halves of the block's projection, `w` the heads'
    spatial weights and `b` the biases, spread over the channels. -/
def gateA (u v : Fin 128 → Fin 256 → EReal) (vg vb : Fin 256 → EReal) (w : Fin 4 → Fin 128 → Fin 128 → EReal)
    (b : Fin 128 → Fin 256 → EReal) (i : Fin 128) (c : Fin 256) : EReal :=
  gelu (u i c) * ((∑ j, masked (w (head c)) i j * lnorm (fun k => gelu (v j k)) vg vb c) + b i c)

/-- The gated linear unit. -/
def glu (a b : EReal) : EReal := a * sigm b

/-- Group D on one row: `s` is the convolution's row. -/
def unitD (s lg lb : Fin 256 → EReal) (c : Fin 256) : EReal := lnorm s lg lb c * sigm (lnorm s lg lb c)

/-- The output row made of groups A and D. -/
def outRow (x : Fin 1024 → EReal) (oA oD : Fin 256 → EReal) (WA WD : Fin 256 → Fin 1024 → EReal) (q : Fin 1024) : EReal :=
  x q + (rowMul oA WA q + rowMul oD WD q)

/-- A sequence's row `k` places back, zero before the first row. -/
def behind {T : ℕ} (k : ℕ) (f : Fin T → Fin 256 → EReal) (t : Fin T) (c : Fin 256) : EReal :=
  if k ≤ t.val then f ⟨t.val - k, lt_of_le_of_lt (Nat.sub_le _ _) t.isLt⟩ c else 0

/-- The causal depthwise convolution of 31 taps, the last tap on the row itself. -/
def convD {T : ℕ} (w : Fin 31 → Fin 256 → EReal) (f : Fin T → Fin 256 → EReal) (cb : Fin 256 → EReal) (t : Fin T) (c : Fin 256) :
    EReal := (∑ k : Fin 31, w k c * behind (30 - k.val) f t c) + cb c

/-- Position `j` of the block of 128 that row `t` lies in. -/
def blockRow (t : Fin 4096) (j : Fin 128) : Fin 4096 := ⟨t.val / 128 * 128 + j.val, by omega⟩

/-- Group A of a sequence, over the projection's rows `z`. -/
def groupA (z : Fin 4096 → Fin 3080 → EReal) (vg vb : Fin 256 → EReal) (w : Fin 4 → Fin 128 → Fin 128 → EReal)
    (b : Fin 4 → Fin 128 → EReal) (t : Fin 4096) : Fin 256 → EReal :=
  gateA (fun j c => z (blockRow t j) ⟨c.val, by omega⟩) (fun j c => z (blockRow t j) ⟨256 + c.val, by omega⟩) vg vb w
    (fun i c => b (head c) i) ⟨t.val % 128, by omega⟩

/-- Group D of a sequence, over the projection's rows `z`. -/
def groupD (z : Fin 4096 → Fin 3080 → EReal) (w : Fin 31 → Fin 256 → EReal) (cb lg lb : Fin 256 → EReal) (t : Fin 4096) :
    Fin 256 → EReal :=
  unitD (convD w (fun t c => glu (z t ⟨2568 + c.val, by omega⟩) (z t ⟨2824 + c.val, by omega⟩)) cb t) lg lb

/-- THE LAYER'S MIXING with the recurrent groups' output rows off: row `t` of the stream plus groups A and D through their rows
    of the output projection. -/
def mixing (h : Fin 4096 → Fin 1024 → EReal) (g : Fin 1024 → EReal) (W : Fin 1024 → Fin 3080 → EReal) (vg vb : Fin 256 → EReal)
    (ws : Fin 4 → Fin 128 → Fin 128 → EReal) (bs : Fin 4 → Fin 128 → EReal) (cw : Fin 31 → Fin 256 → EReal)
    (cb lg lb : Fin 256 → EReal) (Wo : Fin 1024 → Fin 1024 → EReal) (t : Fin 4096) : Fin 1024 → EReal :=
  outRow (h t) (groupA (fun t => rowMul (rms (h t) g) W) vg vb ws bs t) (groupD (fun t => rowMul (rms (h t) g) W) cw cb lg lb t)
    (fun c q => Wo ⟨c.val, by omega⟩ q) (fun c q => Wo ⟨768 + c.val, by omega⟩ q)

/-- A sum of 31 terms, written out from the left. -/
theorem taps_sum (f : Fin 31 → EReal) :
    f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30
      = ∑ k, f k := by
  simp only [Fin.sum_univ_castSucc, Fin.sum_univ_zero, zero_add]
  rfl

/-- The causal depthwise convolution's 31 terms summed by the tap's residue modulo 8, the bias after the first group. -/
theorem sum_taps (f : Fin 31 → EReal) (b : EReal) :
    f 6 + f 14 + f 22 + f 30 + b + (f 7 + f 15 + f 23) + (f 0 + f 8 + f 16 + f 24) + (f 1 + f 9 + f 17 + f 25)
      + (f 2 + f 10 + f 18 + f 26) + (f 3 + f 11 + f 19 + f 27) + (f 4 + f 12 + f 20 + f 28) + (f 5 + f 13 + f 21 + f 29)
      = (∑ k, f k) + b := by
  rw [← taps_sum]
  ac_rfl

/-- A sum over 512 as four sums over 128. -/
theorem sum_heads (f : Fin 512 → EReal) : ∑ x, f x = ∑ h : Fin 4, ∑ j : Fin 128, f ⟨h.val * 128 + j.val, by omega⟩ := by
  rw [Fin.sum_univ_four, Fin.sum_univ_add (a := 384) (b := 128) f, Fin.sum_univ_add (a := 256) (b := 128),
    Fin.sum_univ_add (a := 128) (b := 128)]
  simp only [Fin.castAdd, Fin.castLE, Fin.natAdd]
  simp

/-- A product summed over four stacked heads, of which only the channel's own is not zero. -/
theorem stacked (W f : Fin 512 → EReal) (c : Fin 256) (V : Fin 128 → EReal)
    (hf : ∀ (h : Fin 4) (j : Fin 128), f ⟨h.val * 128 + j.val, by omega⟩ = if h = head c then V j else 0) :
    ∑ x, W x * f x = ∑ j : Fin 128, W ⟨(head c).val * 128 + j.val, by have := (head c).isLt; omega⟩ * V j := by
  rw [sum_heads, Finset.sum_eq_single (head c)]
  · exact Finset.sum_congr rfl fun j _ => by rw [hf, if_pos rfl]
  · intro h _ hh
    exact Finset.sum_eq_zero fun j _ => by rw [hf, if_neg hh, mul_zero]
  · exact fun h => absurd (Finset.mem_univ _) h

/-- The lane's head, as the kernel's shifted lane number. -/
theorem lane_head : ∀ c : Fin 256, IntOp.shrsi .vector (BitVec.ofNat 32 c.val) 6#32 = BitVec.ofNat 32 (head c).val := by
  decide +kernel

/-- A channel kept on its own head's copy. -/
theorem lane_select (c : Fin 256) (h : Fin 4) (a : EReal) :
    Scalar.select (IntOp.cmpi .eq (IntOp.shrsi .vector (BitVec.ofNat 32 c.val) 6#32) (BitVec.ofNat 32 h.val)) a 0
      = if h = head c then a else 0 := by
  have e : ∀ h k : Fin 4, IntOp.cmpi .eq (BitVec.ofNat 32 k.val) (BitVec.ofNat 32 h.val) = if h = k then 1#1 else 0#1 := by
    decide
  rw [lane_head, e, Scalar.select]
  by_cases hh : h = head c <;> simp [hh]

/-- A product summed over four stacked copies of a block, the copies written piece by piece and each kept on its own head's
    lanes: the sum over the channel's own copy. -/
theorem stacked_blocks (W : Fin 512 → EReal) (c : Fin 256) (V : Fin 128 → EReal)
    {a0 : ∀ x : Fin 512, x.val < 128 → EReal} {a1 : ∀ x : Fin 512, ¬ x.val < 128 → x.val - 128 < 128 → EReal}
    {a2 : ∀ x : Fin 512, ¬ x.val < 128 → ¬ x.val - 128 < 128 → x.val - 128 - 128 < 128 → EReal}
    {a3 : ∀ x : Fin 512, ¬ x.val < 128 → ¬ x.val - 128 < 128 → ¬ x.val - 128 - 128 < 128 → EReal}
    (h0 : ∀ x h, a0 x h = Scalar.select (IntOp.cmpi .eq (IntOp.shrsi .vector (BitVec.ofNat 32 c.val) 6#32) 0#32) (V ⟨x.val, h⟩) 0)
    (h1 : ∀ x h h', a1 x h h'
      = Scalar.select (IntOp.cmpi .eq (IntOp.shrsi .vector (BitVec.ofNat 32 c.val) 6#32) 1#32) (V ⟨x.val - 128, h'⟩) 0)
    (h2 : ∀ x h h' h'', a2 x h h' h''
      = Scalar.select (IntOp.cmpi .eq (IntOp.shrsi .vector (BitVec.ofNat 32 c.val) 6#32) 2#32) (V ⟨x.val - 128 - 128, h''⟩) 0)
    (h3 : ∀ x h h' h'', a3 x h h' h''
      = Scalar.select (IntOp.cmpi .eq (IntOp.shrsi .vector (BitVec.ofNat 32 c.val) 6#32) 3#32)
        (V ⟨x.val - 128 - 128 - 128, by omega⟩) 0) :
    (∑ x, W x * if h : x.val < 128 then a0 x h else if h' : x.val - 128 < 128 then a1 x h h'
      else if h'' : x.val - 128 - 128 < 128 then a2 x h h' h'' else a3 x h h' h'')
      = ∑ j : Fin 128, W ⟨(head c).val * 128 + j.val, by have := (head c).isLt; omega⟩ * V j := by
  refine stacked W _ c V fun h j => ?_
  have l : ∀ k (hk : k < 128), k = j.val → (⟨k, hk⟩ : Fin 128) = j := fun k hk e => Fin.ext e
  rw [← lane_select c h (V j)]
  obtain ⟨x, hx⟩ : ∃ x : Fin 512, x = ⟨h.val * 128 + j.val, by omega⟩ := ⟨_, rfl⟩
  rw [← hx]
  replace hx : x.val = h.val * 128 + j.val := by rw [hx]
  have hj := j.isLt
  match h, hx with
  | 0, hx =>
    replace hx : x.val = 0 * 128 + j.val := hx
    rw [dif_pos (by omega), h0, l _ _ (by omega)]; rfl
  | 1, hx =>
    replace hx : x.val = 1 * 128 + j.val := hx
    rw [dif_neg (by omega), dif_pos (by omega), h1, l _ _ (by omega)]; rfl
  | 2, hx =>
    replace hx : x.val = 2 * 128 + j.val := hx
    rw [dif_neg (by omega), dif_neg (by omega), dif_pos (by omega), h2, l _ _ (by omega)]; rfl
  | 3, hx =>
    replace hx : x.val = 3 * 128 + j.val := hx
    rw [dif_neg (by omega), dif_neg (by omega), dif_neg (by omega), h3, l _ _ (by omega)]; rfl

/-- The halves' order, as the kernel's shifted position numbers. -/
theorem half_select (i j : Fin 128) (h : Fin 4) (a : EReal) :
    Scalar.select (IntOp.cmpi .sle (IntOp.shrsi .vector (IntOp.andi (BitVec.ofNat 32 (h.val * 128 + j.val)) 127#32) 6#32)
      (IntOp.shrsi .vector (BitVec.ofNat 32 i.val) 6#32)) a 0 = if j.val / 64 ≤ i.val / 64 then a else 0 := by
  have e1 : ∀ (h : Fin 4) (j : Fin 128), IntOp.shrsi .vector (IntOp.andi (BitVec.ofNat 32 (h.val * 128 + j.val)) 127#32) 6#32
      = BitVec.ofNat 32 (j.val / 64) := by decide +kernel
  have e2 : ∀ i : Fin 128, IntOp.shrsi .vector (BitVec.ofNat 32 i.val) 6#32 = BitVec.ofNat 32 (i.val / 64) := by decide +kernel
  have e3 : ∀ p q : Fin 2, IntOp.cmpi .sle (BitVec.ofNat 32 p.val) (BitVec.ofNat 32 q.val) = if p.val ≤ q.val then 1#1 else 0#1 := by
    decide
  have e4 := e3 ⟨j.val / 64, by omega⟩ ⟨i.val / 64, by omega⟩
  rw [e1, e2, e4, Scalar.select]
  by_cases hh : j.val / 64 ≤ i.val / 64 <;> simp [hh]

end Cert.Mix

end
-- ==== Proof.MixBody.lean ====
/-
  The values the mixing kernel's body computes for groups A and D, each read at an index, over blocks the proof names.
-/
module

public import proofs.«01_k».proof.Proof.Gen.Kernel3Ideal.Skeleton
public import proofs.«01_k».proof.Proof.MixMath

@[expose] public section

set_option maxRecDepth 16384

noncomputable section

namespace Cert.Kernel3Ideal.Body

open Idealize.ShloMosaic Idealize.ShloMosaic.TcCoe Idealize.ShloMosaic.Tactic Idealize.SL.Sem
open Cert.Kernel3Ideal Cert.Kernel3Ideal.Gen Cert.Ffn Cert.Mix

/-- Row `r` of sequence `b` in the body's 512 rows. -/
def row (b : Fin 4) (r : Fin 128) : Fin 512 := ⟨b.val * 128 + r.val, by omega⟩

theorem row_div (b : Fin 4) (r : Fin 128) (h : (row b r).val / 128 < 4) : (⟨(row b r).val / 128, h⟩ : Fin 4) = b :=
  Fin.ext (by show (b.val * 128 + r.val) / 128 = b.val; omega)

theorem row_mod (b : Fin 4) (r : Fin 128) (h : (row b r).val % 128 < 128) : (⟨(row b r).val % 128, h⟩ : Fin 128) = r :=
  Fin.ext (by show (b.val * 128 + r.val) % 128 = r.val; omega)

theorem row_zero (x : Fin 512) (h : x.val < 128) : x = row 0 ⟨x.val, h⟩ :=
  Fin.ext (by show x.val = 0 * 128 + x.val; omega)

/-- The normed row. -/
theorem hn_row (x0 : Vec Ideal S4x128x1024 .f32) (x5 : Vec Ideal S1x1x1024 .f32) (b : Fin 4) (r : Fin 128) (k : Fin 1024) :
    k0_pay40 (F := Ideal) x0 x5 (ix2 (row b r) k) = rms (fun k => x0 (ix3 b r k)) (fun k => x5 (ix3 0 0 k)) k := by
  unfold rms
  pointwise [k0_pay40]
  simp only [row_div, row_mod]

/-- The masked spatial weights. -/
theorem weight (w : Vec Ideal S1x128x512 .f32) (i : Fin 128) (h : Fin 4) (j : Fin 128) :
    k0_pay38 (F := Ideal) k0_pay35 (k0_pay36 w) k0_pay37 (ix2 i ⟨h.val * 128 + j.val, by omega⟩)
      = masked (fun i j => w (ix3 0 i ⟨h.val * 128 + j.val, by omega⟩)) i j := by
  unfold masked
  pointwise [k0_pay38, k0_pay35, k0_pay36, k0_pay37]
  exact half_select i j h _

theorem pay93 (hn : FVec Ideal S512x1024 .bf16) (w : Vec Ideal S1x1024x512 .bf16) (R : Fin 512) (j : Fin 512) :
    k0_pay93 (F := Ideal) hn w (ix2 R j) = rowMul (fun k => hn (ix2 R k)) (fun k j => w (ix3 0 k j)) j := by
  unfold rowMul
  pointwise [k0_pay93, dot_S512x1024_S1024x512_S512x512_1_0_0_1_n_n]

theorem pay94 (v : Vec Ideal S512x256 .f32) (R : Fin 512) (c : Fin 256) :
    k0_pay94 (F := Ideal) v (ix2 R c) = gelu (v (ix2 R c)) := by
  unfold gelu
  pointwise [k0_pay94]

theorem pay95 (v : Vec Ideal S512x256 .f32) (R : Fin 512) (c : Fin 256) :
    k0_pay95 (F := Ideal) v (ix2 R c) = gelu (v (ix2 R c)) := by
  unfold gelu
  pointwise [k0_pay95]

theorem pay97 (v : FVec Ideal S512x256 .f32) (g b : Vec Ideal S1x1x256 .f32) (R : Fin 512) (c : Fin 256) :
    k0_pay97 (F := Ideal) v (k0_pay96 g) b (ix2 R c)
      = lnorm (fun k => v (ix2 R k)) (fun k => g (ix3 0 0 k)) (fun k => b (ix3 0 0 k)) c := by
  unfold lnorm mean
  pointwise [k0_pay97, k0_pay96]

/-- Block 0 of group A. -/
theorem pay99 (W : FVec Ideal S128x512 .bf16) (u v : FVec Ideal S512x256 .f32) (g b : Vec Ideal S1x1x256 .f32)
    (bm : Vec Ideal S1x128x256 .f32) (i : Fin 128) (c : Fin 256) :
    k0_pay99 (F := Ideal) u (k0_pay98 W k0_pay39 v (k0_pay96 g) b) bm (ix2 i c)
      = u (ix2 (row 0 i) c) * ((∑ j : Fin 128, W (ix2 i ⟨(head c).val * 128 + j.val, by have := (head c).isLt; omega⟩) *
          k0_pay97 v (k0_pay96 g) b (ix2 (row 0 j) c)) + bm (ix3 0 i c)) := by
  pointwise [k0_pay99, k0_pay98, k0_pay39, dot_S128x512_S512x256_S128x256_1_0_0_1_n_n]
  refine Ideal.mul_congr ?_ (Ideal.add_congr (stacked_blocks (fun x => W (ix2 i x)) c
    (fun j => k0_pay97 v (k0_pay96 g) b (ix2 (row 0 j) c)) ?_ ?_ ?_ ?_) rfl)
  · exact congrArg (fun a => u (ix2 a c)) (row_zero _ _)
  all_goals
    intros
    exact congrArg (fun a => Scalar.select _ (k0_pay97 v (k0_pay96 g) b (ix2 a c)) 0) (row_zero _ _)

/-- Block 1 of group A. -/
theorem pay100 (W : FVec Ideal S128x512 .bf16) (u v : FVec Ideal S512x256 .f32)
    (bm : Vec Ideal S1x128x256 .f32) (i : Fin 128) (c : Fin 256) :
    k0_pay100 (F := Ideal) W k0_pay39 u v bm (ix2 i c)
      = u (ix2 (row 1 i) c) * ((∑ j : Fin 128, W (ix2 i ⟨(head c).val * 128 + j.val, by have := (head c).isLt; omega⟩) *
          v (ix2 (row 1 j) c)) + bm (ix3 0 i c)) := by
  pointwise [k0_pay100, k0_pay39, dot_S128x512_S512x256_S128x256_1_0_0_1_n_n]
  refine Ideal.mul_congr ?_ (Ideal.add_congr (stacked_blocks (fun x => W (ix2 i x)) c
    (fun j => v (ix2 (row 1 j) c)) ?_ ?_ ?_ ?_) rfl)
  all_goals intros; rfl

/-- Block 2 of group A. -/
theorem pay104 (W : FVec Ideal S128x512 .bf16) (u v : FVec Ideal S512x256 .f32)
    (bm : Vec Ideal S1x128x256 .f32) (i : Fin 128) (c : Fin 256) :
    k0_pay104 (F := Ideal) W k0_pay39 u (k0_pay101 v) (k0_pay102 k0_pay39) k0_pay103 bm (ix2 i c)
      = u (ix2 (row 2 i) c) * ((∑ j : Fin 128, W (ix2 i ⟨(head c).val * 128 + j.val, by have := (head c).isLt; omega⟩) *
          v (ix2 (row 2 j) c)) + bm (ix3 0 i c)) := by
  pointwise [k0_pay104, k0_pay103, k0_pay102, k0_pay101, k0_pay39, dot_S128x512_S512x256_S128x256_1_0_0_1_n_n]
  refine Ideal.mul_congr ?_ (Ideal.add_congr (stacked_blocks (fun x => W (ix2 i x)) c
    (fun j => v (ix2 (row 2 j) c)) ?_ ?_ ?_ ?_) rfl)
  all_goals intros; rfl

/-- Block 3 of group A. -/
theorem pay110 (W : FVec Ideal S128x512 .bf16) (u v : FVec Ideal S512x256 .f32)
    (bm : Vec Ideal S1x128x256 .f32) (i : Fin 128) (c : Fin 256) :
    k0_pay110 (F := Ideal) W u (k0_pay105 v) (k0_pay106 k0_pay39 v) (k0_pay107 k0_pay39 v) (k0_pay108 k0_pay39 v)
        (k0_pay109 k0_pay39) (Scalar.ofBits .bf16 0x0000#16) bm (ix2 i c)
      = u (ix2 (row 3 i) c) * ((∑ j : Fin 128, W (ix2 i ⟨(head c).val * 128 + j.val, by have := (head c).isLt; omega⟩) *
          v (ix2 (row 3 j) c)) + bm (ix3 0 i c)) := by
  pointwise [k0_pay110, k0_pay109, k0_pay108, k0_pay107, k0_pay106, k0_pay105, k0_pay39, dot_S128x512_S512x256_S128x256_1_0_0_1_n_n]
  refine Ideal.mul_congr ?_ (Ideal.add_congr (stacked_blocks (fun x => W (ix2 i x)) c
    (fun j => v (ix2 (row 3 j) c)) ?_ ?_ ?_ ?_) rfl)
  all_goals intros; rfl

theorem pay112 (a b : Vec Ideal S512x256 .f32) (R : Fin 512) (c : Fin 256) :
    k0_pay112 (F := Ideal) a b (ix2 R c) = glu (a (ix2 R c)) (b (ix2 R c)) := by
  unfold glu sigm
  pointwise [k0_pay112]

theorem pay152 (v : FVec Ideal S4x128x256 .f32) (g b : Vec Ideal S1x1x256 .f32) (q : Fin 4) (r : Fin 128) (c : Fin 256) :
    k0_pay152 (F := Ideal) (k0_pay150 v g b) (k0_pay151 v g b) (Scalar.ofBits .f32 0x3F000000#32) (ix2 (row q r) c)
      = unitD (fun k => v (ix3 q r k)) (fun k => g (ix3 0 0 k)) (fun k => b (ix3 0 0 k)) c := by
  unfold unitD lnorm mean sigm
  pointwise [k0_pay152, k0_pay151, k0_pay150]
  simp only [row_div, row_mod]

theorem pay2 (x : Vec Ideal S4x128x1024 .f32) (M : Vec Ideal S512x1024 .f32) (w : Vec Ideal S1x1024x1024 .bf16)
    (b : Fin 4) (r : Fin 128) (q : Fin 1024) :
    k0_pay2 (F := Ideal) x M w (ix3 b r q) = x (ix3 b r q) + ∑ k : Fin 1024, M (ix2 (row b r) k) * w (ix3 0 k q) := by
  pointwise [k0_pay2, dot_S512x1024_S1024x1024_S512x1024_1_0_0_1_n_n]
  rfl

theorem pay111 (hn : FVec Ideal S512x1024 .bf16) (w : Vec Ideal S1x1024x512 .bf16) (R : Fin 512) (j : Fin 512) :
    k0_pay111 (F := Ideal) hn w (ix2 R j) = rowMul (fun k => hn (ix2 R k)) (fun k j => w (ix3 0 k j)) j := by
  unfold rowMul
  pointwise [k0_pay111, dot_S512x1024_S1024x512_S512x512_1_0_0_1_n_n]

/-- The rows stored after the halo, sequence by sequence. -/
theorem pay113 (a b : Vec Ideal S512x256 .f32) (r : Fin 128) (c : Fin 256) :
    k0_pay113 (F := Ideal) a b (ix3 0 r c) = k0_pay112 a b (ix2 (row 0 r) c) := by
  pointwise [k0_pay113]
  exact congrArg (fun R => k0_pay112 a b (ix2 R c)) (row_zero ⟨r.val, by omega⟩ r.isLt)

theorem pay115 (a b : Vec Ideal S512x256 .f32) (r : Fin 128) (c : Fin 256) :
    k0_pay115 (F := Ideal) (k0_pay114 a b) (ix3 0 r c) = k0_pay112 a b (ix2 (row 1 r) c) := by
  pointwise [k0_pay115, k0_pay114]
  rfl

theorem pay116 (v : FVec Ideal S512x256 .f32) (r : Fin 128) (c : Fin 256) :
    k0_pay116 (F := Ideal) v (ix3 0 r c) = v (ix2 (row 2 r) c) := by
  pointwise [k0_pay116]
  rfl

theorem pay117 (v : FVec Ideal S512x256 .f32) (r : Fin 128) (c : Fin 256) :
    k0_pay117 (F := Ideal) v (ix3 0 r c) = v (ix2 (row 3 r) c) := by
  pointwise [k0_pay117]
  rfl

/-- A halo stored is the rows loaded. -/
theorem pay145 (v : Vec Ideal S1x32x256 .f32) (r : Fin 32) (c : Fin 256) : k0_pay145 (F := Ideal) v (ix3 0 r c) = v (ix3 0 r c) := by
  pointwise [k0_pay145]

theorem pay146 (v : Vec Ideal S1x32x256 .f32) (r : Fin 32) (c : Fin 256) : k0_pay146 (F := Ideal) v (ix3 0 r c) = v (ix3 0 r c) := by
  pointwise [k0_pay146]

theorem pay148 (v : Vec Ideal S1x32x256 .f32) (r : Fin 32) (c : Fin 256) :
    k0_pay148 (F := Ideal) (k0_pay147 v) (ix3 0 r c) = v (ix3 0 r c) := by
  pointwise [k0_pay148, k0_pay147]

theorem pay149 (v : Vec Ideal S1x32x256 .f32) (r : Fin 32) (c : Fin 256) : k0_pay149 (F := Ideal) v (ix3 0 r c) = v (ix3 0 r c) := by
  pointwise [k0_pay149]

/-- The zero halo of a sequence's first point. -/
theorem pay5 (b : Fin 4) (r : Fin 32) (c : Fin 256) : k0_pay5 (F := Ideal) (ix3 b r c) = 0 := by
  pointwise [k0_pay5]

/-- The convolution the body composes from its loads of the taps, of the scratch at whole-tile offsets (`c…`, `d…`), and of the
    residues' sums at a shift (`y…`): `C` is the scratch, row by row. -/
theorem conv_payload (C : Fin 4 → ℕ → Fin 256 → EReal) (w : Fin 31 → Vec Ideal S1x1x256 .f32) (cb : Vec Ideal S1x1x256 .f32)
    (c8 c16 c24 c32 : Vec Ideal S4x128x256 .f32) (d0 d8 d16 d24 : Vec Ideal S4x136x256 .f32)
    (y1 y2 y3 y4 y5 y6 y7 : Vec Ideal S4x128x256 .f32)
    (hc8 : ∀ b (r : Fin 128) c, c8 (ix3 b r c) = C b (8 + r) c) (hc16 : ∀ b (r : Fin 128) c, c16 (ix3 b r c) = C b (16 + r) c)
    (hc24 : ∀ b (r : Fin 128) c, c24 (ix3 b r c) = C b (24 + r) c) (hc32 : ∀ b (r : Fin 128) c, c32 (ix3 b r c) = C b (32 + r) c)
    (hd0 : ∀ b (r : Fin 136) c, d0 (ix3 b r c) = C b (0 + r) c) (hd8 : ∀ b (r : Fin 136) c, d8 (ix3 b r c) = C b (8 + r) c)
    (hd16 : ∀ b (r : Fin 136) c, d16 (ix3 b r c) = C b (16 + r) c) (hd24 : ∀ b (r : Fin 136) c, d24 (ix3 b r c) = C b (24 + r) c)
    (hy1 : ∀ b (r : Fin 128) c, y1 (ix3 b r c) = k0_pay121 (F := Ideal) (k0_pay120 (w 7) d8 (w 15) d16 (w 23) d24) (ix3 b ⟨1 + r.val, by omega⟩ c))
    (hy2 : ∀ b (r : Fin 128) c, y2 (ix3 b r c) = k0_pay125 (F := Ideal) (k0_pay123 (w 0) d0 (w 8) d8 (w 16) d16) (k0_pay124 (w 24) d24)
      (ix3 b ⟨2 + r.val, by omega⟩ c))
    (hy3 : ∀ b (r : Fin 128) c, y3 (ix3 b r c) = k0_pay129 (F := Ideal) (k0_pay127 (w 1) d0 (w 9) d8 (w 17) d16) (k0_pay128 (w 25)) d24
      (ix3 b ⟨3 + r.val, by omega⟩ c))
    (hy4 : ∀ b (r : Fin 128) c, y4 (ix3 b r c) = k0_pay133 (F := Ideal) (k0_pay131 (w 2) d0 (w 10) d8 (w 18) d16) (k0_pay132 (w 26)) d24
      (ix3 b ⟨4 + r.val, by omega⟩ c))
    (hy5 : ∀ b (r : Fin 128) c, y5 (ix3 b r c) = k0_pay136 (F := Ideal) (k0_pay135 (w 3) d0 (w 11) d8 (w 19) d16) (w 27) d24
      (ix3 b ⟨5 + r.val, by omega⟩ c))
    (hy6 : ∀ b (r : Fin 128) c, y6 (ix3 b r c) = k0_pay139 (F := Ideal) (k0_pay138 (w 4) d0 (w 12) d8 (w 20) d16) (w 28) d24
      (ix3 b ⟨6 + r.val, by omega⟩ c))
    (hy7 : ∀ b (r : Fin 128) c, y7 (ix3 b r c) = k0_pay143 (F := Ideal) (k0_pay141 (w 5) d0 (w 13) d8) d16 (k0_pay142 (w 21)) (w 29) d24
      (ix3 b ⟨7 + r.val, by omega⟩ c))
    (b : Fin 4) (r : Fin 128) (c : Fin 256) :
    k0_pay144 (F := Ideal) (k0_pay140 (k0_pay137 (k0_pay134 (k0_pay130 (k0_pay126 (k0_pay122 (k0_pay119
        (k0_pay118 (w 6) c8 (w 14) c16 (w 22) c24) (w 30) c32 cb) y1) y2) y3) y4) y5) y6) y7 (ix3 b r c)
      = (∑ k : Fin 31, w k (ix3 0 0 c) * C b (2 + k.val + r.val) c) + cb (ix3 0 0 c) := by
  have e1 : ∀ s : Fin 136, k0_pay121 (F := Ideal) (k0_pay120 (w 7) d8 (w 15) d16 (w 23) d24) (ix3 b s c)
      = w 7 (ix3 0 0 c) * C b (8 + s) c + w 15 (ix3 0 0 c) * C b (16 + s) c + w 23 (ix3 0 0 c) * C b (24 + s) c := fun s => by
    simp only [← hd8, ← hd16, ← hd24]
    pointwise [k0_pay121, k0_pay120]
  have e2 : ∀ s : Fin 136, k0_pay125 (F := Ideal) (k0_pay123 (w 0) d0 (w 8) d8 (w 16) d16) (k0_pay124 (w 24) d24) (ix3 b s c)
      = w 0 (ix3 0 0 c) * C b (0 + s) c + w 8 (ix3 0 0 c) * C b (8 + s) c + w 16 (ix3 0 0 c) * C b (16 + s) c
        + w 24 (ix3 0 0 c) * C b (24 + s) c := fun s => by
    simp only [← hd0, ← hd8, ← hd16, ← hd24]
    pointwise [k0_pay125, k0_pay124, k0_pay123]
  have e3 : ∀ s : Fin 136, k0_pay129 (F := Ideal) (k0_pay127 (w 1) d0 (w 9) d8 (w 17) d16) (k0_pay128 (w 25)) d24 (ix3 b s c)
      = w 1 (ix3 0 0 c) * C b (0 + s) c + w 9 (ix3 0 0 c) * C b (8 + s) c + w 17 (ix3 0 0 c) * C b (16 + s) c
        + w 25 (ix3 0 0 c) * C b (24 + s) c := fun s => by
    simp only [← hd0, ← hd8, ← hd16, ← hd24]
    pointwise [k0_pay129, k0_pay128, k0_pay127]
  have e4 : ∀ s : Fin 136, k0_pay133 (F := Ideal) (k0_pay131 (w 2) d0 (w 10) d8 (w 18) d16) (k0_pay132 (w 26)) d24 (ix3 b s c)
      = w 2 (ix3 0 0 c) * C b (0 + s) c + w 10 (ix3 0 0 c) * C b (8 + s) c + w 18 (ix3 0 0 c) * C b (16 + s) c
        + w 26 (ix3 0 0 c) * C b (24 + s) c := fun s => by
    simp only [← hd0, ← hd8, ← hd16, ← hd24]
    pointwise [k0_pay133, k0_pay132, k0_pay131]
  have e5 : ∀ s : Fin 136, k0_pay136 (F := Ideal) (k0_pay135 (w 3) d0 (w 11) d8 (w 19) d16) (w 27) d24 (ix3 b s c)
      = w 3 (ix3 0 0 c) * C b (0 + s) c + w 11 (ix3 0 0 c) * C b (8 + s) c + w 19 (ix3 0 0 c) * C b (16 + s) c
        + w 27 (ix3 0 0 c) * C b (24 + s) c := fun s => by
    simp only [← hd0, ← hd8, ← hd16, ← hd24]
    pointwise [k0_pay136, k0_pay135]
  have e6 : ∀ s : Fin 136, k0_pay139 (F := Ideal) (k0_pay138 (w 4) d0 (w 12) d8 (w 20) d16) (w 28) d24 (ix3 b s c)
      = w 4 (ix3 0 0 c) * C b (0 + s) c + w 12 (ix3 0 0 c) * C b (8 + s) c + w 20 (ix3 0 0 c) * C b (16 + s) c
        + w 28 (ix3 0 0 c) * C b (24 + s) c := fun s => by
    simp only [← hd0, ← hd8, ← hd16, ← hd24]
    pointwise [k0_pay139, k0_pay138]
  have e7 : ∀ s : Fin 136, k0_pay143 (F := Ideal) (k0_pay141 (w 5) d0 (w 13) d8) d16 (k0_pay142 (w 21)) (w 29) d24 (ix3 b s c)
      = w 5 (ix3 0 0 c) * C b (0 + s) c + w 13 (ix3 0 0 c) * C b (8 + s) c + w 21 (ix3 0 0 c) * C b (16 + s) c
        + w 29 (ix3 0 0 c) * C b (24 + s) c := fun s => by
    simp only [← hd0, ← hd8, ← hd16, ← hd24]
    pointwise [k0_pay143, k0_pay142, k0_pay141]
  rw [← sum_taps (fun k => w k (ix3 0 0 c) * C b (2 + k.val + r.val) c)]
  pointwise [k0_pay144, k0_pay140, k0_pay137, k0_pay134, k0_pay130, k0_pay126, k0_pay122, k0_pay119, k0_pay118]
  rw [hy1, hy2, hy3, hy4, hy5, hy6, hy7, e1, e2, e3, e4, e5, e6, e7, hc8, hc16, hc24, hc32]
  simp only [← Nat.add_assoc, Nat.reduceAdd]

end Cert.Kernel3Ideal.Body

end
-- ==== Proof.MixPoint.lean ====
/-
  One point of the mixing call, for groups A and D: what the scratch buffers hold where the body reads them, and from it the
  rows of the output block and the halo rows handed on. The recurrent groups' stores are passed over.
-/
module

public import proofs.«01_k».proof.Proof.MixBody
public import Idealize.ShloMosaic.Lib.WholeRead

@[expose] public section

set_option maxRecDepth 16384

noncomputable section

namespace Cert.Kernel3Ideal.Body

open Idealize.ShloMosaic Idealize.ShloMosaic.TcCoe Idealize.ShloMosaic.Tactic Idealize.SL.Sem
open Cert.Kernel3Ideal Cert.Kernel3Ideal.Gen Cert.Ffn Cert.Mix

section Reads

variable {s : Shape} {e : EltTy}

/-- What stores leave at an index the newest one wrote. -/
theorem canon_hit (r : Rect s) (w : r.shape.Idx → Elt Ideal e) (L : List (View.Piece (Elt Ideal) s e)) (y : s.Idx) (x : r.shape.Idx)
    (h : ∀ a, (y a).val = (r.emb x a).val) : View.canon (⟨r, w⟩ :: L) y = w x := by
  rw [show y = r.emb x from funext fun a => Fin.ext (h a), View.canon_cons_emb]

/-- What stores leave at an index the newest one does not reach along some axis. -/
theorem canon_miss (off size : Fin s.rank → ℕ) (inb : ∀ a, off a + size a ≤ s.size a)
    (w : (Rect.unit off size inb).shape.Idx → Elt Ideal e) (L : List (View.Piece (Elt Ideal) s e)) (y : s.Idx) (a : Fin s.rank)
    (h : (y a).val < off a ∨ off a + size a ≤ (y a).val) : View.canon (⟨Rect.unit off size inb, w⟩ :: L) y = View.canon L y := by
  refine View.canon_cons_of_not_mem _ L fun hm => ?_
  have := (Rect.mem_set_unit (inb := inb)).mp hm a
  omega

end Reads

/-- The scratch of group D's rows: 32 rows of halo, then the point's rows. -/
def scratch (H : Fin 4 → Fin 32 → Fin 256 → EReal) (U : Fin 4 → Fin 128 → Fin 256 → EReal) (b : Fin 4) (n : ℕ) (c : Fin 256) : EReal :=
  if h : n < 32 then H b ⟨n, h⟩ c else if h' : n - 32 < 128 then U b ⟨n - 32, h'⟩ c else 0

theorem scratch_halo (H U b n c) (h : n < 32) : scratch H U b n c = H b ⟨n, h⟩ c := dif_pos h

theorem scratch_row (H : Fin 4 → Fin 32 → Fin 256 → EReal) (U : Fin 4 → Fin 128 → Fin 256 → EReal) (b : Fin 4) (r : Fin 128)
    (c : Fin 256) : scratch H U b (32 + r.val) c = U b r c := by
  unfold scratch
  rw [dif_neg (by omega), dif_pos (by omega)]
  exact congrArg (fun a => U b a c) (Fin.ext (by show 32 + r.val - 32 = r.val; omega))

section Loads

variable {e : EltTy}

/-- A load of a whole operand, at an index. -/
theorem load3 {n0 n1 n2 m0 m1 m2 : ℕ} {M : Memref sig .tc .vmem ⟨3, ![n0, n1, n2]⟩ e} (h : M.IsWhole)
    (X : Vec Ideal ⟨3, ![n0, n1, n2]⟩ e) (o0 o1 o2 : ℕ)
    (inb : ∀ a, (![o0, o1, o2] : Fin 3 → ℕ) a + (![m0, m1, m2] : Fin 3 → ℕ) a ≤ (⟨3, ![n0, n1, n2]⟩ : Shape).size a)
    (a : Fin m0) (b : Fin m1) (c : Fin m2) (a' : Fin n0) (b' : Fin n1) (c' : Fin n2) (ha : a'.val = o0 + a.val)
    (hb : b'.val = o1 + b.val) (hc : c'.val = o2 + c.val) :
    View.readAt (Elt Ideal) M.view (Rect.unit (s := ⟨3, ![n0, n1, n2]⟩) ![o0, o1, o2] ![m0, m1, m2] inb).toLoadRect (h.unread X) (ix3 a b c)
      = X (ix3 a' b' c') := by
  rw [Memref.IsWhole.readAt_unread]
  refine congrArg X (funext fun x => Fin.ext ?_)
  match x with
  | 0 => show o0 + 1 * a.val = a'.val; omega
  | 1 => show o1 + 1 * b.val = b'.val; omega
  | 2 => show o2 + 1 * c.val = c'.val; omega

/-- A load of what stores left in a buffer, at an index. -/
theorem cov2 {n0 n1 m0 m1 : ℕ} {M : Memref sig .tc .vmem ⟨2, ![n0, n1]⟩ e} (L : List (View.Piece (Elt Ideal) ⟨2, ![n0, n1]⟩ e))
    (o0 o1 : ℕ) (inb : ∀ a, (![o0, o1] : Fin 2 → ℕ) a + (![m0, m1] : Fin 2 → ℕ) a ≤ (⟨2, ![n0, n1]⟩ : Shape).size a)
    (a : Fin m0) (b : Fin m1) (a' : Fin n0) (b' : Fin n1) (ha : a'.val = o0 + a.val) (hb : b'.val = o1 + b.val) :
    M.view.readCov L (Rect.unit (s := ⟨2, ![n0, n1]⟩) ![o0, o1] ![m0, m1] inb).toLoadRect (ix2 a b) = View.canon L (ix2 a' b') := by
  rw [View.readCov_eq_canon']
  refine congrArg (View.canon L) (funext fun x => Fin.ext ?_)
  match x with
  | 0 => show o0 + 1 * a.val = a'.val; omega
  | 1 => show o1 + 1 * b.val = b'.val; omega

theorem cov3 {n0 n1 n2 m0 m1 m2 : ℕ} {M : Memref sig .tc .vmem ⟨3, ![n0, n1, n2]⟩ e}
    (L : List (View.Piece (Elt Ideal) ⟨3, ![n0, n1, n2]⟩ e)) (o0 o1 o2 : ℕ)
    (inb : ∀ a, (![o0, o1, o2] : Fin 3 → ℕ) a + (![m0, m1, m2] : Fin 3 → ℕ) a ≤ (⟨3, ![n0, n1, n2]⟩ : Shape).size a)
    (a : Fin m0) (b : Fin m1) (c : Fin m2) (a' : Fin n0) (b' : Fin n1) (c' : Fin n2) (ha : a'.val = o0 + a.val)
    (hb : b'.val = o1 + b.val) (hc : c'.val = o2 + c.val) :
    M.view.readCov L (Rect.unit (s := ⟨3, ![n0, n1, n2]⟩) ![o0, o1, o2] ![m0, m1, m2] inb).toLoadRect (ix3 a b c)
      = View.canon L (ix3 a' b' c') := by
  rw [View.readCov_eq_canon']
  refine congrArg (View.canon L) (funext fun x => Fin.ext ?_)
  match x with
  | 0 => show o0 + 1 * a.val = a'.val; omega
  | 1 => show o1 + 1 * b.val = b'.val; omega
  | 2 => show o2 + 1 * c.val = c'.val; omega

/-- A load at whole-tile offsets of a buffer that held `X` and took stores since, at an index. -/
theorem over3 {n0 n1 n2 m0 m1 m2 : ℕ} {M : Memref sig .tc .vmem ⟨3, ![n0, n1, n2]⟩ e} (f : M.view.ty.Contents (Elt Ideal))
    (o0 o1 o2 : ℕ)
    (inb : ∀ a, (![o0, o1, o2] : Fin 3 → ℕ) a + (![m0, m1, m2] : Fin 3 → ℕ) a ≤ (⟨3, ![n0, n1, n2]⟩ : Shape).size a)
    (a : Fin m0) (b : Fin m1) (c : Fin m2) (a' : Fin n0) (b' : Fin n1) (c' : Fin n2) (ha : a'.val = o0 + a.val)
    (hb : b'.val = o1 + b.val) (hc : c'.val = o2 + c.val) :
    View.readAt (Elt Ideal) M.view (Rect.unit (s := ⟨3, ![n0, n1, n2]⟩) ![o0, o1, o2] ![m0, m1, m2] inb).toLoadRect f (ix3 a b c)
      = M.view.read (Elt Ideal) f (ix3 a' b' c') := by
  rw [View.readAt_apply]
  refine congrArg (M.view.read (Elt Ideal) f) (funext fun x => Fin.ext ?_)
  match x with
  | 0 => show o0 + 1 * a.val = a'.val; omega
  | 1 => show o1 + 1 * b.val = b'.val; omega
  | 2 => show o2 + 1 * c.val = c'.val; omega

end Loads

section Rows

variable (x0 : Vec Ideal S4x128x1024 .f32) (x5 : Vec Ideal S1x1x1024 .f32) (x6 x7 : Vec Ideal S1x1024x1536 .bf16)
  (x9 : Vec Ideal S1x16x256 .f32) (x10 : Vec Ideal S1x128x512 .f32) (x11 : Vec Ideal S1x128x256 .f32)
  (x17 : Vec Ideal S1x31x256 .f32) (x18 : Vec Ideal S1x1024x1024 .bf16)

/-- A normed row of the point's tile. -/
def hn (b : Fin 4) (r : Fin 128) : Fin 1024 → EReal := rms (fun k => x0 (ix3 b r k)) (fun k => x5 (ix3 0 0 k))

/-- Group A's columns of the projection. -/
def zA (b : Fin 4) (r : Fin 128) (j : Fin 512) : EReal :=
  rowMul (hn x0 x5 b r) (fun k (j : Fin 512) => x6 (ix3 0 k ⟨j.val, by omega⟩)) j

/-- Group D's columns of the projection. -/
def zD (b : Fin 4) (r : Fin 128) (j : Fin 512) : EReal :=
  rowMul (hn x0 x5 b r) (fun k (j : Fin 512) => x7 (ix3 0 k ⟨1024 + j.val, by omega⟩)) j

/-- The rows group D convolves. -/
def unitB (b : Fin 4) (r : Fin 128) (c : Fin 256) : EReal :=
  glu (zD x0 x5 x7 b r ⟨c.val, by omega⟩) (zD x0 x5 x7 b r ⟨256 + c.val, by omega⟩)

/-- The convolution's rows, over the scratch. -/
def convB (H : Fin 4 → Fin 32 → Fin 256 → EReal) (b : Fin 4) (r : Fin 128) (c : Fin 256) : EReal :=
  (∑ k : Fin 31, x17 (ix3 0 k c) * scratch H (unitB x0 x5 x7) b (2 + k.val + r.val) c) + x9 (ix3 0 12 c)

/-- Group A's rows. -/
def rowA (b : Fin 4) (r : Fin 128) (c : Fin 256) : EReal :=
  gateA (fun j (c : Fin 256) => zA x0 x5 x6 b j ⟨c.val, by omega⟩) (fun j (c : Fin 256) => zA x0 x5 x6 b j ⟨256 + c.val, by omega⟩)
    (fun c => x9 (ix3 0 0 c)) (fun c => x9 (ix3 0 1 c)) (fun h i j => x10 (ix3 0 i ⟨h.val * 128 + j.val, by omega⟩))
    (fun i c => x11 (ix3 0 i c)) r c

/-- Group D's rows. -/
def rowD (H : Fin 4 → Fin 32 → Fin 256 → EReal) (b : Fin 4) (r : Fin 128) (c : Fin 256) : EReal :=
  unitD (convB x0 x5 x7 x9 x17 H b r) (fun c => x9 (ix3 0 13 c)) (fun c => x9 (ix3 0 14 c)) c

/-- The output's rows. -/
def rowOut (H : Fin 4 → Fin 32 → Fin 256 → EReal) (b : Fin 4) (r : Fin 128) (q : Fin 1024) : EReal :=
  outRow (fun k => x0 (ix3 b r k)) (rowA x0 x5 x6 x9 x10 x11 b r) (rowD x0 x5 x7 x9 x17 H b r)
    (fun c q => x18 (ix3 0 ⟨c.val, by omega⟩ q)) (fun c q => x18 (ix3 0 ⟨768 + c.val, by omega⟩ q)) q

/-! The projection's columns, where the body reads them back. -/

section Proj

variable {L : List (View.Piece (Elt Ideal) S512x3200 .f32)} {M : Memref sig .tc .vmem S512x3200 .f32}
  {h : FVec Ideal S512x1024 .bf16} {w : Vec Ideal S1x1024x512 .bf16}
  (hh : ∀ b r k, h (ix2 (row b r) k) = hn x0 x5 b r k)

include hh in
theorem zA_lo (hw : ∀ k (j : Fin 512), w (ix3 0 k j) = x6 (ix3 0 k ⟨j.val, by omega⟩)) (b : Fin 4) (r : Fin 128) (c : Fin 256)
    (i1 i2) : M.view.readCov (⟨Rect.unit ![0, 0] S512x512.size i1, k0_pay93 (F := Ideal) h w⟩ :: L)
      (Rect.unit (s := S512x3200) ![0, 0] S512x256.size i2).toLoadRect (ix2 (row b r) c) = zA x0 x5 x6 b r ⟨c.val, by omega⟩ := by
  refine (cov2 _ 0 0 i2 (row b r) c (row b r) ⟨c.val, by omega⟩ (by omega) (by show c.val = _; omega)).trans ?_
  refine (canon_hit _ _ L _ (ix2 (row b r) (⟨c.val, by omega⟩ : Fin 512)) fun a => ?_).trans ?_
  · match a with
    | 0 => show (row b r).val = 0 + 1 * (row b r).val; omega
    | 1 => show c.val = 0 + 1 * c.val; omega
  · rw [pay93]; unfold zA; simp only [hh, hw]

include hh in
theorem zA_hi (hw : ∀ k (j : Fin 512), w (ix3 0 k j) = x6 (ix3 0 k ⟨j.val, by omega⟩)) (b : Fin 4) (r : Fin 128) (c : Fin 256)
    (i1 i2) : M.view.readCov (⟨Rect.unit ![0, 0] S512x512.size i1, k0_pay93 (F := Ideal) h w⟩ :: L)
      (Rect.unit (s := S512x3200) ![0, 256] S512x256.size i2).toLoadRect (ix2 (row b r) c) = zA x0 x5 x6 b r ⟨256 + c.val, by omega⟩ := by
  refine (cov2 _ 0 256 i2 (row b r) c (row b r) ⟨256 + c.val, by omega⟩ (by omega) (by show _ = _; rfl)).trans ?_
  refine (canon_hit _ _ L _ (ix2 (row b r) (⟨256 + c.val, by omega⟩ : Fin 512)) fun a => ?_).trans ?_
  · match a with
    | 0 => show (row b r).val = 0 + 1 * (row b r).val; omega
    | 1 => show 256 + c.val = 0 + 1 * (256 + c.val); omega
  · rw [pay93]; unfold zA; simp only [hh, hw]

include hh in
theorem zD_lo (hw : ∀ k (j : Fin 512), w (ix3 0 k j) = x7 (ix3 0 k ⟨1024 + j.val, by omega⟩)) (b : Fin 4) (r : Fin 128)
    (c : Fin 256) (i1 i2) : M.view.readCov (⟨Rect.unit ![0, 2560] S512x512.size i1, k0_pay111 (F := Ideal) h w⟩ :: L)
      (Rect.unit (s := S512x3200) ![0, 2560] S512x256.size i2).toLoadRect (ix2 (row b r) c) = zD x0 x5 x7 b r ⟨c.val, by omega⟩ := by
  refine (cov2 _ 0 2560 i2 (row b r) c (row b r) ⟨2560 + c.val, by omega⟩ (by omega) (by show _ = _; rfl)).trans ?_
  refine (canon_hit _ _ L _ (ix2 (row b r) (⟨c.val, by omega⟩ : Fin 512)) fun a => ?_).trans ?_
  · match a with
    | 0 => show (row b r).val = 0 + 1 * (row b r).val; omega
    | 1 => show 2560 + c.val = 2560 + 1 * c.val; omega
  · rw [pay111]; unfold zD; simp only [hh, hw]

include hh in
theorem zD_hi (hw : ∀ k (j : Fin 512), w (ix3 0 k j) = x7 (ix3 0 k ⟨1024 + j.val, by omega⟩)) (b : Fin 4) (r : Fin 128)
    (c : Fin 256) (i1 i2) : M.view.readCov (⟨Rect.unit ![0, 2560] S512x512.size i1, k0_pay111 (F := Ideal) h w⟩ :: L)
      (Rect.unit (s := S512x3200) ![0, 2816] S512x256.size i2).toLoadRect (ix2 (row b r) c) = zD x0 x5 x7 b r ⟨256 + c.val, by omega⟩ := by
  refine (cov2 _ 0 2816 i2 (row b r) c (row b r) ⟨2816 + c.val, by omega⟩ (by omega) (by show _ = _; rfl)).trans ?_
  refine (canon_hit _ _ L _ (ix2 (row b r) (⟨256 + c.val, by omega⟩ : Fin 512)) fun a => ?_).trans ?_
  · match a with
    | 0 => show (row b r).val = 0 + 1 * (row b r).val; omega
    | 1 => show 2816 + c.val = 2560 + 1 * (256 + c.val); omega
  · rw [pay111]; unfold zD; simp only [hh, hw]

end Proj

/-! The scratch of group D. -/

/-- The rows a point stores after the halo. -/
abbrev stored (va vb : Vec Ideal S512x256 .f32) (L : List (View.Piece (Elt Ideal) S4x160x256 .f32)) :
    List (View.Piece (Elt Ideal) S4x160x256 .f32) :=
  ⟨Rect.unit ![3, 32, 0] S1x128x256.size inb_S4x160x256_S1x128x256_3_32_0, k0_pay117 (k0_pay112 va vb)⟩ ::
  ⟨Rect.unit ![2, 32, 0] S1x128x256.size inb_S4x160x256_S1x128x256_2_32_0, k0_pay116 (k0_pay112 va vb)⟩ ::
  ⟨Rect.unit ![1, 32, 0] S1x128x256.size inb_S4x160x256_S1x128x256_1_32_0, k0_pay115 (k0_pay114 va vb)⟩ ::
  ⟨Rect.unit ![0, 32, 0] S1x128x256.size inb_S4x160x256_S1x128x256_0_32_0, k0_pay113 va vb⟩ :: L

section Scratch

variable {va vb : Vec Ideal S512x256 .f32}
  (ha : ∀ b r (c : Fin 256), va (ix2 (row b r) c) = zD x0 x5 x7 b r ⟨c.val, by omega⟩)
  (hb : ∀ b r (c : Fin 256), vb (ix2 (row b r) c) = zD x0 x5 x7 b r ⟨256 + c.val, by omega⟩)

include ha hb in
theorem glu_row (b r c) : k0_pay112 (F := Ideal) va vb (ix2 (row b r) c) = unitB x0 x5 x7 b r c := by
  rw [pay112, ha, hb]; rfl

theorem below (r : Fin 128) : 32 + r.val < 160 := by omega

/-- A row of the store at its own sequence. -/
theorem hit_row (q : Fin 4) (n : ℕ) (hn : n = q.val)
    {inb : ∀ a, (![n, 32, 0] : Fin 3 → ℕ) a + S1x128x256.size a ≤ S4x160x256.size a} (w : Vec Ideal S1x128x256 .f32)
    (L : List (View.Piece (Elt Ideal) S4x160x256 .f32)) (r : Fin 128) (c : Fin 256) :
    View.canon (⟨Rect.unit (s := S4x160x256) ![n, 32, 0] S1x128x256.size inb, w⟩ :: L) (ix3 q ⟨32 + r.val, below r⟩ c) = w (ix3 0 r c) := by
  subst hn
  refine canon_hit (Rect.unit (s := S4x160x256) ![q.val, 32, 0] S1x128x256.size inb) w L (ix3 q ⟨32 + r.val, below r⟩ c)
    (ix3 (0 : Fin 1) r c) fun a => ?_
  match a with
  | 0 => show q.val = q.val + 1 * 0; omega
  | 1 => show 32 + r.val = 32 + 1 * r.val; omega
  | 2 => show c.val = 0 + 1 * c.val; omega

/-- A store at another sequence does not reach a row. -/
theorem miss_row (q : Fin 4) (n : ℕ) (h : q.val < n)
    {inb : ∀ a, (![n, 32, 0] : Fin 3 → ℕ) a + S1x128x256.size a ≤ S4x160x256.size a} (w : Vec Ideal S1x128x256 .f32)
    (L : List (View.Piece (Elt Ideal) S4x160x256 .f32)) (k : Fin 160) (c : Fin 256) :
    View.canon (⟨Rect.unit (s := S4x160x256) ![n, 32, 0] S1x128x256.size inb, w⟩ :: L) (ix3 q k c) = View.canon L (ix3 q k c) :=
  canon_miss (s := S4x160x256) ![n, 32, 0] S1x128x256.size inb w L (ix3 q k c) (0 : Fin 3)
    (Or.inl (show q.val < n from h))

include ha hb in
/-- The rows stored, read back. -/
theorem canon_row (L) (b : Fin 4) (r : Fin 128) (c : Fin 256) :
    View.canon (stored va vb L) (ix3 b ⟨32 + r.val, below r⟩ c) = unitB x0 x5 x7 b r c := by
  rw [← glu_row x0 x5 x7 ha hb]
  match b with
  | 3 => exact (hit_row 3 3 rfl _ _ r c).trans (pay117 _ r c)
  | 2 => exact (miss_row 2 3 (by decide) _ _ _ c).trans ((hit_row 2 2 rfl _ _ r c).trans (pay116 _ r c))
  | 1 =>
    exact (miss_row 1 3 (by decide) _ _ _ c).trans ((miss_row 1 2 (by decide) _ _ _ c).trans
      ((hit_row 1 1 rfl _ _ r c).trans (pay115 _ _ r c)))
  | 0 =>
    exact (miss_row 0 3 (by decide) _ _ _ c).trans ((miss_row 0 2 (by decide) _ _ _ c).trans
      ((miss_row 0 1 (by decide) _ _ _ c).trans ((hit_row 0 0 rfl _ _ r c).trans (pay113 _ _ r c))))

/-- A store after the halo does not reach it. -/
theorem miss_halo (b : Fin 4) (n : ℕ) {inb : ∀ a, (![n, 32, 0] : Fin 3 → ℕ) a + S1x128x256.size a ≤ S4x160x256.size a}
    (w : Vec Ideal S1x128x256 .f32) (L : List (View.Piece (Elt Ideal) S4x160x256 .f32)) (k : Fin 160) (hk : k.val < 32) (c : Fin 256) :
    View.canon (⟨Rect.unit (s := S4x160x256) ![n, 32, 0] S1x128x256.size inb, w⟩ :: L) (ix3 b k c) = View.canon L (ix3 b k c) :=
  canon_miss (s := S4x160x256) ![n, 32, 0] S1x128x256.size inb w L (ix3 b k c) (1 : Fin 3)
    (Or.inl (show k.val < 32 from hk))

/-- The stored rows do not reach the halo. -/
theorem canon_halo (L) (b : Fin 4) (n : Fin 160) (hn : n.val < 32) (c : Fin 256) :
    View.canon (stored va vb L) (ix3 b n c) = View.canon L (ix3 b n c) := by
  exact (miss_halo b 3 _ _ n hn c).trans ((miss_halo b 2 _ _ n hn c).trans ((miss_halo b 1 _ _ n hn c).trans (miss_halo b 0 _ _ n hn c)))

/-- The stored rows do not reach the halo. -/
theorem stored_halo (b : Fin 4) (n : Fin 160) (hn : n.val < 32) (c : Fin 256) (p) (hp : p ∈ stored va vb []) :
    (ix3 b n c : S4x160x256.Idx) ∉ p.1.set := by
  have h : ((ix3 b n c : S4x160x256.Idx) 1).val < 32 := hn
  have off : ∀ k inb, (ix3 b n c : S4x160x256.Idx) ∉ (Rect.unit ![k, 32, 0] S1x128x256.size inb : Rect S4x160x256).set := fun k inb hm => by
    have := (Rect.mem_set_unit (inb := inb)).mp hm 1
    have h2 : 32 ≤ ((ix3 b n c : S4x160x256.Idx) 1).val := this.1
    omega
  simp only [stored, List.mem_cons, List.not_mem_nil, or_false] at hp
  rcases hp with rfl | rfl | rfl | rfl
  · exact off 3 inb_S4x160x256_S1x128x256_3_32_0
  · exact off 2 inb_S4x160x256_S1x128x256_2_32_0
  · exact off 1 inb_S4x160x256_S1x128x256_1_32_0
  · exact off 0 inb_S4x160x256_S1x128x256_0_32_0

/-- No halo. -/
abbrev none (_ : Fin 4) (_ : Fin 32) (_ : Fin 256) : EReal := 0

include ha hb in
/-- The scratch of a sequence's first point. -/
theorem scratch_A (b : Fin 4) (n : Fin 160) (c : Fin 256) (inb) :
    View.canon (stored va vb [⟨Rect.unit ![0, 0, 0] S4x32x256.size inb, k0_pay5 (F := Ideal)⟩]) (ix3 b n c)
      = scratch none (unitB x0 x5 x7) b n.val c := by
  by_cases hn : n.val < 32
  · rw [canon_halo _ _ _ hn, scratch_halo _ _ _ _ _ hn]
    refine (canon_hit _ _ _ _ (ix3 b (⟨n.val, hn⟩ : Fin 32) c) fun a => ?_).trans (pay5 _ _ _)
    match a with
    | 0 => show b.val = 0 + 1 * b.val; omega
    | 1 => show n.val = 0 + 1 * n.val; omega
    | 2 => show c.val = 0 + 1 * c.val; omega
  · obtain ⟨r, hr⟩ : ∃ r : Fin 128, n = ⟨32 + r.val, below r⟩ := ⟨⟨n.val - 32, by have := n.isLt; omega⟩, Fin.ext (by show n.val = 32 + (n.val - 32); omega)⟩
    clear hn
    subst hr
    rw [canon_row x0 x5 x7 ha hb, scratch_row]

include ha hb in
/-- The scratch of a later point, which holds what the point before handed on. -/
theorem scratch_B {M : Memref sig .tc .vmem S4x160x256 .f32} (hM : M.IsWhole) (xs : Vec Ideal S4x160x256 .f32)
    (b : Fin 4) (n : Fin 160) (c : Fin 256) :
    M.view.read (Elt Ideal) (M.view.writes (Elt Ideal) (hM.unread xs) (stored va vb [])) (ix3 b n c)
      = scratch (fun b n c => xs (ix3 b ⟨n.val, by omega⟩ c)) (unitB x0 x5 x7) b n.val c := by
  by_cases hn : n.val < 32
  · rw [View.read_writes_apply_of_forall_not_mem _ _ _ _ (stored_halo b n hn c), scratch_halo _ _ _ _ _ hn, hM.read_unread]
  · obtain ⟨r, hr⟩ : ∃ r : Fin 128, n = ⟨32 + r.val, below r⟩ := ⟨⟨n.val - 32, by have := n.isLt; omega⟩, Fin.ext (by show n.val = 32 + (n.val - 32); omega)⟩
    clear hn
    subst hr
    refine (View.read_writes_apply_eq_canon _ _ _ _ ?_).trans ((canon_row x0 x5 x7 ha hb [] b r c).trans (scratch_row _ _ b r c).symm)
    have key : ∀ k inb w, b.val = k → (⟨Rect.unit ![k, 32, 0] S1x128x256.size inb, w⟩ : View.Piece (Elt Ideal) S4x160x256 .f32) ∈ stored va vb [] →
        ∃ p ∈ stored va vb [], (ix3 b ⟨32 + r.val, by omega⟩ c : S4x160x256.Idx) ∈ p.1.set := fun k inb w hk hm =>
      ⟨_, hm, by
        refine (Rect.mem_set_unit (inb := inb)).mpr fun a => ?_
        match a with
        | 0 => show k ≤ b.val ∧ b.val < k + 1; omega
        | 1 => show 32 ≤ 32 + r.val ∧ 32 + r.val < 32 + 128; omega
        | 2 => show 0 ≤ c.val ∧ c.val < 0 + 256; omega⟩
    match b with
    | 3 => exact key 3 _ _ rfl (.head _)
    | 2 => exact key 2 _ _ rfl (.tail _ (.head _))
    | 1 => exact key 1 _ _ rfl (.tail _ (.tail _ (.head _)))
    | 0 => exact key 0 _ _ rfl (.tail _ (.tail _ (.tail _ (.head _))))

/-- A later store, of halo rows, does not change the rows at the end. -/
theorem miss_top (b : Fin 4) (n : ℕ) {inb : ∀ a, (![n, 0, 0] : Fin 3 → ℕ) a + S1x32x256.size a ≤ S4x160x256.size a}
    (w : Vec Ideal S1x32x256 .f32) (L : List (View.Piece (Elt Ideal) S4x160x256 .f32)) (k : Fin 160) (hk : 32 ≤ k.val) (c : Fin 256) :
    View.canon (⟨Rect.unit (s := S4x160x256) ![n, 0, 0] S1x32x256.size inb, w⟩ :: L) (ix3 b k c) = View.canon L (ix3 b k c) :=
  canon_miss (s := S4x160x256) ![n, 0, 0] S1x32x256.size inb w L (ix3 b k c) (1 : Fin 3)
    (Or.inr (show 0 + 32 ≤ k.val by omega))

end Scratch

/-! The halo handed on: the last 32 rows, sequence by sequence. -/

section Halo

variable {M : Memref sig .tc .vmem S4x160x256 .f32} {P : List (View.Piece (Elt Ideal) S4x160x256 .f32)}
  {v0 v1 v2 v3 : Vec Ideal S1x32x256 .f32}

/-- The store of a sequence's halo, at its own sequence. -/
theorem hit_top (q : Fin 4) (n : ℕ) (hn : n = q.val)
    {inb : ∀ a, (![n, 0, 0] : Fin 3 → ℕ) a + S1x32x256.size a ≤ S4x160x256.size a} (w : Vec Ideal S1x32x256 .f32)
    (L : List (View.Piece (Elt Ideal) S4x160x256 .f32)) (k : Fin 160) (r : Fin 32) (hr : k.val = r.val) (c : Fin 256) :
    View.canon (⟨Rect.unit (s := S4x160x256) ![n, 0, 0] S1x32x256.size inb, w⟩ :: L) (ix3 q k c) = w (ix3 0 r c) := by
  subst hn
  refine canon_hit (Rect.unit (s := S4x160x256) ![q.val, 0, 0] S1x32x256.size inb) w L (ix3 q k c) (ix3 (0 : Fin 1) r c) fun a => ?_
  match a with
  | 0 => show q.val = q.val + 1 * 0; omega
  | 1 => show k.val = 0 + 1 * r.val; omega
  | 2 => show c.val = 0 + 1 * c.val; omega

/-- The store of another sequence's halo does not reach a row. -/
theorem pass_top (q : Fin 4) (n : ℕ) (h : q.val < n)
    {inb : ∀ a, (![n, 0, 0] : Fin 3 → ℕ) a + S1x32x256.size a ≤ S4x160x256.size a} (w : Vec Ideal S1x32x256 .f32)
    (L : List (View.Piece (Elt Ideal) S4x160x256 .f32)) (k : Fin 160) (c : Fin 256) :
    View.canon (⟨Rect.unit (s := S4x160x256) ![n, 0, 0] S1x32x256.size inb, w⟩ :: L) (ix3 q k c) = View.canon L (ix3 q k c) :=
  canon_miss (s := S4x160x256) ![n, 0, 0] S1x32x256.size inb w L (ix3 q k c) (0 : Fin 3) (Or.inl (show q.val < n from h))

/-- The four halo stores. -/
theorem halo_stores {H5 H6 H7 H8 H9 : List (View.Piece (Elt Ideal) S4x160x256 .f32)} {r61 : FVec Ideal S32x256 .f32}
    (h9 : H9 = ⟨Rect.unit ![3, 0, 0] S1x32x256.size inb_S4x160x256_S1x32x256_3_0_0, k0_pay149 v3⟩ :: H8)
    (h8 : H8 = ⟨Rect.unit ![2, 0, 0] S1x32x256.size inb_S4x160x256_S1x32x256_2_0_0, k0_pay148 r61⟩ :: H7)
    (h61 : r61 = k0_pay147 v2)
    (h7 : H7 = ⟨Rect.unit ![1, 0, 0] S1x32x256.size inb_S4x160x256_S1x32x256_1_0_0, k0_pay146 v1⟩ :: H6)
    (h6 : H6 = ⟨Rect.unit ![0, 0, 0] S1x32x256.size inb_S4x160x256_S1x32x256_0_0_0, k0_pay145 v0⟩ :: H5)
    (e3 : v3 = M.view.readCov H8 (Rect.unit (s := S4x160x256) ![3, 128, 0] S1x32x256.size inb_S4x160x256_S1x32x256_3_128_0).toLoadRect)
    (e2 : v2 = M.view.readCov H7 (Rect.unit (s := S4x160x256) ![2, 128, 0] S1x32x256.size inb_S4x160x256_S1x32x256_2_128_0).toLoadRect)
    (e1 : v1 = M.view.readCov H6 (Rect.unit (s := S4x160x256) ![1, 128, 0] S1x32x256.size inb_S4x160x256_S1x32x256_1_128_0).toLoadRect)
    (e0 : v0 = M.view.readCov H5 (Rect.unit (s := S4x160x256) ![0, 128, 0] S1x32x256.size inb_S4x160x256_S1x32x256_0_128_0).toLoadRect)
    {U : Fin 4 → Fin 128 → Fin 256 → EReal} (hU : ∀ b (r : Fin 128) c, View.canon H5 (ix3 b ⟨32 + r.val, below r⟩ c) = U b r c)
    (b : Fin 4) (k : Fin 160) (s : Fin 32) (hs : k.val = s.val) (c : Fin 256) :
    View.canon H9 (ix3 b k c) = U b ⟨96 + s.val, by omega⟩ c := by
  have u6 : ∀ b (r : Fin 128) c, View.canon H6 (ix3 b ⟨32 + r.val, below r⟩ c) = U b r c := fun b r c => by
    rw [h6, ← hU]; exact miss_top b 0 _ _ _ (by show 32 ≤ 32 + r.val; omega) c
  have u7 : ∀ b (r : Fin 128) c, View.canon H7 (ix3 b ⟨32 + r.val, below r⟩ c) = U b r c := fun b r c => by
    rw [h7, ← u6]; exact miss_top b 1 _ _ _ (by show 32 ≤ 32 + r.val; omega) c
  have u8 : ∀ b (r : Fin 128) c, View.canon H8 (ix3 b ⟨32 + r.val, below r⟩ c) = U b r c := fun b r c => by
    rw [h8, ← u7]; exact miss_top b 2 _ _ _ (by show 32 ≤ 32 + r.val; omega) c
  have f0 : v0 (ix3 0 s c) = U 0 ⟨96 + s.val, by omega⟩ c := by
    rw [e0]
    exact (cov3 H5 0 128 0 _ 0 s c 0 ⟨32 + (96 + s.val), by omega⟩ c rfl (by show 32 + (96 + s.val) = _; omega) (by omega)).trans
      (hU 0 ⟨96 + s.val, by omega⟩ c)
  have f1 : v1 (ix3 0 s c) = U 1 ⟨96 + s.val, by omega⟩ c := by
    rw [e1]
    exact (cov3 H6 1 128 0 _ 0 s c 1 ⟨32 + (96 + s.val), by omega⟩ c rfl (by show 32 + (96 + s.val) = _; omega) (by omega)).trans
      (u6 1 ⟨96 + s.val, by omega⟩ c)
  have f2 : v2 (ix3 0 s c) = U 2 ⟨96 + s.val, by omega⟩ c := by
    rw [e2]
    exact (cov3 H7 2 128 0 _ 0 s c 2 ⟨32 + (96 + s.val), by omega⟩ c rfl (by show 32 + (96 + s.val) = _; omega) (by omega)).trans
      (u7 2 ⟨96 + s.val, by omega⟩ c)
  have f3 : v3 (ix3 0 s c) = U 3 ⟨96 + s.val, by omega⟩ c := by
    rw [e3]
    exact (cov3 H8 3 128 0 _ 0 s c 3 ⟨32 + (96 + s.val), by omega⟩ c rfl (by show 32 + (96 + s.val) = _; omega) (by omega)).trans
      (u8 3 ⟨96 + s.val, by omega⟩ c)
  rw [h9]
  match b with
  | 3 => exact (hit_top 3 3 rfl _ _ k s hs c).trans ((pay149 _ s c).trans f3)
  | 2 =>
    refine (pass_top 2 3 (by decide) _ _ k c).trans ?_
    rw [h8, h61]
    exact (hit_top 2 2 rfl _ _ k s hs c).trans ((pay148 _ s c).trans f2)
  | 1 =>
    refine (pass_top 1 3 (by decide) _ _ k c).trans ?_
    rw [h8]
    refine (pass_top 1 2 (by decide) _ _ k c).trans ?_
    rw [h7]
    exact (hit_top 1 1 rfl _ _ k s hs c).trans ((pay146 _ s c).trans f1)
  | 0 =>
    refine (pass_top 0 3 (by decide) _ _ k c).trans ?_
    rw [h8]
    refine (pass_top 0 2 (by decide) _ _ k c).trans ?_
    rw [h7]
    refine (pass_top 0 1 (by decide) _ _ k c).trans ?_
    rw [h6]
    exact (hit_top 0 0 rfl _ _ k s hs c).trans ((pay145 _ s c).trans f0)

end Halo

/-! The mixed rows, where the output's product reads them. -/

section Mixed

variable {M : Memref sig .tc .vmem S512x1024 .f32} {V : Vec Ideal S512x1024 .f32}
  {pB pC : Vec Ideal S512x256 .f32} {pD : Vec Ideal S512x256 .f32} {p0 p1 p2 p3 : Vec Ideal S128x256 .f32}

/-- The body's stores of the mixed rows, the newest first. -/
abbrev mixedRows (pC pB pD : Vec Ideal S512x256 .f32) (p3 p2 p1 p0 : Vec Ideal S128x256 .f32) :
    List (View.Piece (Elt Ideal) S512x1024 .f32) :=
  [⟨Rect.unit ![0, 512] ![512, 256] inb_S512x1024_S512x256_0_512, pC⟩,
    ⟨Rect.unit ![0, 256] S512x256.size inb_S512x1024_S512x256_0_256, pB⟩,
    ⟨Rect.unit ![0, 768] S512x256.size inb_S512x1024_S512x256_0_768, pD⟩,
    ⟨Rect.unit ![384, 0] S128x256.size inb_S512x1024_S128x256_384_0, p3⟩,
    ⟨Rect.unit ![256, 0] S128x256.size inb_S512x1024_S128x256_256_0, p2⟩,
    ⟨Rect.unit ![128, 0] S128x256.size inb_S512x1024_S128x256_128_0, p1⟩,
    ⟨Rect.unit ![0, 0] S128x256.size inb_S512x1024_S128x256_0_0, p0⟩]

/-- A store of columns that do not hold a column. -/
theorem miss_col (n0 n1 m0 m1 : ℕ) {inb : ∀ a, (![n0, n1] : Fin 2 → ℕ) a + (![m0, m1] : Fin 2 → ℕ) a ≤ S512x1024.size a}
    (w : Vec Ideal ⟨2, ![m0, m1]⟩ .f32) (L : List (View.Piece (Elt Ideal) S512x1024 .f32)) (R : Fin 512) (j : Fin 1024)
    (h : j.val < n1 ∨ n1 + m1 ≤ j.val) :
    View.canon (⟨Rect.unit (s := S512x1024) ![n0, n1] ![m0, m1] inb, w⟩ :: L) (ix2 R j) = View.canon L (ix2 R j) :=
  canon_miss (s := S512x1024) ![n0, n1] ![m0, m1] inb w L (ix2 R j) (1 : Fin 2) h

/-- A store of rows that do not hold a row. -/
theorem miss_rows (n0 n1 m0 m1 : ℕ) {inb : ∀ a, (![n0, n1] : Fin 2 → ℕ) a + (![m0, m1] : Fin 2 → ℕ) a ≤ S512x1024.size a}
    (w : Vec Ideal ⟨2, ![m0, m1]⟩ .f32) (L : List (View.Piece (Elt Ideal) S512x1024 .f32)) (R : Fin 512) (j : Fin 1024)
    (h : R.val < n0 ∨ n0 + m0 ≤ R.val) :
    View.canon (⟨Rect.unit (s := S512x1024) ![n0, n1] ![m0, m1] inb, w⟩ :: L) (ix2 R j) = View.canon L (ix2 R j) :=
  canon_miss (s := S512x1024) ![n0, n1] ![m0, m1] inb w L (ix2 R j) (0 : Fin 2) h

/-- A store, at an index it holds. -/
theorem hit_mixed (n0 n1 m0 m1 : ℕ) {inb : ∀ a, (![n0, n1] : Fin 2 → ℕ) a + (![m0, m1] : Fin 2 → ℕ) a ≤ S512x1024.size a}
    (w : Vec Ideal ⟨2, ![m0, m1]⟩ .f32) (L : List (View.Piece (Elt Ideal) S512x1024 .f32)) (R : Fin 512) (j : Fin 1024)
    (a : Fin m0) (b : Fin m1) (ha : R.val = n0 + a.val) (hb : j.val = n1 + b.val) :
    View.canon (⟨Rect.unit (s := S512x1024) ![n0, n1] ![m0, m1] inb, w⟩ :: L) (ix2 R j) = w (ix2 a b) := by
  refine canon_hit (Rect.unit (s := S512x1024) ![n0, n1] ![m0, m1] inb) w L (ix2 R j) (ix2 a b) fun x => ?_
  match x with
  | 0 => show R.val = n0 + 1 * a.val; omega
  | 1 => show j.val = n1 + 1 * b.val; omega

/-- The columns of group D. -/
theorem mixed_D (R : Fin 512) (c : Fin 256) (j : Fin 1024) (hj : j.val = 768 + c.val) :
    View.canon (mixedRows pC pB pD p3 p2 p1 p0) (ix2 R j) = pD (ix2 R c) :=
  (miss_col 0 512 512 256 _ _ R j (Or.inr (by omega))).trans ((miss_col 0 256 512 256 _ _ R j (Or.inr (by omega))).trans
    (hit_mixed 0 768 512 256 _ _ R j R c (by omega) hj))

/-- The columns of group A. -/
theorem mixed_A {f : Fin 4 → Fin 128 → Fin 256 → EReal} (h0 : ∀ i c, p0 (ix2 i c) = f 0 i c) (h1 : ∀ i c, p1 (ix2 i c) = f 1 i c)
    (h2 : ∀ i c, p2 (ix2 i c) = f 2 i c) (h3 : ∀ i c, p3 (ix2 i c) = f 3 i c) (b : Fin 4) (r : Fin 128) (c : Fin 256) (j : Fin 1024)
    (hj : j.val = c.val) : View.canon (mixedRows pC pB pD p3 p2 p1 p0) (ix2 (row b r) j) = f b r c := by
  refine (miss_col 0 512 512 256 _ _ _ j (Or.inl (by omega))).trans ((miss_col 0 256 512 256 _ _ _ j (Or.inl (by omega))).trans
    ((miss_col 0 768 512 256 _ _ _ j (Or.inl (by omega))).trans ?_))
  have hr : (row b r).val = b.val * 128 + r.val := rfl
  match b with
  | 3 =>
    replace hr : (row 3 r).val = 3 * 128 + r.val := hr
    exact (hit_mixed 384 0 128 256 _ _ _ j r c (by omega) (by omega)).trans (h3 r c)
  | 2 =>
    replace hr : (row 2 r).val = 2 * 128 + r.val := hr
    exact (miss_rows 384 0 128 256 _ _ _ j (Or.inl (by omega))).trans
      ((hit_mixed 256 0 128 256 _ _ _ j r c (by omega) (by omega)).trans (h2 r c))
  | 1 =>
    replace hr : (row 1 r).val = 1 * 128 + r.val := hr
    exact (miss_rows 384 0 128 256 _ _ _ j (Or.inl (by omega))).trans ((miss_rows 256 0 128 256 _ _ _ j (Or.inl (by omega))).trans
      ((hit_mixed 128 0 128 256 _ _ _ j r c (by omega) (by omega)).trans (h1 r c)))
  | 0 =>
    replace hr : (row 0 r).val = 0 * 128 + r.val := hr
    exact (miss_rows 384 0 128 256 _ _ _ j (Or.inl (by omega))).trans ((miss_rows 256 0 128 256 _ _ _ j (Or.inl (by omega))).trans
      ((miss_rows 128 0 128 256 _ _ _ j (Or.inl (by omega))).trans
        ((hit_mixed 0 0 128 256 _ _ _ j r c (by omega) (by omega)).trans (h0 r c))))

end Mixed

/-- THE OUTPUT'S ROWS from the mixed rows of groups A and D, where the other groups' rows of the output projection are zero. -/
theorem out_rows {V : Vec Ideal S512x1024 .f32} {H : Fin 4 → Fin 32 → Fin 256 → EReal}
    (hA : ∀ b r (c : Fin 256) (j : Fin 1024), j.val = c.val → V (ix2 (row b r) j) = rowA x0 x5 x6 x9 x10 x11 b r c)
    (hD : ∀ b r (c : Fin 256) (j : Fin 1024), j.val = 768 + c.val → V (ix2 (row b r) j) = rowD x0 x5 x7 x9 x17 H b r c)
    (hx18 : ∀ (k : Fin 512) q, x18 (ix3 0 ⟨256 + k.val, by omega⟩ q) = 0) (b : Fin 4) (r : Fin 128) (q : Fin 1024) :
    k0_pay2 (F := Ideal) x0 V x18 (ix3 b r q) = rowOut x0 x5 x6 x7 x9 x10 x11 x17 x18 H b r q := by
  rw [pay2]
  unfold rowOut outRow rowMul
  refine congrArg (x0 (ix3 b r q) + ·) ?_
  rw [Fin.sum_univ_add (a := 768) (b := 256), Fin.sum_univ_add (a := 256) (b := 512)]
  have hz : ∑ i : Fin 512, V (ix2 (row b r) (Fin.castAdd 256 (Fin.natAdd 256 i))) * x18 (ix3 0 (Fin.castAdd 256 (Fin.natAdd 256 i)) q) = 0 :=
    Finset.sum_eq_zero fun i _ => by
      rw [show (Fin.castAdd 256 (Fin.natAdd 256 i) : Fin 1024) = ⟨256 + i.val, by omega⟩ from rfl, hx18, mul_zero]
  rw [hz, add_zero]
  refine congrArg₂ (· + ·) (Finset.sum_congr rfl fun c _ => ?_) (Finset.sum_congr rfl fun c _ => ?_)
  · rw [hA b r c _ rfl]; rfl
  · rw [hD b r c _ rfl]; rfl

end Rows

end Cert.Kernel3Ideal.Body

end
-- ==== Proof.MixOut.lean ====
/-
  What one point of the mixing call leaves: the rows of the output block and the halo rows it hands on, for groups A and D,
  under zero rows of the output projection for the recurrent groups. The words are what the body's run names its steps.
-/
module

public import proofs.«01_k».proof.Proof.MixPoint
public import proofs.«01_k».proof.Proof.MixFrame

@[expose] public section

set_option maxRecDepth 16384

noncomputable section

namespace Cert.Kernel3Ideal.Body

open Idealize.ShloMosaic Idealize.ShloMosaic.TcCoe Idealize.ShloMosaic.Tactic Idealize.SL.Sem
open Cert.Kernel3Ideal Cert.Kernel3Ideal.Gen Cert.Ffn Cert.Mix

section Words

variable (x0 : Vec Ideal S4x128x1024 .f32) (x5 : Vec Ideal S1x1x1024 .f32) (x6 x7 : Vec Ideal S1x1024x1536 .bf16)
  (x9 : Vec Ideal S1x16x256 .f32) (x10 : Vec Ideal S1x128x512 .f32) (x11 : Vec Ideal S1x128x256 .f32)
  (x17 : Vec Ideal S1x31x256 .f32) (x18 : Vec Ideal S1x1024x1024 .bf16)

/-- The normed rows, from the loads they are made of. -/
theorem hn_words {r3 : FVec Ideal S512x1024 .bf16} {X G} (h3 : r3 = k0_pay40 (F := Ideal) X G)
    (hX : ∀ b r k, X (ix3 b r k) = x0 (ix3 b r k)) (hG : ∀ k, G (ix3 0 0 k) = x5 (ix3 0 0 k)) (b : Fin 4) (r : Fin 128) (k : Fin 1024) :
    r3 (ix2 (row b r) k) = hn x0 x5 b r k := by
  rw [h3, hn_row]
  simp only [hX, hG]
  rfl

/-- Group A's columns of the mixed rows. -/
theorem cols_A {M29 : Memref sig .tc .vmem S512x1024 .f32} {V : Vec Ideal S512x1024 .f32} {H7} {pC pB pD : Vec Ideal S512x256 .f32}
    {r1 : _} {r2 : FVec Ideal S128x512 .bf16} {r28 r29 r30 r31 r32 r34 r35 r36 r37 r38 : _} {z : _} {v495 v509 : Vec Ideal S512x256 .f32}
    {w : Vec Ideal S1x128x512 .f32} {bm r33 : Vec Ideal S1x128x256 .f32} {g be : Vec Ideal S1x1x256 .f32} {i29}
    (hV : V = M29.view.readCov H7 (Rect.unit (s := S512x1024) ![0, 0] ![512, 1024] i29).toLoadRect)
    (h7 : H7 = mixedRows pC pB pD (k0_pay110 (F := Ideal) r2 r28 r35 r36 r37 r38 (k0_pay109 k0_pay39) z bm)
      (k0_pay104 (F := Ideal) r2 k0_pay39 r28 r34 (k0_pay102 k0_pay39) k0_pay103 bm) (k0_pay100 (F := Ideal) r2 k0_pay39 r28 r31 bm)
      (k0_pay99 (F := Ideal) r28 r32 r33))
    (hz : z = Scalar.ofBits .bf16 0x0000#16) (h2 : r2 = k0_pay38 (F := Ideal) k0_pay35 r1 k0_pay37) (h1 : r1 = k0_pay36 (F := Ideal) w)
    (h38 : r38 = k0_pay108 (F := Ideal) k0_pay39 r31) (h37 : r37 = k0_pay107 (F := Ideal) k0_pay39 r31)
    (h36 : r36 = k0_pay106 (F := Ideal) k0_pay39 r31) (h35 : r35 = k0_pay105 (F := Ideal) r31) (h34 : r34 = k0_pay101 (F := Ideal) r31)
    (h33 : bm = r33) (h32 : r32 = k0_pay98 (F := Ideal) r2 k0_pay39 r29 r30 be) (h31 : r31 = k0_pay97 (F := Ideal) r29 r30 be)
    (h30 : r30 = k0_pay96 (F := Ideal) g) (h29 : r29 = k0_pay95 (F := Ideal) v509) (h28 : r28 = k0_pay94 (F := Ideal) v495)
    (hu : ∀ b r (c : Fin 256), v495 (ix2 (row b r) c) = zA x0 x5 x6 b r ⟨c.val, by omega⟩)
    (hv : ∀ b r (c : Fin 256), v509 (ix2 (row b r) c) = zA x0 x5 x6 b r ⟨256 + c.val, by omega⟩)
    (hw : ∀ i j, w (ix3 0 i j) = x10 (ix3 0 i j)) (hbm : ∀ i j, bm (ix3 0 i j) = x11 (ix3 0 i j))
    (hg : ∀ c, g (ix3 0 0 c) = x9 (ix3 0 0 c)) (hbe : ∀ c, be (ix3 0 0 c) = x9 (ix3 0 1 c))
    (b : Fin 4) (r : Fin 128) (c : Fin 256) (j : Fin 1024) (hj : j.val = c.val) :
    V (ix2 (row b r) j) = rowA x0 x5 x6 x9 x10 x11 b r c := by
  subst hV h7 h38 h37 h36 h35 h34 h32 h33 h31 h30 h29 h28 h2 h1 hz
  have core : ∀ (b : Fin 4) (i : Fin 128) (c : Fin 256), k0_pay94 (F := Ideal) v495 (ix2 (row b i) c) *
      ((∑ j : Fin 128, k0_pay38 (F := Ideal) k0_pay35 (k0_pay36 w) k0_pay37
          (ix2 i ⟨(head c).val * 128 + j.val, by have := (head c).isLt; omega⟩) *
        k0_pay97 (F := Ideal) (k0_pay95 v509) (k0_pay96 g) be (ix2 (row b j) c)) + bm (ix3 0 i c)) = rowA x0 x5 x6 x9 x10 x11 b i c := by
    intro b i c
    simp only [pay94, pay95, pay97, weight, hu, hv, hw, hbm, hg, hbe]
    rfl
  refine (cov2 _ 0 0 i29 (row b r) j (row b r) j (by omega) (by omega)).trans (mixed_A (f := rowA x0 x5 x6 x9 x10 x11)
    (fun i c => ?_) (fun i c => ?_) (fun i c => ?_) (fun i c => ?_) b r c j hj)
  · exact (pay99 _ _ _ _ _ _ i c).trans (core 0 i c)
  · exact (pay100 _ _ _ _ i c).trans (core 1 i c)
  · exact (pay104 _ _ _ _ i c).trans (core 2 i c)
  · exact (pay110 _ _ _ _ i c).trans (core 3 i c)

/-- Group D's columns of the mixed rows. -/
theorem cols_D {M29 : Memref sig .tc .vmem S512x1024 .f32} {V : Vec Ideal S512x1024 .f32} {H7} {pC pB : Vec Ideal S512x256 .f32}
    {p3 p2 p1 p0 : Vec Ideal S128x256 .f32} {r62 r63 r60 z : _} {lg lb : Vec Ideal S1x1x256 .f32} {i29}
    {H : Fin 4 → Fin 32 → Fin 256 → EReal}
    (hV : V = M29.view.readCov H7 (Rect.unit (s := S512x1024) ![0, 0] ![512, 1024] i29).toLoadRect)
    (h7 : H7 = mixedRows pC pB (k0_pay152 (F := Ideal) r62 r63 z) p3 p2 p1 p0) (hz : z = Scalar.ofBits .f32 0x3F000000#32)
    (h62 : r62 = k0_pay150 (F := Ideal) r60 lg lb) (h63 : r63 = k0_pay151 (F := Ideal) r60 lg lb)
    (hlg : ∀ c, lg (ix3 0 0 c) = x9 (ix3 0 13 c)) (hlb : ∀ c, lb (ix3 0 0 c) = x9 (ix3 0 14 c))
    (h60 : ∀ b r c, r60 (ix3 b r c) = convB x0 x5 x7 x9 x17 H b r c)
    (b : Fin 4) (r : Fin 128) (c : Fin 256) (j : Fin 1024) (hj : j.val = 768 + c.val) :
    V (ix2 (row b r) j) = rowD x0 x5 x7 x9 x17 H b r c := by
  subst hV h7 h62 h63 hz
  refine (cov2 _ 0 0 i29 (row b r) j (row b r) j (by omega) (by omega)).trans ((mixed_D (row b r) c j hj).trans ?_)
  rw [pay152]
  simp only [h60, hlg, hlb]
  rfl

/-- A tap of the convolution, as the body loads it. -/
abbrev tap {M : Memref sig .tc .vmem S1x31x256 .f32} (h : M.IsWhole) (k : Fin 31) : Vec Ideal S1x1x256 .f32 :=
  View.readAt (Elt Ideal) M.view (Rect.unit (s := S1x31x256) ![0, k.val, 0] S1x1x256.size (fun a => by
    match a with
    | 0 => show 0 + 1 ≤ 1; omega
    | 1 => show k.val + 1 ≤ 31; omega
    | 2 => show 0 + 256 ≤ 256; omega)).toLoadRect (h.unread x17)

/-- The residues' sums read back at a shift. -/
theorem shifted {M : Memref sig .tc .vmem S4x136x256 .f32} {y : Vec Ideal S4x128x256 .f32} {K T} {P : Vec Ideal S4x136x256 .f32} {n : ℕ}
    {i1 i2} (hn : n ≤ 8) (hy : y = M.view.readCov K (Rect.unit (s := S4x136x256) ![0, n, 0] S4x128x256.size i1).toLoadRect)
    (hK : K = ⟨Rect.unit (s := S4x136x256) ![0, 0, 0] S4x136x256.size i2, P⟩ :: T) (b : Fin 4) (r : Fin 128) (c : Fin 256) :
    y (ix3 b r c) = P (ix3 b ⟨n + r.val, by omega⟩ c) := by
  subst hy hK
  refine (cov3 _ 0 n 0 i1 b r c b ⟨n + r.val, by omega⟩ c (by omega) rfl (by omega)).trans
    (canon_hit (Rect.unit (s := S4x136x256) ![0, 0, 0] S4x136x256.size i2) P T (ix3 b ⟨n + r.val, by omega⟩ c)
      (ix3 b (⟨n + r.val, by omega⟩ : Fin 136) c) fun a => ?_)
  match a with
  | 0 => show b.val = 0 + 1 * b.val; omega
  | 1 => show n + r.val = 0 + 1 * (n + r.val); omega
  | 2 => show c.val = 0 + 1 * c.val; omega

/-- The convolution's rows. -/
theorem conv_words {M26 : Memref sig .tc .vmem S4x136x256 .f32} {M19 : Memref sig .tc .vmem S1x31x256 .f32} (h19 : M19.IsWhole)
    {H : Fin 4 → Fin 32 → Fin 256 → EReal} {cb : Vec Ideal S1x1x256 .f32} {c8 c16 c24 c32 : Vec Ideal S4x128x256 .f32}
    {d0 d8 d16 d24 : Vec Ideal S4x136x256 .f32} {y1 y2 y3 y4 y5 y6 y7 : Vec Ideal S4x128x256 .f32}
    {r41 r42 r43 r44 r45 r46 r47 r48 r49 r50 r51 r52 r53 r54 r55 r56 r57 r58 r59 r60 : _}
    {K1 K2 K3 K4 K5 K6 K7 T1 T2 T3 T4 T5 T6 T7 : _} {i1 i2 i3 i4 i5 i6 i7 i}
    (e60 : r60 = k0_pay144 (F := Ideal) r57 y7) (e57 : r57 = k0_pay140 (F := Ideal) r55 y6) (e55 : r55 = k0_pay137 (F := Ideal) r53 y5)
    (e53 : r53 = k0_pay134 (F := Ideal) r50 y4) (e50 : r50 = k0_pay130 (F := Ideal) r47 y3) (e47 : r47 = k0_pay126 (F := Ideal) r44 y2)
    (e44 : r44 = k0_pay122 (F := Ideal) r42 y1) (e42 : r42 = k0_pay119 (F := Ideal) r41 (tap x17 h19 30) c32 cb)
    (e41 : r41 = k0_pay118 (F := Ideal) (tap x17 h19 6) c8 (tap x17 h19 14) c16 (tap x17 h19 22) c24)
    (f7 : y7 = M26.view.readCov K7 (Rect.unit (s := S4x136x256) ![0, 7, 0] S4x128x256.size i7).toLoadRect)
    (f6 : y6 = M26.view.readCov K6 (Rect.unit (s := S4x136x256) ![0, 6, 0] S4x128x256.size i6).toLoadRect)
    (f5 : y5 = M26.view.readCov K5 (Rect.unit (s := S4x136x256) ![0, 5, 0] S4x128x256.size i5).toLoadRect)
    (f4 : y4 = M26.view.readCov K4 (Rect.unit (s := S4x136x256) ![0, 4, 0] S4x128x256.size i4).toLoadRect)
    (f3 : y3 = M26.view.readCov K3 (Rect.unit (s := S4x136x256) ![0, 3, 0] S4x128x256.size i3).toLoadRect)
    (f2 : y2 = M26.view.readCov K2 (Rect.unit (s := S4x136x256) ![0, 2, 0] S4x128x256.size i2).toLoadRect)
    (f1 : y1 = M26.view.readCov K1 (Rect.unit (s := S4x136x256) ![0, 1, 0] S4x128x256.size i1).toLoadRect)
    (k7 : K7 = ⟨Rect.unit (s := S4x136x256) ![0, 0, 0] S4x136x256.size i, k0_pay143 (F := Ideal) r58 d16 r59 (tap x17 h19 29) d24⟩ :: T7)
    (k6 : K6 = ⟨Rect.unit (s := S4x136x256) ![0, 0, 0] S4x136x256.size i, k0_pay139 (F := Ideal) r56 (tap x17 h19 28) d24⟩ :: T6)
    (k5 : K5 = ⟨Rect.unit (s := S4x136x256) ![0, 0, 0] S4x136x256.size i, k0_pay136 (F := Ideal) r54 (tap x17 h19 27) d24⟩ :: T5)
    (k4 : K4 = ⟨Rect.unit (s := S4x136x256) ![0, 0, 0] S4x136x256.size i, k0_pay133 (F := Ideal) r51 r52 d24⟩ :: T4)
    (k3 : K3 = ⟨Rect.unit (s := S4x136x256) ![0, 0, 0] S4x136x256.size i, k0_pay129 (F := Ideal) r48 r49 d24⟩ :: T3)
    (k2 : K2 = ⟨Rect.unit (s := S4x136x256) ![0, 0, 0] S4x136x256.size i, k0_pay125 (F := Ideal) r45 r46⟩ :: T2)
    (k1 : K1 = ⟨Rect.unit (s := S4x136x256) ![0, 0, 0] S4x136x256.size i, k0_pay121 (F := Ideal) r43⟩ :: T1)
    (e59 : r59 = k0_pay142 (F := Ideal) (tap x17 h19 21))
    (e58 : r58 = k0_pay141 (F := Ideal) (tap x17 h19 5) d0 (tap x17 h19 13) d8)
    (e56 : r56 = k0_pay138 (F := Ideal) (tap x17 h19 4) d0 (tap x17 h19 12) d8 (tap x17 h19 20) d16)
    (e54 : r54 = k0_pay135 (F := Ideal) (tap x17 h19 3) d0 (tap x17 h19 11) d8 (tap x17 h19 19) d16)
    (e52 : r52 = k0_pay132 (F := Ideal) (tap x17 h19 26))
    (e51 : r51 = k0_pay131 (F := Ideal) (tap x17 h19 2) d0 (tap x17 h19 10) d8 (tap x17 h19 18) d16)
    (e49 : r49 = k0_pay128 (F := Ideal) (tap x17 h19 25))
    (e48 : r48 = k0_pay127 (F := Ideal) (tap x17 h19 1) d0 (tap x17 h19 9) d8 (tap x17 h19 17) d16)
    (e46 : r46 = k0_pay124 (F := Ideal) (tap x17 h19 24) d24)
    (e45 : r45 = k0_pay123 (F := Ideal) (tap x17 h19 0) d0 (tap x17 h19 8) d8 (tap x17 h19 16) d16)
    (e43 : r43 = k0_pay120 (F := Ideal) (tap x17 h19 7) d8 (tap x17 h19 15) d16 (tap x17 h19 23) d24)
    (hcb : ∀ c, cb (ix3 0 0 c) = x9 (ix3 0 12 c))
    (hc8 : ∀ b (r : Fin 128) c, c8 (ix3 b r c) = scratch H (unitB x0 x5 x7) b (8 + r.val) c)
    (hc16 : ∀ b (r : Fin 128) c, c16 (ix3 b r c) = scratch H (unitB x0 x5 x7) b (16 + r.val) c)
    (hc24 : ∀ b (r : Fin 128) c, c24 (ix3 b r c) = scratch H (unitB x0 x5 x7) b (24 + r.val) c)
    (hc32 : ∀ b (r : Fin 128) c, c32 (ix3 b r c) = scratch H (unitB x0 x5 x7) b (32 + r.val) c)
    (hd0 : ∀ b (r : Fin 136) c, d0 (ix3 b r c) = scratch H (unitB x0 x5 x7) b (0 + r.val) c)
    (hd8 : ∀ b (r : Fin 136) c, d8 (ix3 b r c) = scratch H (unitB x0 x5 x7) b (8 + r.val) c)
    (hd16 : ∀ b (r : Fin 136) c, d16 (ix3 b r c) = scratch H (unitB x0 x5 x7) b (16 + r.val) c)
    (hd24 : ∀ b (r : Fin 136) c, d24 (ix3 b r c) = scratch H (unitB x0 x5 x7) b (24 + r.val) c)
    (b : Fin 4) (r : Fin 128) (c : Fin 256) : r60 (ix3 b r c) = convB x0 x5 x7 x9 x17 H b r c := by
  subst e60 e57 e55 e53 e50 e47 e44 e42 e41 e59 e58 e56 e54 e52 e51 e49 e48 e46 e45 e43
  rw [conv_payload (scratch H (unitB x0 x5 x7)) (tap x17 h19) cb c8 c16 c24 c32 d0 d8 d16 d24 y1 y2 y3 y4 y5 y6 y7
    hc8 hc16 hc24 hc32 hd0 hd8 hd16 hd24 (shifted (by decide) f1 k1) (shifted (by decide) f2 k2) (shifted (by decide) f3 k3)
    (shifted (by decide) f4 k4) (shifted (by decide) f5 k5) (shifted (by decide) f6 k6) (shifted (by decide) f7 k7) b r c, hcb]
  unfold convB
  exact congrArg (· + _) (Finset.sum_congr rfl fun k _ => congrArg (· * _)
    (load3 h19 x17 0 k.val 0 _ 0 0 c 0 k c rfl (by show k.val = k.val + 0; omega) (by omega)))

/-- The output's rows. -/
theorem out_words {V : Vec Ideal S512x1024 .f32} {L : List (View.Piece (Elt Ideal) S4x128x1024 .f32)} {X W} {H : Fin 4 → Fin 32 → Fin 256 → EReal} {i}
    (hL : L = [⟨Rect.unit (s := S4x128x1024) ![0, 0, 0] ![4, 128, 1024] i, k0_pay2 (F := Ideal) X V W⟩])
    (hX : ∀ b r k, X (ix3 b r k) = x0 (ix3 b r k)) (hW : ∀ k q, W (ix3 0 k q) = x18 (ix3 0 k q))
    (hA : ∀ b r (c : Fin 256) (j : Fin 1024), j.val = c.val → V (ix2 (row b r) j) = rowA x0 x5 x6 x9 x10 x11 b r c)
    (hD : ∀ b r (c : Fin 256) (j : Fin 1024), j.val = 768 + c.val → V (ix2 (row b r) j) = rowD x0 x5 x7 x9 x17 H b r c)
    (hx18 : ∀ (k : Fin 512) q, x18 (ix3 0 ⟨256 + k.val, by omega⟩ q) = 0) (b : Fin 4) (r : Fin 128) (q : Fin 1024) :
    View.canon L (ix3 b r q) = rowOut x0 x5 x6 x7 x9 x10 x11 x17 x18 H b r q := by
  subst hL
  rw [← out_rows x0 x5 x6 x7 x9 x10 x11 x17 x18 hA hD hx18 b r q]
  refine (canon_hit (Rect.unit (s := S4x128x1024) ![0, 0, 0] ![4, 128, 1024] i) _ [] (ix3 b r q) (ix3 b r q) fun a => ?_).trans ?_
  · match a with
    | 0 => show b.val = 0 + 1 * b.val; omega
    | 1 => show r.val = 0 + 1 * r.val; omega
    | 2 => show q.val = 0 + 1 * q.val; omega
  · rw [pay2, pay2]
    simp only [hX, hW]

end Words

end Cert.Kernel3Ideal.Body

end
-- ==== Proof.MixLeave.lean ====
/-
  What the points of the mixing call leave, read off the body's runs: the output block's rows, and the halo rows handed on to
  the next point. The first point starts without halo; a later point starts with what the point before handed on.
-/
module

public import proofs.«01_k».proof.Proof.MixOut

@[expose] public section

set_option maxRecDepth 16384

noncomputable section

namespace Cert.Kernel3Ideal.Body

open Idealize.ShloMosaic Idealize.ShloMosaic.TcCoe Idealize.ShloMosaic.Tactic Idealize.SL.Sem
open Cert.Kernel3Ideal Cert.Kernel3Ideal.Gen Cert.Ffn Cert.Mix Cert.Kernel3Ideal.Mixing

section Reads

variable (x0 : Vec Ideal S4x128x1024 .f32) (x5 : Vec Ideal S1x1x1024 .f32) (x6 x7 : Vec Ideal S1x1024x1536 .bf16)
variable {M25 : Memref sig .tc .vmem S4x160x256 .f32} {H5 : List (View.Piece (Elt Ideal) S4x160x256 .f32)}
  {va vb : Vec Ideal S512x256 .f32} {p n : ℕ} {v : Vec Ideal ⟨3, ![4, p, 256]⟩ .f32}
variable (ha : ∀ b r (c : Fin 256), va (ix2 (row b r) c) = zD x0 x5 x7 b r ⟨c.val, by omega⟩)
  (hb : ∀ b r (c : Fin 256), vb (ix2 (row b r) c) = zD x0 x5 x7 b r ⟨256 + c.val, by omega⟩)

/-- Group A's columns, where the body reads them back. -/
theorem zA_lo_words {M : Memref sig .tc .vmem S512x3200 .f32} {v : Vec Ideal S512x256 .f32} {K L h w i1 i2}
    (hv : v = M.view.readCov K (Rect.unit (s := S512x3200) ![0, 0] S512x256.size i2).toLoadRect)
    (hK : K = ⟨Rect.unit (s := S512x3200) ![0, 0] S512x512.size i1, k0_pay93 (F := Ideal) h w⟩ :: L)
    (hh : ∀ b r k, h (ix2 (row b r) k) = hn x0 x5 b r k)
    (hw : ∀ k (j : Fin 512), w (ix3 0 k j) = x6 (ix3 0 k ⟨j.val, by omega⟩)) (b : Fin 4) (r : Fin 128) (c : Fin 256) :
    v (ix2 (row b r) c) = zA x0 x5 x6 b r ⟨c.val, by omega⟩ := by
  subst hv hK
  exact zA_lo x0 x5 x6 hh hw b r c i1 i2

theorem zA_hi_words {M : Memref sig .tc .vmem S512x3200 .f32} {v : Vec Ideal S512x256 .f32} {K L h w i1 i2}
    (hv : v = M.view.readCov K (Rect.unit (s := S512x3200) ![0, 256] S512x256.size i2).toLoadRect)
    (hK : K = ⟨Rect.unit (s := S512x3200) ![0, 0] S512x512.size i1, k0_pay93 (F := Ideal) h w⟩ :: L)
    (hh : ∀ b r k, h (ix2 (row b r) k) = hn x0 x5 b r k)
    (hw : ∀ k (j : Fin 512), w (ix3 0 k j) = x6 (ix3 0 k ⟨j.val, by omega⟩)) (b : Fin 4) (r : Fin 128) (c : Fin 256) :
    v (ix2 (row b r) c) = zA x0 x5 x6 b r ⟨256 + c.val, by omega⟩ := by
  subst hv hK
  exact zA_hi x0 x5 x6 hh hw b r c i1 i2

/-- Group D's columns, where the body reads them back. -/
theorem zD_lo_words {M : Memref sig .tc .vmem S512x3200 .f32} {v : Vec Ideal S512x256 .f32} {K L h w i1 i2}
    (hv : v = M.view.readCov K (Rect.unit (s := S512x3200) ![0, 2560] S512x256.size i2).toLoadRect)
    (hK : K = ⟨Rect.unit (s := S512x3200) ![0, 2560] S512x512.size i1, k0_pay111 (F := Ideal) h w⟩ :: L)
    (hh : ∀ b r k, h (ix2 (row b r) k) = hn x0 x5 b r k)
    (hw : ∀ k (j : Fin 512), w (ix3 0 k j) = x7 (ix3 0 k ⟨1024 + j.val, by omega⟩)) (b : Fin 4) (r : Fin 128) (c : Fin 256) :
    v (ix2 (row b r) c) = zD x0 x5 x7 b r ⟨c.val, by omega⟩ := by
  subst hv hK
  exact zD_lo x0 x5 x7 hh hw b r c i1 i2

theorem zD_hi_words {M : Memref sig .tc .vmem S512x3200 .f32} {v : Vec Ideal S512x256 .f32} {K L h w i1 i2}
    (hv : v = M.view.readCov K (Rect.unit (s := S512x3200) ![0, 2816] S512x256.size i2).toLoadRect)
    (hK : K = ⟨Rect.unit (s := S512x3200) ![0, 2560] S512x512.size i1, k0_pay111 (F := Ideal) h w⟩ :: L)
    (hh : ∀ b r k, h (ix2 (row b r) k) = hn x0 x5 b r k)
    (hw : ∀ k (j : Fin 512), w (ix3 0 k j) = x7 (ix3 0 k ⟨1024 + j.val, by omega⟩)) (b : Fin 4) (r : Fin 128) (c : Fin 256) :
    v (ix2 (row b r) c) = zD x0 x5 x7 b r ⟨256 + c.val, by omega⟩ := by
  subst hv hK
  exact zD_hi x0 x5 x7 hh hw b r c i1 i2

include ha hb in
/-- A load of the scratch at a sequence's first point. -/
theorem read_A {i inb} (hv : v = M25.view.readCov H5 (Rect.unit (s := S4x160x256) ![0, n, 0] ![4, p, 256] i).toLoadRect)
    (h5 : H5 = stored va vb [⟨Rect.unit (s := S4x160x256) ![0, 0, 0] S4x32x256.size inb, k0_pay5 (F := Ideal)⟩]) (hp : n + p ≤ 160)
    (b : Fin 4) (r : Fin p) (c : Fin 256) : v (ix3 b r c) = scratch none (unitB x0 x5 x7) b (n + r.val) c := by
  subst hv h5
  exact (cov3 _ 0 n 0 i b r c b ⟨n + r.val, by omega⟩ c (by omega) rfl (by omega)).trans
    (scratch_A x0 x5 x7 ha hb b ⟨n + r.val, by omega⟩ c inb)

include ha hb in
/-- A load of the scratch at a later point. -/
theorem read_B {xs : Vec Ideal S4x160x256 .f32} (hM : M25.IsWhole) {i}
    (hv : v = View.readAt (Elt Ideal) M25.view (Rect.unit (s := S4x160x256) ![0, n, 0] ![4, p, 256] i).toLoadRect
      (M25.view.writes (Elt Ideal) (hM.unread xs) H5)) (h5 : H5 = stored va vb []) (hp : n + p ≤ 160)
    (b : Fin 4) (r : Fin p) (c : Fin 256) :
    v (ix3 b r c) = scratch (fun b n c => xs (ix3 b ⟨n.val, by omega⟩ c)) (unitB x0 x5 x7) b (n + r.val) c := by
  subst hv h5
  exact (over3 _ 0 n 0 i b r c b ⟨n + r.val, by omega⟩ c (by omega) rfl (by omega)).trans
    (scratch_B x0 x5 x7 ha hb hM xs b ⟨n + r.val, by omega⟩ c)

include ha hb in
/-- A load of the point's own rows of the scratch. -/
theorem read_own {v : Vec Ideal S4x128x256 .f32} {H : Fin 4 → Fin 32 → Fin 256 → EReal} {L i}
    (hv : v = M25.view.readCov H5 (Rect.unit (s := S4x160x256) ![0, 32, 0] S4x128x256.size i).toLoadRect)
    (h5 : H5 = stored va vb L) (b : Fin 4) (r : Fin 128) (c : Fin 256) :
    v (ix3 b r c) = scratch H (unitB x0 x5 x7) b (32 + r.val) c := by
  subst hv h5
  exact (cov3 _ 0 32 0 i b r c b ⟨32 + r.val, below r⟩ c (by omega) rfl (by omega)).trans
    ((canon_row x0 x5 x7 ha hb L b r c).trans (scratch_row H _ b r c).symm)

end Reads

section Points

/-- The input tile, loaded whole. -/
theorem whole0 {M : Memref sig .tc .vmem S4x128x1024 .f32} (h : M.IsWhole) (X : Vec Ideal S4x128x1024 .f32) (b : Fin 4) (r : Fin 128)
    (k : Fin 1024) : View.readAt (Elt Ideal) M.view (Rect.unit (s := S4x128x1024) ![0, 0, 0] S4x128x1024.size
      inb_S4x128x1024_S4x128x1024_0_0_0).toLoadRect (h.unread X) (ix3 b r k) = X (ix3 b r k) :=
  load3 h X 0 0 0 _ b r k b r k (by omega) (by omega) (by omega)

/-- The norm gain, loaded whole. -/
theorem whole5 {M : Memref sig .tc .vmem S1x1x1024 .f32} (h : M.IsWhole) (X : Vec Ideal S1x1x1024 .f32) (k : Fin 1024) :
    View.readAt (Elt Ideal) M.view (Rect.unit (s := S1x1x1024) ![0, 0, 0] S1x1x1024.size
      inb_S1x1x1024_S1x1x1024_0_0_0).toLoadRect (h.unread X) (ix3 0 0 k) = X (ix3 0 0 k) :=
  load3 h X 0 0 0 _ 0 0 k 0 0 k rfl rfl (by omega)

/-- Group A's columns of the input projection. -/
theorem cols6 {M : Memref sig .tc .vmem S1x1024x1536 .bf16} (h : M.IsWhole) (X : Vec Ideal S1x1024x1536 .bf16) (k : Fin 1024)
    (j : Fin 512) : View.readAt (Elt Ideal) M.view (Rect.unit (s := S1x1024x1536) ![0, 0, 0] S1x1024x512.size
      inb_S1x1024x1536_S1x1024x512_0_0_0).toLoadRect (h.unread X) (ix3 0 k j) = X (ix3 0 k ⟨j.val, by omega⟩) :=
  load3 h X 0 0 0 _ 0 k j 0 k ⟨j.val, by omega⟩ rfl (by omega) (by show j.val = 0 + j.val; omega)

/-- Group D's columns of the input projection. -/
theorem cols7 {M : Memref sig .tc .vmem S1x1024x1536 .bf16} (h : M.IsWhole) (X : Vec Ideal S1x1024x1536 .bf16) (k : Fin 1024)
    (j : Fin 512) : View.readAt (Elt Ideal) M.view (Rect.unit (s := S1x1024x1536) ![0, 0, 1024] S1x1024x512.size
      inb_S1x1024x1536_S1x1024x512_0_0_1024).toLoadRect (h.unread X) (ix3 0 k j) = X (ix3 0 k ⟨1024 + j.val, by omega⟩) :=
  load3 h X 0 0 1024 _ 0 k j 0 k ⟨1024 + j.val, by omega⟩ rfl (by omega) rfl

variable (c : Dev nD) {i : grid0.Coords}
  {arg2 : Memref sig .tc .vmem S4x128x1024 .f32} {harg2 : arg2.IsWhole}
  {arg3 : Memref sig .tc .vmem S4x128x1024 .f32} {harg3 : arg3.IsWhole}
  {arg4 : Memref sig .tc .vmem S256x256 .bf16} {harg4 : arg4.IsWhole}
  {arg5 : Memref sig .tc .vmem S256x256 .f32} {harg5 : arg5.IsWhole}
  {arg6 : Memref sig .tc .vmem S128x512 .bf16} {harg6 : arg6.IsWhole}
  {arg7 : Memref sig .tc .vmem S1x1x1024 .f32} {harg7 : arg7.IsWhole}
  {arg8 : Memref sig .tc .vmem S1x1024x1536 .bf16} {harg8 : arg8.IsWhole}
  {arg9 : Memref sig .tc .vmem S1x1024x1536 .bf16} {harg9 : arg9.IsWhole}
  {arg10 : Memref sig .tc .vmem S1x1024x128 .bf16} {harg10 : arg10.IsWhole}
  {arg11 : Memref sig .tc .vmem S1x16x256 .f32} {harg11 : arg11.IsWhole}
  {arg12 : Memref sig .tc .vmem S1x128x512 .f32} {harg12 : arg12.IsWhole}
  {arg13 : Memref sig .tc .vmem S1x128x256 .f32} {harg13 : arg13.IsWhole}
  {arg14 : Memref sig .tc .vmem S1x4x768 .f32} {harg14 : arg14.IsWhole}
  {arg15 : Memref sig .tc .vmem S1x1x1024 .f32} {harg15 : arg15.IsWhole}
  {arg16 : Memref sig .tc .vmem S1x128x256 .f32} {harg16 : arg16.IsWhole}
  {arg17 : Memref sig .tc .vmem S1x128x256 .f32} {harg17 : arg17.IsWhole}
  {arg18 : Memref sig .tc .vmem S1x128x256 .f32} {harg18 : arg18.IsWhole}
  {arg19 : Memref sig .tc .vmem S1x31x256 .f32} {harg19 : arg19.IsWhole}
  {arg20 : Memref sig .tc .vmem S1x1024x1024 .bf16} {harg20 : arg20.IsWhole}
  {arg21 : Memref sig .tc .vmem S4x128x1024 .f32} {harg21 : arg21.IsWhole}
  {arg22 : Memref sig .tc .vmem S512x3200 .f32} {harg22 : arg22.IsWhole}
  {arg23 : Memref sig .tc .vmem S4x136x768 .f32} {harg23 : arg23.IsWhole}
  {arg24 : Memref sig .tc .vmem S4x136x1024 .f32} {harg24 : arg24.IsWhole}
  {arg25 : Memref sig .tc .vmem S4x160x256 .f32} {harg25 : arg25.IsWhole}
  {arg26 : Memref sig .tc .vmem S4x136x256 .f32} {harg26 : arg26.IsWhole}
  {arg27 : Memref sig .tc .vmem S4x256x256 .f32} {harg27 : arg27.IsWhole}
  {arg28 : Memref sig .tc .vmem S4x256x256 .f32} {harg28 : arg28.IsWhole}
  {arg29 : Memref sig .tc .vmem S512x1024 .f32} {harg29 : arg29.IsWhole}
  {hc0 : cond0_0 i} {hc1 : ¬cond0_0 i}
  {x0 : Vec Ideal S4x128x1024 .f32} {x1 : Vec Ideal S4x128x1024 .f32} {x2 : Vec Ideal S256x256 .bf16}
  {x3 : Vec Ideal S256x256 .f32} {x4 : Vec Ideal S128x512 .bf16} {x5 : Vec Ideal S1x1x1024 .f32}
  {x6 : Vec Ideal S1x1024x1536 .bf16} {x7 : Vec Ideal S1x1024x1536 .bf16} {x8 : Vec Ideal S1x1024x128 .bf16}
  {x9 : Vec Ideal S1x16x256 .f32} {x10 : Vec Ideal S1x128x512 .f32} {x11 : Vec Ideal S1x128x256 .f32}
  {x12 : Vec Ideal S1x4x768 .f32} {x13 : Vec Ideal S1x1x1024 .f32} {x14 : Vec Ideal S1x128x256 .f32}
  {x15 : Vec Ideal S1x128x256 .f32} {x16 : Vec Ideal S1x128x256 .f32} {x17 : Vec Ideal S1x31x256 .f32}
  {x18 : Vec Ideal S1x1024x1024 .bf16}
  {xs1 : Vec Ideal S4x136x768 .f32} {xs2 : Vec Ideal S4x136x1024 .f32} {xs3 : Vec Ideal S4x160x256 .f32}
  {xs5 : Vec Ideal S4x256x256 .f32} {xs6 : Vec Ideal S4x256x256 .f32}

/-- The normalised rows of a first point. -/
theorem h_A (b : Fin 4) (r : Fin 128) (k : Fin 1024) :
    kernelRun0_A.sl.r_3 (F := Ideal) c arg2 harg2 arg7 harg7 x0 x5 (ix2 (row b r) k) = hn x0 x5 b r k :=
  hn_words x0 x5 rfl (whole0 harg2 x0) (whole5 harg7 x5) b r k

/-- Group D's value half at a first point. -/
theorem a_A (b : Fin 4) (r : Fin 128) (k : Fin 256) :
    kernelRun0_A.sl.v665 (F := Ideal) c arg2 harg2 arg7 harg7 arg8 harg8 arg9 harg9 arg10 harg10 arg22 x0 x5 x6 x7 x8 (ix2 (row b r) k) = zD x0 x5 x7 b r ⟨k.val, by omega⟩ :=
  zD_lo_words x0 x5 x7 rfl rfl (h_A (harg2 := harg2) (harg7 := harg7) c) (cols7 harg9 x7) b r k

/-- Group D's gate half at a first point. -/
theorem b_A (b : Fin 4) (r : Fin 128) (k : Fin 256) :
    kernelRun0_A.sl.v666 (F := Ideal) c arg2 harg2 arg7 harg7 arg8 harg8 arg9 harg9 arg10 harg10 arg22 x0 x5 x6 x7 x8 (ix2 (row b r) k) = zD x0 x5 x7 b r ⟨256 + k.val, by omega⟩ :=
  zD_hi_words x0 x5 x7 rfl rfl (h_A (harg2 := harg2) (harg7 := harg7) c) (cols7 harg9 x7) b r k

/-- The output rows of a first point. -/
theorem rows_A (hx18 : ∀ (k : Fin 512) q, x18 (ix3 0 ⟨256 + k.val, by omega⟩ q) = 0) (b : Fin 4) (r : Fin 128) (q : Fin 1024) :
    View.canon (kernelRun0_A (F := Ideal) c i arg2 harg2 arg3 harg3 arg4 harg4 arg5 harg5 arg6 harg6 arg7 harg7 arg8 harg8
      arg9 harg9 arg10 harg10 arg11 harg11 arg12 harg12 arg13 harg13 arg14 harg14 arg15 harg15 arg16 harg16 arg17
      harg17 arg18 harg18 arg19 harg19 arg20 harg20 arg21 harg21 arg22 harg22 arg23 harg23 arg24 harg24 arg25 harg25
      arg26 harg26 arg27 harg27 arg28 harg28 arg29 harg29 hc0 x0 x1 x2 x3 x4 x5 x6 x7 x8 x9 x10 x11 x12 x13 x14 x15
      x16 x17 x18).1 (ix3 b r q)
      = rowOut x0 x5 x6 x7 x9 x10 x11 x17 x18 none b r q := by
  refine out_words x0 x5 x6 x7 x9 x10 x11 x17 x18 rfl (whole0 harg2 x0)
    (fun k q => load3 harg20 x18 0 0 0 inb_S1x1024x1024_S1x1024x1024_0_0_0 0 k q 0 k q rfl (by omega) (by omega)) ?_ ?_ hx18 b r q
  · exact cols_A x0 x5 x6 x9 x10 x11 rfl rfl rfl rfl rfl rfl rfl rfl rfl rfl rfl rfl rfl rfl rfl rfl
      (zA_lo_words x0 x5 x6 rfl rfl (h_A (harg2 := harg2) (harg7 := harg7) c) (cols6 harg8 x6))
      (zA_hi_words x0 x5 x6 rfl rfl (h_A (harg2 := harg2) (harg7 := harg7) c) (cols6 harg8 x6))
      (fun i j => load3 harg12 x10 0 0 0 inb_S1x128x512_S1x128x512_0_0_0 0 i j 0 i j rfl (by omega) (by omega))
      (fun i j => load3 harg13 x11 0 0 0 inb_S1x128x256_S1x128x256_0_0_0 0 i j 0 i j rfl (by omega) (by omega))
      (fun k => load3 harg11 x9 0 0 0 inb_S1x16x256_S1x1x256_0_0_0 0 0 k 0 0 k rfl rfl (by omega))
      (fun k => load3 harg11 x9 0 1 0 inb_S1x16x256_S1x1x256_0_1_0 0 0 k 0 1 k rfl rfl (by omega))
  · exact cols_D x0 x5 x7 x9 x17 rfl rfl rfl rfl rfl
      (fun k => load3 harg11 x9 0 13 0 inb_S1x16x256_S1x1x256_0_13_0 0 0 k 0 13 k rfl rfl (by omega))
      (fun k => load3 harg11 x9 0 14 0 inb_S1x16x256_S1x1x256_0_14_0 0 0 k 0 14 k rfl rfl (by omega))
      (conv_words x0 x5 x7 x9 x17 harg19 rfl rfl rfl rfl rfl rfl rfl rfl rfl rfl rfl rfl rfl rfl rfl rfl rfl rfl rfl rfl rfl rfl rfl rfl rfl rfl rfl rfl rfl rfl rfl rfl rfl rfl
        (fun k => load3 harg11 x9 0 12 0 inb_S1x16x256_S1x1x256_0_12_0 0 0 k 0 12 k rfl rfl (by omega))
        (read_A x0 x5 x7 (a_A (harg2 := harg2) (harg7 := harg7) (harg8 := harg8) (harg9 := harg9) (harg10 := harg10) c) (b_A (harg2 := harg2) (harg7 := harg7) (harg8 := harg8) (harg9 := harg9) (harg10 := harg10) c) rfl rfl (by decide))
        (read_A x0 x5 x7 (a_A (harg2 := harg2) (harg7 := harg7) (harg8 := harg8) (harg9 := harg9) (harg10 := harg10) c) (b_A (harg2 := harg2) (harg7 := harg7) (harg8 := harg8) (harg9 := harg9) (harg10 := harg10) c) rfl rfl (by decide))
        (read_A x0 x5 x7 (a_A (harg2 := harg2) (harg7 := harg7) (harg8 := harg8) (harg9 := harg9) (harg10 := harg10) c) (b_A (harg2 := harg2) (harg7 := harg7) (harg8 := harg8) (harg9 := harg9) (harg10 := harg10) c) rfl rfl (by decide))
        (read_A x0 x5 x7 (a_A (harg2 := harg2) (harg7 := harg7) (harg8 := harg8) (harg9 := harg9) (harg10 := harg10) c) (b_A (harg2 := harg2) (harg7 := harg7) (harg8 := harg8) (harg9 := harg9) (harg10 := harg10) c) rfl rfl (by decide))
        (read_A x0 x5 x7 (a_A (harg2 := harg2) (harg7 := harg7) (harg8 := harg8) (harg9 := harg9) (harg10 := harg10) c) (b_A (harg2 := harg2) (harg7 := harg7) (harg8 := harg8) (harg9 := harg9) (harg10 := harg10) c) rfl rfl (by decide))
        (read_A x0 x5 x7 (a_A (harg2 := harg2) (harg7 := harg7) (harg8 := harg8) (harg9 := harg9) (harg10 := harg10) c) (b_A (harg2 := harg2) (harg7 := harg7) (harg8 := harg8) (harg9 := harg9) (harg10 := harg10) c) rfl rfl (by decide))
        (read_A x0 x5 x7 (a_A (harg2 := harg2) (harg7 := harg7) (harg8 := harg8) (harg9 := harg9) (harg10 := harg10) c) (b_A (harg2 := harg2) (harg7 := harg7) (harg8 := harg8) (harg9 := harg9) (harg10 := harg10) c) rfl rfl (by decide))
        (read_A x0 x5 x7 (a_A (harg2 := harg2) (harg7 := harg7) (harg8 := harg8) (harg9 := harg9) (harg10 := harg10) c) (b_A (harg2 := harg2) (harg7 := harg7) (harg8 := harg8) (harg9 := harg9) (harg10 := harg10) c) rfl rfl (by decide)))

/-- The halo rows a first point hands on. -/
theorem halo_A (b : Fin 4) (k : Fin 160) (s : Fin 32) (hs : k.val = s.val) (e : Fin 256) :
    View.canon (kernelRun0_A (F := Ideal) c i arg2 harg2 arg3 harg3 arg4 harg4 arg5 harg5 arg6 harg6 arg7 harg7 arg8 harg8
      arg9 harg9 arg10 harg10 arg11 harg11 arg12 harg12 arg13 harg13 arg14 harg14 arg15 harg15 arg16 harg16 arg17
      harg17 arg18 harg18 arg19 harg19 arg20 harg20 arg21 harg21 arg22 harg22 arg23 harg23 arg24 harg24 arg25 harg25
      arg26 harg26 arg27 harg27 arg28 harg28 arg29 harg29 hc0 x0 x1 x2 x3 x4 x5 x6 x7 x8 x9 x10 x11 x12 x13 x14 x15
      x16 x17 x18).2.2.2.1 (ix3 b k e)
      = unitB x0 x5 x7 b ⟨96 + s.val, by omega⟩ e :=
  halo_stores rfl rfl rfl rfl rfl rfl rfl rfl rfl (canon_row x0 x5 x7 (a_A (harg2 := harg2) (harg7 := harg7) (harg8 := harg8) (harg9 := harg9) (harg10 := harg10) c) (b_A (harg2 := harg2) (harg7 := harg7) (harg8 := harg8) (harg9 := harg9) (harg10 := harg10) c) _) b k s hs e

/-- The normalised rows of a later point. -/
theorem h_B (b : Fin 4) (r : Fin 128) (k : Fin 1024) :
    runB.sl.r_3 (F := Ideal) c arg2 harg2 arg7 harg7 x0 x5 (ix2 (row b r) k) = hn x0 x5 b r k :=
  hn_words x0 x5 rfl (whole0 harg2 x0) (whole5 harg7 x5) b r k

/-- Group D's value half at a later point. -/
theorem a_B (b : Fin 4) (r : Fin 128) (k : Fin 256) :
    runB.sl.v665 (F := Ideal) c arg2 harg2 arg7 harg7 arg8 harg8 arg9 harg9 arg10 harg10 arg22 x0 x5 x6 x7 x8 (ix2 (row b r) k) = zD x0 x5 x7 b r ⟨k.val, by omega⟩ :=
  zD_lo_words x0 x5 x7 rfl rfl (h_B (harg2 := harg2) (harg7 := harg7) c) (cols7 harg9 x7) b r k

/-- Group D's gate half at a later point. -/
theorem b_B (b : Fin 4) (r : Fin 128) (k : Fin 256) :
    runB.sl.v666 (F := Ideal) c arg2 harg2 arg7 harg7 arg8 harg8 arg9 harg9 arg10 harg10 arg22 x0 x5 x6 x7 x8 (ix2 (row b r) k) = zD x0 x5 x7 b r ⟨256 + k.val, by omega⟩ :=
  zD_hi_words x0 x5 x7 rfl rfl (h_B (harg2 := harg2) (harg7 := harg7) c) (cols7 harg9 x7) b r k

/-- The output rows of a later point. -/
theorem rows_B (hx18 : ∀ (k : Fin 512) q, x18 (ix3 0 ⟨256 + k.val, by omega⟩ q) = 0) (b : Fin 4) (r : Fin 128) (q : Fin 1024) :
    View.canon (runB (F := Ideal) c i arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18
      harg18 arg19 harg19 arg20 harg20 arg21 harg21 arg22 harg22 arg23 harg23 arg24 harg24 arg25 harg25 arg26 harg26
      arg27 harg27 arg28 harg28 arg29 harg29 hc1 x0 x1 x2 x3 x4 x5 x6 x7 x8 x9 x10 x11 x12 x13 x14 x15 x16 x17 x18
      xs1 xs2 xs3 xs5 xs6).1 (ix3 b r q)
      = rowOut x0 x5 x6 x7 x9 x10 x11 x17 x18 (fun b n c => xs3 (ix3 b ⟨n.val, by omega⟩ c)) b r q := by
  refine out_words x0 x5 x6 x7 x9 x10 x11 x17 x18 rfl (whole0 harg2 x0)
    (fun k q => load3 harg20 x18 0 0 0 inb_S1x1024x1024_S1x1024x1024_0_0_0 0 k q 0 k q rfl (by omega) (by omega)) ?_ ?_ hx18 b r q
  · exact cols_A x0 x5 x6 x9 x10 x11 rfl rfl rfl rfl rfl rfl rfl rfl rfl rfl rfl rfl rfl rfl rfl rfl
      (zA_lo_words x0 x5 x6 rfl rfl (h_B (harg2 := harg2) (harg7 := harg7) c) (cols6 harg8 x6))
      (zA_hi_words x0 x5 x6 rfl rfl (h_B (harg2 := harg2) (harg7 := harg7) c) (cols6 harg8 x6))
      (fun i j => load3 harg12 x10 0 0 0 inb_S1x128x512_S1x128x512_0_0_0 0 i j 0 i j rfl (by omega) (by omega))
      (fun i j => load3 harg13 x11 0 0 0 inb_S1x128x256_S1x128x256_0_0_0 0 i j 0 i j rfl (by omega) (by omega))
      (fun k => load3 harg11 x9 0 0 0 inb_S1x16x256_S1x1x256_0_0_0 0 0 k 0 0 k rfl rfl (by omega))
      (fun k => load3 harg11 x9 0 1 0 inb_S1x16x256_S1x1x256_0_1_0 0 0 k 0 1 k rfl rfl (by omega))
  · exact cols_D x0 x5 x7 x9 x17 rfl rfl rfl rfl rfl
      (fun k => load3 harg11 x9 0 13 0 inb_S1x16x256_S1x1x256_0_13_0 0 0 k 0 13 k rfl rfl (by omega))
      (fun k => load3 harg11 x9 0 14 0 inb_S1x16x256_S1x1x256_0_14_0 0 0 k 0 14 k rfl rfl (by omega))
      (conv_words x0 x5 x7 x9 x17 harg19 rfl rfl rfl rfl rfl rfl rfl rfl rfl rfl rfl rfl rfl rfl rfl rfl rfl rfl rfl rfl rfl rfl rfl rfl rfl rfl rfl rfl rfl rfl rfl rfl rfl rfl
        (fun k => load3 harg11 x9 0 12 0 inb_S1x16x256_S1x1x256_0_12_0 0 0 k 0 12 k rfl rfl (by omega))
        (read_B x0 x5 x7 (a_B (harg2 := harg2) (harg7 := harg7) (harg8 := harg8) (harg9 := harg9) (harg10 := harg10) c) (b_B (harg2 := harg2) (harg7 := harg7) (harg8 := harg8) (harg9 := harg9) (harg10 := harg10) c) harg25 rfl rfl (by decide))
        (read_B x0 x5 x7 (a_B (harg2 := harg2) (harg7 := harg7) (harg8 := harg8) (harg9 := harg9) (harg10 := harg10) c) (b_B (harg2 := harg2) (harg7 := harg7) (harg8 := harg8) (harg9 := harg9) (harg10 := harg10) c) harg25 rfl rfl (by decide))
        (read_B x0 x5 x7 (a_B (harg2 := harg2) (harg7 := harg7) (harg8 := harg8) (harg9 := harg9) (harg10 := harg10) c) (b_B (harg2 := harg2) (harg7 := harg7) (harg8 := harg8) (harg9 := harg9) (harg10 := harg10) c) harg25 rfl rfl (by decide))
        (read_own x0 x5 x7 (a_B (harg2 := harg2) (harg7 := harg7) (harg8 := harg8) (harg9 := harg9) (harg10 := harg10) c) (b_B (harg2 := harg2) (harg7 := harg7) (harg8 := harg8) (harg9 := harg9) (harg10 := harg10) c) rfl rfl)
        (read_B x0 x5 x7 (a_B (harg2 := harg2) (harg7 := harg7) (harg8 := harg8) (harg9 := harg9) (harg10 := harg10) c) (b_B (harg2 := harg2) (harg7 := harg7) (harg8 := harg8) (harg9 := harg9) (harg10 := harg10) c) harg25 rfl rfl (by decide))
        (read_B x0 x5 x7 (a_B (harg2 := harg2) (harg7 := harg7) (harg8 := harg8) (harg9 := harg9) (harg10 := harg10) c) (b_B (harg2 := harg2) (harg7 := harg7) (harg8 := harg8) (harg9 := harg9) (harg10 := harg10) c) harg25 rfl rfl (by decide))
        (read_B x0 x5 x7 (a_B (harg2 := harg2) (harg7 := harg7) (harg8 := harg8) (harg9 := harg9) (harg10 := harg10) c) (b_B (harg2 := harg2) (harg7 := harg7) (harg8 := harg8) (harg9 := harg9) (harg10 := harg10) c) harg25 rfl rfl (by decide))
        (read_B x0 x5 x7 (a_B (harg2 := harg2) (harg7 := harg7) (harg8 := harg8) (harg9 := harg9) (harg10 := harg10) c) (b_B (harg2 := harg2) (harg7 := harg7) (harg8 := harg8) (harg9 := harg9) (harg10 := harg10) c) harg25 rfl rfl (by decide)))

/-- The halo rows a later point hands on. -/
theorem halo_B (b : Fin 4) (k : Fin 160) (s : Fin 32) (hs : k.val = s.val) (e : Fin 256) :
    View.canon (runB (F := Ideal) c i arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18
      harg18 arg19 harg19 arg20 harg20 arg21 harg21 arg22 harg22 arg23 harg23 arg24 harg24 arg25 harg25 arg26 harg26
      arg27 harg27 arg28 harg28 arg29 harg29 hc1 x0 x1 x2 x3 x4 x5 x6 x7 x8 x9 x10 x11 x12 x13 x14 x15 x16 x17 x18
      xs1 xs2 xs3 xs5 xs6).2.2.2.1 (ix3 b k e)
      = unitB x0 x5 x7 b ⟨96 + s.val, by omega⟩ e :=
  halo_stores rfl rfl rfl rfl rfl rfl rfl rfl rfl (canon_row x0 x5 x7 (a_B (harg2 := harg2) (harg7 := harg7) (harg8 := harg8) (harg9 := harg9) (harg10 := harg10) c) (b_B (harg2 := harg2) (harg7 := harg7) (harg8 := harg8) (harg9 := harg9) (harg10 := harg10) c) _) b k s hs e

end Points

end Cert.Kernel3Ideal.Body

end
-- ==== Proof.MixBlocks.lean ====
/-
  The windows of the mixing call, read at an index of the arguments: where each grid point's block of the stream and of the
  weights lies.
-/
module

public import proofs.«01_k».proof.Proof.MixLeave
public import Idealize.ShloMosaic.Lib.Pipeline.ValueKit
public import Idealize.ShloMosaic.Lib.Claim
public import Idealize.ShloMosaic.Lib.StableHlo.RunRead

@[expose] public section

set_option maxRecDepth 16384

noncomputable section

namespace Cert.Kernel3Ideal.Body

open Idealize.ShloMosaic Idealize.ShloMosaic.TcCoe Idealize.ShloMosaic.Tactic Idealize.SL.Sem
open Cert.Kernel3Ideal Cert.Kernel3Ideal.Gen Cert.Ffn Cert.Mix

variable (m : (ℓ : Loc nD τ sig) → Buf (Elt Ideal) ℓ)

/-- The block indices of the windows at a grid point, decided over the grid. -/
theorem idx : ∀ t : Fin cfg0.N, win0_0.index t = ![0, t.val, 0] ∧ win0_5.index t = ![0, 0, 0]
    ∧ win0_6.index t = ![0, 0, 0] ∧ win0_7.index t = ![0, 0, 0] ∧ win0_9.index t = ![0, 0, 0]
    ∧ win0_10.index t = ![0, 0, 0] ∧ win0_11.index t = ![0, 0, 0] ∧ win0_17.index t = ![0, 0, 0] ∧ win0_18.index t = ![0, 0, 0] :=
  (by decide +kernel : ∀ t : Fin grid0.N, _)

/-- The stream's block at a point: 128 rows of every sequence. -/
theorem blk0 (c : Dev nD) (t : Fin cfg0.N) (b : Fin 4) (r : Fin 128) (k : Fin 1024) :
    iblk m c 0 t (ix3 b r k) = m ((c : Thread nD τ).loc main_arg0)
      (ix3 b ⟨t.val * 128 + r.val, by have := lt_of_lt_of_eq t.isLt N_0; omega⟩ k) := by
  blk_ext! [iblk, V, idx t]

/-- The norm's gain before the mixer. -/
theorem blk5 (c : Dev nD) (t : Fin cfg0.N) (k : Fin 1024) :
    iblk m c 5 t (ix3 0 0 k) = m ((c : Thread nD τ).loc main_arg1) (ix2 0 k) := by
  have e : ∀ x : S2x1x1024.Idx, x = ix3 0 0 k → V m c main_v40 x = m ((c : Thread nD τ).loc main_arg1) (ix2 0 k) := by
    rintro x rfl
    after_reads_simp
    repeat rw [StableHlo.launchContents_devRef]
    pointwise
  refine e _ ?_
  blk_ext [idx t]

/-- Group A's columns of the input projection. -/
theorem blk6 (c : Dev nD) (t : Fin cfg0.N) (k : Fin 1024) (j : Fin 512) :
    iblk m c 6 t (ix3 0 k (⟨j.val, by omega⟩ : Fin 1536)) = m ((c : Thread nD τ).loc main_arg2) (ix3 0 k ⟨j.val, by omega⟩) := by
  have e : ∀ x : S2x1024x1536.Idx, x = ix3 0 k ⟨j.val, by omega⟩ → V m c main_v27 x = m ((c : Thread nD τ).loc main_arg2) (ix3 0 k ⟨j.val, by omega⟩) := by
    rintro x rfl
    after_reads_simp
    repeat rw [StableHlo.launchContents_devRef]
    pointwise
  refine e _ ?_
  blk_ext [idx t]

/-- Group D's columns of the input projection. -/
theorem blk7 (c : Dev nD) (t : Fin cfg0.N) (k : Fin 1024) (j : Fin 512) :
    iblk m c 7 t (ix3 0 k (⟨1024 + j.val, by omega⟩ : Fin 1536)) = m ((c : Thread nD τ).loc main_arg2) (ix3 0 k ⟨2568 + j.val, by omega⟩) := by
  have e : ∀ x : S2x1024x1536.Idx, x = ix3 0 k ⟨1024 + j.val, by omega⟩ → V m c main_v29 x = m ((c : Thread nD τ).loc main_arg2) (ix3 0 k ⟨2568 + j.val, by omega⟩) := by
    rintro x rfl
    after_reads_simp
    repeat rw [StableHlo.launchContents_devRef]
    pointwise
    exact congrArg (fun x => m ((c : Thread nD τ).loc main_arg2) (ix3 0 k x)) (Fin.ext (by show 1544 + (1024 + j.val) = 2568 + j.val; omega))
  refine e _ ?_
  blk_ext [idx t]

/-- The output projection. -/
theorem blk18 (c : Dev nD) (t : Fin cfg0.N) (k q : Fin 1024) :
    iblk m c 18 t (ix3 0 k q) = m ((c : Thread nD τ).loc main_arg26) (ix3 0 k q) := by
  have e : ∀ x : S2x1024x1024.Idx, x = ix3 0 k q → V m c main_v42 x = m ((c : Thread nD τ).loc main_arg26) (ix3 0 k q) := by
    rintro x rfl
    after_reads_simp
    repeat rw [StableHlo.launchContents_devRef]
    pointwise
  refine e _ ?_
  blk_ext [idx t]

/-- The spatial weights, head after head. -/
theorem blk10 (c : Dev nD) (t : Fin cfg0.N) (h : Fin 4) (i j : Fin 128) :
    iblk m c 10 t (ix3 0 i (⟨h.val * 128 + j.val, by omega⟩ : Fin 512)) = m ((c : Thread nD τ).loc main_arg5) (ix4 0 h i j) := by
  have e : ∀ x : S2x128x512.Idx, x = ix3 0 i ⟨h.val * 128 + j.val, by omega⟩ → V m c main_v34 x = m ((c : Thread nD τ).loc main_arg5) (ix4 0 h i j) := by
    rintro x rfl
    after_reads_simp
    repeat rw [StableHlo.launchContents_devRef]
    pointwise
  refine e _ ?_
  blk_ext [idx t]

/-- The spatial bias, a head's repeated over its columns. -/
theorem blk11 (c : Dev nD) (t : Fin cfg0.N) (i : Fin 128) (e : Fin 256) :
    iblk m c 11 t (ix3 0 i e) = m ((c : Thread nD τ).loc main_arg6) (ix3 0 (head e) i) := by
  have e : ∀ x : S2x128x256.Idx, x = ix3 0 i e → V m c main_v37 x = m ((c : Thread nD τ).loc main_arg6) (ix3 0 (head e) i) := by
    rintro x rfl
    after_reads_simp
    repeat rw [StableHlo.launchContents_devRef]
    pointwise
    rfl
  refine e _ ?_
  blk_ext [idx t]

/-- The stacked vectors: a row of the stack. -/
theorem blk9 (c : Dev nD) (t : Fin cfg0.N) (k : Fin 16) (e : Fin 256) : iblk m c 9 t (ix3 0 k e) = V m c main_v25 (ix3 0 k e) := by
  have e' : ∀ x : S2x16x256.Idx, x = ix3 0 k e → V m c main_v25 x = V m c main_v25 (ix3 0 k e) := by
    rintro x rfl
    rfl
  refine e' _ ?_
  blk_ext [idx t]

/-- The gain of the spatial norm. -/
theorem blk9_0 (c : Dev nD) (t : Fin cfg0.N) (e : Fin 256) :
    iblk m c 9 t (ix3 0 (0 : Fin 16) e) = m ((c : Thread nD τ).loc main_arg3) (ix2 0 e) := by
  rw [blk9]
  after_reads_simp
  pointwise
  after_reads_simp
  repeat rw [StableHlo.launchContents_devRef]
  pointwise

/-- The bias of the spatial norm. -/
theorem blk9_1 (c : Dev nD) (t : Fin cfg0.N) (e : Fin 256) :
    iblk m c 9 t (ix3 0 (1 : Fin 16) e) = m ((c : Thread nD τ).loc main_arg4) (ix2 0 e) := by
  rw [blk9]
  after_reads_simp
  pointwise
  after_reads_simp
  repeat rw [StableHlo.launchContents_devRef]
  pointwise

/-- The bias of the convolution. -/
theorem blk9_12 (c : Dev nD) (t : Fin cfg0.N) (e : Fin 256) :
    iblk m c 9 t (ix3 0 (12 : Fin 16) e) = m ((c : Thread nD τ).loc main_arg23) (ix2 0 e) := by
  rw [blk9]
  after_reads_simp
  pointwise
  after_reads_simp
  repeat rw [StableHlo.launchContents_devRef]
  pointwise

/-- The gain of the norm after it. -/
theorem blk9_13 (c : Dev nD) (t : Fin cfg0.N) (e : Fin 256) :
    iblk m c 9 t (ix3 0 (13 : Fin 16) e) = m ((c : Thread nD τ).loc main_arg24) (ix2 0 e) := by
  rw [blk9]
  after_reads_simp
  pointwise
  after_reads_simp
  repeat rw [StableHlo.launchContents_devRef]
  pointwise

/-- The bias of the norm after it. -/
theorem blk9_14 (c : Dev nD) (t : Fin cfg0.N) (e : Fin 256) :
    iblk m c 9 t (ix3 0 (14 : Fin 16) e) = m ((c : Thread nD τ).loc main_arg25) (ix2 0 e) := by
  rw [blk9]
  after_reads_simp
  pointwise
  after_reads_simp
  repeat rw [StableHlo.launchContents_devRef]
  pointwise

/-- The depthwise taps. -/
theorem blk17 (c : Dev nD) (t : Fin cfg0.N) (k : Fin 31) (e : Fin 256) :
    iblk m c 17 t (ix3 0 k e) = m ((c : Thread nD τ).loc main_arg22) (ix3 0 k e) := by
  blk_ext! [iblk, V, idx t]

end Cert.Kernel3Ideal.Body

end
-- ==== Proof.MixValue.lean ====
/-
  The mixing call's output array after the run, index by index: what the point that writes the index's block leaves there.
-/
module

public import proofs.«01_k».proof.Proof.MixFrame
public import Idealize.ShloMosaic.Lib.Pipeline.Value

@[expose] public section

noncomputable section

namespace Cert.Kernel3Ideal.Mixing

open Cert.Kernel3Ideal Cert.Kernel3Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- What point `t` writes back: the output's component of what the point leaves, read through the block. -/
theorem flushed19 (c : Dev nD) (t : Fin cfg0.N) :
    (dats m 0 c).flushed 19 t = (cfg0.win 19).cut (grid0.coords t) ((outsAt m c t.val t.isLt).1) := by
  show (cfg0.win 19).cut (grid0.coords t) ((dats m 0 c).after 19 t) = _
  rw [after0_19]

/-- The index map sends distinct grid points to distinct block indices (decided over the 32 points). -/
theorem idx_inj19 : ∀ t t' : Fin cfg0.N, win0_19.index t = win0_19.index t' → t = t' :=
  (by decide +kernel : ∀ t t' : Fin grid0.N, win0_19.index t = win0_19.index t' → t = t')

/-- Two points' blocks share no index. -/
theorem disjoint19 : ∀ t t' : Fin cfg0.N, (cfg0.win 19).flush t = true → (cfg0.win 19).flush t' = true → t ≠ t' →
    Disjoint ((cfg0.win 19).blk t).view.set ((cfg0.win 19).blk t').view.set :=
  fun t t' _ _ hne => (cfg0.win 19).disjoint_blk fun h => hne (idx_inj19 t t' h)

/-- After the frame run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v66) = (dats m 0 c).arrAt 19 cfg0.N :=
  (h c).1 19

/-- After the run, argument `main_arg0` is as launched. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 1).trans (((dats m 0 c).arrAt_in 1 rfl _).trans ((A_eq m c 1).trans (V_main_arg0 m c)))

/-- After the run, argument `main_arg1` is as launched. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the run, argument `main_arg2` is as launched. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the run, argument `main_arg3` is as launched. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the run, argument `main_arg4` is as launched. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the run, argument `main_arg5` is as launched. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the run, argument `main_arg6` is as launched. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the run, argument `main_arg7` is as launched. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 12).trans (((dats m 0 c).arrAt_in 12 rfl _).trans ((A_eq m c 12).trans (V_main_arg7 m c)))

/-- After the run, argument `main_arg8` is as launched. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the run, argument `main_arg9` is as launched. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the run, argument `main_arg10` is as launched. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- After the run, argument `main_arg11` is as launched. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- After the run, argument `main_arg12` is as launched. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- After the run, argument `main_arg13` is as launched. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

/-- After the run, argument `main_arg14` is as launched. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)

/-- After the run, argument `main_arg15` is as launched. -/
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)

/-- After the run, argument `main_arg16` is as launched. -/
theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).1 16).trans (((dats m 0 c).arrAt_in 16 rfl _).trans ((A_eq m c 16).trans (V_main_arg16 m c)))

/-- After the run, argument `main_arg17` is as launched. -/
theorem kept_main_arg17 (r : PUnit × MemSt nD τ sig (Elt F)) (h : Pipeline.FramePost cfgs (dats m) 0 (V m) r) (c : Dev nD) :
    r.2.mem ((c : Thread nD τ).loc main_arg17) = m ((c : Thread nD τ).loc main_arg17) :=
  ((h c).2 main_arg17 (Pipeline.mem_restRefs_of main_arg17 (by decide) (by decide))).trans (V_main_arg17 m c)

/-- After the run, argument `main_arg18` is as launched. -/
theorem kept_main_arg18 (r : PUnit × MemSt nD τ sig (Elt F)) (h : Pipeline.FramePost cfgs (dats m) 0 (V m) r) (c : Dev nD) :
    r.2.mem ((c : Thread nD τ).loc main_arg18) = m ((c : Thread nD τ).loc main_arg18) :=
  ((h c).2 main_arg18 (Pipeline.mem_restRefs_of main_arg18 (by decide) (by decide))).trans (V_main_arg18 m c)

/-- After the run, argument `main_arg19` is as launched. -/
theorem kept_main_arg19 (r : PUnit × MemSt nD τ sig (Elt F)) (h : Pipeline.FramePost cfgs (dats m) 0 (V m) r) (c : Dev nD) :
    r.2.mem ((c : Thread nD τ).loc main_arg19) = m ((c : Thread nD τ).loc main_arg19) :=
  ((h c).2 main_arg19 (Pipeline.mem_restRefs_of main_arg19 (by decide) (by decide))).trans (V_main_arg19 m c)

/-- After the run, argument `main_arg20` is as launched. -/
theorem kept_main_arg20 (r : PUnit × MemSt nD τ sig (Elt F)) (h : Pipeline.FramePost cfgs (dats m) 0 (V m) r) (c : Dev nD) :
    r.2.mem ((c : Thread nD τ).loc main_arg20) = m ((c : Thread nD τ).loc main_arg20) :=
  ((h c).2 main_arg20 (Pipeline.mem_restRefs_of main_arg20 (by decide) (by decide))).trans (V_main_arg20 m c)

/-- After the run, argument `main_arg21` is as launched. -/
theorem kept_main_arg21 (r : PUnit × MemSt nD τ sig (Elt F)) (h : Pipeline.FramePost cfgs (dats m) 0 (V m) r) (c : Dev nD) :
    r.2.mem ((c : Thread nD τ).loc main_arg21) = m ((c : Thread nD τ).loc main_arg21) :=
  ((h c).2 main_arg21 (Pipeline.mem_restRefs_of main_arg21 (by decide) (by decide))).trans (V_main_arg21 m c)

/-- After the run, argument `main_arg22` is as launched. -/
theorem kept_main_arg22 (r : PUnit × MemSt nD τ sig (Elt F)) (h : Pipeline.FramePost cfgs (dats m) 0 (V m) r) (c : Dev nD) :
    r.2.mem ((c : Thread nD τ).loc main_arg22) = m ((c : Thread nD τ).loc main_arg22) :=
  ((h c).1 17).trans (((dats m 0 c).arrAt_in 17 rfl _).trans ((A_eq m c 17).trans (V_main_arg22 m c)))

/-- After the run, argument `main_arg23` is as launched. -/
theorem kept_main_arg23 (r : PUnit × MemSt nD τ sig (Elt F)) (h : Pipeline.FramePost cfgs (dats m) 0 (V m) r) (c : Dev nD) :
    r.2.mem ((c : Thread nD τ).loc main_arg23) = m ((c : Thread nD τ).loc main_arg23) :=
  ((h c).2 main_arg23 (Pipeline.mem_restRefs_of main_arg23 (by decide) (by decide))).trans (V_main_arg23 m c)

/-- After the run, argument `main_arg24` is as launched. -/
theorem kept_main_arg24 (r : PUnit × MemSt nD τ sig (Elt F)) (h : Pipeline.FramePost cfgs (dats m) 0 (V m) r) (c : Dev nD) :
    r.2.mem ((c : Thread nD τ).loc main_arg24) = m ((c : Thread nD τ).loc main_arg24) :=
  ((h c).2 main_arg24 (Pipeline.mem_restRefs_of main_arg24 (by decide) (by decide))).trans (V_main_arg24 m c)

/-- After the run, argument `main_arg25` is as launched. -/
theorem kept_main_arg25 (r : PUnit × MemSt nD τ sig (Elt F)) (h : Pipeline.FramePost cfgs (dats m) 0 (V m) r) (c : Dev nD) :
    r.2.mem ((c : Thread nD τ).loc main_arg25) = m ((c : Thread nD τ).loc main_arg25) :=
  ((h c).2 main_arg25 (Pipeline.mem_restRefs_of main_arg25 (by decide) (by decide))).trans (V_main_arg25 m c)

/-- After the run, argument `main_arg26` is as launched. -/
theorem kept_main_arg26 (r : PUnit × MemSt nD τ sig (Elt F)) (h : Pipeline.FramePost cfgs (dats m) 0 (V m) r) (c : Dev nD) :
    r.2.mem ((c : Thread nD τ).loc main_arg26) = m ((c : Thread nD τ).loc main_arg26) :=
  ((h c).2 main_arg26 (Pipeline.mem_restRefs_of main_arg26 (by decide) (by decide))).trans (V_main_arg26 m c)

/-- What a point leaves depends on the point's number only. -/
theorem left_congr (c : Dev nD) {n n' : ℕ} {h : n < cfg0.N} {h' : n' < cfg0.N} (e : n = n') : outsAt m c n h = outsAt m c n' h' := by
  subst e; rfl

/-- The block of the array that holds index `i`, numbered in the order the points write the blocks back (one per point),
    `i`'s place in it, and the point that writes it back. -/
abbrev run19Of (i : S4x4096x1024.Idx) : ℕ := 32 * ((i 0).val / 4 - 0) + 1 * ((i 1).val / 128 - 0) + 1 * ((i 2).val / 1024 - 0)
set_option backward.proofsInPublic true in
abbrev loc19Of (i : S4x4096x1024.Idx) : S4x128x1024.Idx := fun a => match a with
  | ⟨0, _⟩ => ⟨(i 0).val % 4, Nat.mod_lt _ (by decide)⟩
  | ⟨1, _⟩ => ⟨(i 1).val % 128, Nat.mod_lt _ (by decide)⟩
  | ⟨2, _⟩ => ⟨(i 2).val % 1024, Nat.mod_lt _ (by decide)⟩
abbrev pt19Of (i : S4x4096x1024.Idx) : ℕ := run19Of i

/-- What the output array ends holding at an index: what the point of its block leaves there. -/
def G19 (c : Dev nD) : Buf (Elt F) ((c : Thread nD τ).loc main_v66) := fun i =>
  if h : pt19Of i < cfg0.N then
    (outsAt m c (pt19Of i) h).1 (loc19Of i)
  else V m c (Pipeline.arrRef spec0 19) i

/-- The block numbers of the points, decided over the grid. -/
theorem idx_facts19 : ∀ t : Fin cfg0.N, 0 ≤ win0_19.index t (0 : Fin 3) ∧ win0_19.index t (0 : Fin 3) ≤ 0
    ∧ 0 ≤ win0_19.index t (1 : Fin 3) ∧ win0_19.index t (1 : Fin 3) ≤ 31
    ∧ 0 ≤ win0_19.index t (2 : Fin 3) ∧ win0_19.index t (2 : Fin 3) ≤ 0
    ∧ 32 * (win0_19.index t (0 : Fin 3) - 0) + 1 * (win0_19.index t (1 : Fin 3) - 0) + 1 * (win0_19.index t (2 : Fin 3) - 0) = t.val :=
  (by decide +kernel : ∀ t : Fin grid0.N, _)

/-- Every block of the box is SOME flushing point's: `onto19Pt`, the point that writes back the block at place `q` of the box. -/
abbrev onto19Pt (q0 : Fin 1) (q1 : Fin 32) (q2 : Fin 1) : Fin grid0.N :=
  ⟨32 * q0.val + 1 * q1.val + 1 * q2.val, lt_of_lt_of_eq (by omega) N_0.symm⟩
theorem idx_onto19 : ∀ (q0 : Fin 1) (q1 : Fin 32) (q2 : Fin 1), ∃ t : Fin cfg0.N, (cfg0.win 19).flush t = true ∧ win0_19.index t = ![q0.val + 0, q1.val + 0, q2.val + 0] :=
  fun q0 q1 q2 => ⟨onto19Pt q0 q1 q2, (by decide +kernel : ∀ (q0 : Fin 1) (q1 : Fin 32) (q2 : Fin 1), win0_19.flush (onto19Pt q0 q1 q2) = true ∧ win0_19.index (onto19Pt q0 q1 q2) = ![q0.val + 0, q1.val + 0, q2.val + 0]) q0 q1 q2⟩

/-- What a point writes back is its block of `G19`. -/
theorem flushed19_eq (c : Dev nD) (t : Fin cfg0.N) (hf : (cfg0.win 19).flush t = true) :
    (dats m 0 c).flushed 19 t = ((cfg0.win 19).blk t).view.read (Elt F) (G19 m c) := by
  show (cfg0.win 19).cut (grid0.coords t) ((dats m 0 c).after 19 t) = _
  rw [after0_19]
  obtain ⟨e0, e1, e2, e3⟩ := idx_facts19 t
  funext y
  have hy0 : (y 0).val < 4 := (y 0).isLt
  have hy1 : (y 1).val < 128 := (y 1).isLt
  have hy2 : (y 2).val < 1024 := (y 2).isLt
  have hb0 : (((cfg0.win 19).blk t).view.emb y 0).val = win0_19.index t (0 : Fin 3) * 4 + 1 * (y 0).val := rfl
  have hb1 : (((cfg0.win 19).blk t).view.emb y 1).val = win0_19.index t (1 : Fin 3) * 128 + 1 * (y 1).val := rfl
  have hb2 : (((cfg0.win 19).blk t).view.emb y 2).val = win0_19.index t (2 : Fin 3) * 1024 + 1 * (y 2).val := rfl
  have hr : run19Of (((cfg0.win 19).blk t).view.emb y) = t.val := by
    show 32 * ((((cfg0.win 19).blk t).view.emb y 0).val / 4 - 0) + 1 * ((((cfg0.win 19).blk t).view.emb y 1).val / 128 - 0) + 1 * ((((cfg0.win 19).blk t).view.emb y 2).val / 1024 - 0) = _
    rw [hb0, hb1, hb2]
    rw [show (win0_19.index t (0 : Fin 3) * 4 + 1 * (y 0).val) / 4 = win0_19.index t (0 : Fin 3) from by omega]; rw [show (win0_19.index t (1 : Fin 3) * 128 + 1 * (y 1).val) / 128 = win0_19.index t (1 : Fin 3) from by omega]; rw [show (win0_19.index t (2 : Fin 3) * 1024 + 1 * (y 2).val) / 1024 = win0_19.index t (2 : Fin 3) from by omega]
    omega
  have hl : loc19Of (((cfg0.win 19).blk t).view.emb y) = (cfg0.win 19).xinj (grid0.coords t) y := by
    funext a; apply Fin.ext
    match a with
    | ⟨0, _⟩ => show (((cfg0.win 19).blk t).view.emb y 0).val % 4 = (y 0).val; rw [hb0]; omega
    | ⟨1, _⟩ => show (((cfg0.win 19).blk t).view.emb y 1).val % 128 = (y 1).val; rw [hb1]; omega
    | ⟨2, _⟩ => show (((cfg0.win 19).blk t).view.emb y 2).val % 1024 = (y 2).val; rw [hb2]; omega
  have hp : pt19Of (((cfg0.win 19).blk t).view.emb y) = t.val := by
    exact hr
  show (outsAt m c t.val t.isLt).1 ((cfg0.win 19).xinj (grid0.coords t) y) = G19 m c (((cfg0.win 19).blk t).view.emb y)
  unfold G19
  rw [dif_pos (by rw [hp]; exact t.isLt), hl, left_congr m c hp]

/-- An index of the array is in point `t`'s block iff each coordinate is in the block's range on its axis. -/
theorem mem_blk19 (t : Fin cfg0.N) (i : S4x4096x1024.Idx) :
    i ∈ ((cfg0.win 19).blk t).view.set ↔ ∀ a : Fin 3, win0_19.index t a * S4x128x1024.size a ≤ (i a).val ∧ (i a).val < win0_19.index t a * S4x128x1024.size a + S4x128x1024.size a := by
  show i ∈ ((View.whole main_v66).slice (win0_19.rect t)).set ↔ _
  rw [View.set_slice_whole, Rect.mem_set_unit]
  exact Iff.rfl

/-- THE COVERED INDICES: in some flushing point's block iff inside the box those blocks fill. -/
theorem covered_iff19 (i : S4x4096x1024.Idx) :
    (∃ t : Fin cfg0.N, (cfg0.win 19).flush t = true ∧ i ∈ ((cfg0.win 19).blk t).view.set) ↔ 0 ≤ (i 0).val ∧ (i 0).val < 4 ∧ 0 ≤ (i 1).val ∧ (i 1).val < 4096 ∧ 0 ≤ (i 2).val ∧ (i 2).val < 1024 := by
  constructor
  · rintro ⟨t, -, hi⟩
    rw [mem_blk19] at hi
    have b0 : win0_19.index t (0 : Fin 3) * 4 ≤ (i 0).val ∧ (i 0).val < win0_19.index t (0 : Fin 3) * 4 + 4 := hi 0
    have b1 : win0_19.index t (1 : Fin 3) * 128 ≤ (i 1).val ∧ (i 1).val < win0_19.index t (1 : Fin 3) * 128 + 128 := hi 1
    have b2 : win0_19.index t (2 : Fin 3) * 1024 ≤ (i 2).val ∧ (i 2).val < win0_19.index t (2 : Fin 3) * 1024 + 1024 := hi 2
    obtain ⟨e0, e1, e2, e3⟩ := idx_facts19 t
    omega
  · intro h
    have hi0 : (i 0).val < 4 := (i 0).isLt
    have hi1 : (i 1).val < 4096 := (i 1).isLt
    have hi2 : (i 2).val < 1024 := (i 2).isLt
    obtain ⟨t, hft, ht⟩ := idx_onto19 ⟨(i 0).val / 4 - 0, by omega⟩ ⟨(i 1).val / 128 - 0, by omega⟩ ⟨(i 2).val / 1024 - 0, by omega⟩
    have q0 : win0_19.index t (0 : Fin 3) = (i 0).val / 4 - 0 + 0 := congrFun ht 0
    have q1 : win0_19.index t (1 : Fin 3) = (i 1).val / 128 - 0 + 0 := congrFun ht 1
    have q2 : win0_19.index t (2 : Fin 3) = (i 2).val / 1024 - 0 + 0 := congrFun ht 2
    refine ⟨t, hft, ?_⟩
    rw [mem_blk19]
    intro a
    match a with
    | ⟨0, _⟩ => show win0_19.index t (0 : Fin 3) * 4 ≤ (i 0).val ∧ (i 0).val < win0_19.index t (0 : Fin 3) * 4 + 4; omega
    | ⟨1, _⟩ => show win0_19.index t (1 : Fin 3) * 128 ≤ (i 1).val ∧ (i 1).val < win0_19.index t (1 : Fin 3) * 128 + 128; omega
    | ⟨2, _⟩ => show win0_19.index t (2 : Fin 3) * 1024 ≤ (i 2).val ∧ (i 2).val < win0_19.index t (2 : Fin 3) * 1024 + 1024; omega

/-- THE ARRAY after the run: `G19` (the flushing blocks tile it). -/
theorem final19 (c : Dev nD) : (dats m 0 c).arrAt 19 cfg0.N = G19 m c :=
  (dats m 0 c).arrAt_eq_of_cover 19 _ (fun t hf => flushed19_eq m c t hf) (fun i => (covered_iff19 i).2 (by
    have h0 : (i 0).val < 4 := (i 0).isLt; have h1 : (i 1).val < 4096 := (i 1).isLt; have h2 : (i 2).val < 1024 := (i 2).isLt; omega))

/-- The call's run: the output array at `G19`, the arguments unchanged. -/
theorem run : θ_run defs (onTc (τ := τ) (main (F := F))) ⟨m, fun _ => 0, ρ⟩ fun r => ∀ c : Dev nD,
      r.2.mem ((c : Thread nD τ).loc main_v66) = G19 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25)
      ∧ r.2.mem ((c : Thread nD τ).loc main_arg26) = m ((c : Thread nD τ).loc main_arg26) :=
  (θ_run defs _ _).mono (fun r h c => ⟨(post19 m r h c).trans (final19 m c),
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c,
      kept_main_arg17 m r h c,
      kept_main_arg18 m r h c,
      kept_main_arg19 m r h c,
      kept_main_arg20 m r h c,
      kept_main_arg21 m r h c,
      kept_main_arg22 m r h c,
      kept_main_arg23 m r h c,
      kept_main_arg24 m r h c,
      kept_main_arg25 m r h c,
      kept_main_arg26 m r h c⟩)
    (run_main m ρ)

end Cert.Kernel3Ideal.Mixing

end
-- ==== Proof.MixKernel.lean ====
/-
  What the mixing call leaves in its result when the recurrent groups' rows of the output projection are zero: row by row, the
  mixing of `MixMath`.
  The scratch a point hands on holds the last 32 gated rows of group D of every sequence, so that a point's convolution reads,
  up to thirty rows back, the sequence's own rows, and zeros before its first.
-/
module

public import proofs.«01_k».proof.Proof.MixBlocks
public import proofs.«01_k».proof.Proof.MixValue

@[expose] public section

set_option maxRecDepth 16384

noncomputable section

namespace Cert.Kernel3Ideal.Body

open Idealize.ShloMosaic Idealize.ShloMosaic.TcCoe Idealize.ShloMosaic.Tactic Idealize.SL.Sem
open Cert.Kernel3Ideal Cert.Kernel3Ideal.Gen Cert.Ffn Cert.Mix Cert.Kernel3Ideal.Mixing

variable (m : (ℓ : Loc nD τ sig) → Buf (Elt Ideal) ℓ)

/-- Sequence `b` of the stream on device `c`. -/
abbrev seq (c : Dev nD) (b : Fin 4) (t : Fin 4096) (k : Fin 1024) : EReal := m ((c : Thread nD τ).loc main_arg0) (ix3 b t k)

/-- Row `t` of the projection of sequence `b`. -/
abbrev proj (c : Dev nD) (b : Fin 4) (t : Fin 4096) : Fin 3080 → EReal :=
  rowMul (rms (seq m c b t) (fun k => m ((c : Thread nD τ).loc main_arg1) (ix2 0 k)))
    (fun k j => m ((c : Thread nD τ).loc main_arg2) (ix3 0 k j))

/-- The rows of sequence `b` that group D convolves. -/
abbrev gated (c : Dev nD) (b : Fin 4) (t : Fin 4096) (e : Fin 256) : EReal :=
  glu (proj m c b t ⟨2568 + e.val, by omega⟩) (proj m c b t ⟨2824 + e.val, by omega⟩)

/-- The mixing of sequence `b`. -/
abbrev mixed (c : Dev nD) (b : Fin 4) (t : Fin 4096) : Fin 1024 → EReal :=
  mixing (seq m c b) (fun k => m ((c : Thread nD τ).loc main_arg1) (ix2 0 k))
    (fun k j => m ((c : Thread nD τ).loc main_arg2) (ix3 0 k j)) (fun e => m ((c : Thread nD τ).loc main_arg3) (ix2 0 e))
    (fun e => m ((c : Thread nD τ).loc main_arg4) (ix2 0 e)) (fun h i j => m ((c : Thread nD τ).loc main_arg5) (ix4 0 h i j))
    (fun h i => m ((c : Thread nD τ).loc main_arg6) (ix3 0 h i)) (fun k e => m ((c : Thread nD τ).loc main_arg22) (ix3 0 k e))
    (fun e => m ((c : Thread nD τ).loc main_arg23) (ix2 0 e)) (fun e => m ((c : Thread nD τ).loc main_arg24) (ix2 0 e))
    (fun e => m ((c : Thread nD τ).loc main_arg25) (ix2 0 e)) (fun k q => m ((c : Thread nD τ).loc main_arg26) (ix3 0 k q)) t

/-- The row of its sequence that a point's row `r` is. -/
abbrev rowOf (t : Fin cfg0.N) (r : Fin 128) : Fin 4096 :=
  ⟨t.val * 128 + r.val, by have := lt_of_lt_of_eq t.isLt N_0; omega⟩

variable (c : Dev nD) (t : Fin cfg0.N) (b : Fin 4)

theorem hn_blk (r : Fin 128) : hn (iblk m c 0 t) (iblk m c 5 t) b r
    = rms (seq m c b (rowOf t r)) (fun k => m ((c : Thread nD τ).loc main_arg1) (ix2 0 k)) := by
  unfold hn
  simp only [blk0, blk5]

theorem zA_blk (r : Fin 128) (j : Fin 512) : zA (iblk m c 0 t) (iblk m c 5 t) (iblk m c 6 t) b r j
    = proj m c b (rowOf t r) ⟨j.val, by omega⟩ := by
  unfold zA
  rw [hn_blk]
  exact Finset.sum_congr rfl fun k _ => congrArg (_ * ·) (blk6 m c t k j)

theorem zD_blk (r : Fin 128) (j : Fin 512) : zD (iblk m c 0 t) (iblk m c 5 t) (iblk m c 7 t) b r j
    = proj m c b (rowOf t r) ⟨2568 + j.val, by omega⟩ := by
  unfold zD
  rw [hn_blk]
  exact Finset.sum_congr rfl fun k _ => congrArg (_ * ·) (blk7 m c t k j)

/-- The gated rows a point computes are the sequence's. -/
theorem unit_blk (r : Fin 128) (e : Fin 256) : unitB (iblk m c 0 t) (iblk m c 5 t) (iblk m c 7 t) b r e
    = gated m c b (rowOf t r) e := by
  unfold unitB
  rw [zD_blk, zD_blk]
  have ei : (⟨2568 + (256 + e.val), by omega⟩ : Fin 3080) = ⟨2824 + e.val, by omega⟩ :=
    Fin.ext (show 2568 + (256 + e.val) = 2824 + e.val by omega)
  exact congrArg (fun x => glu (proj m c b (rowOf t r) ⟨2568 + e.val, by omega⟩) (proj m c b (rowOf t r) x)) ei

/-- Group A of a point is group A of the sequence. -/
theorem rowA_blk (r : Fin 128) : rowA (iblk m c 0 t) (iblk m c 5 t) (iblk m c 6 t) (iblk m c 9 t) (iblk m c 10 t) (iblk m c 11 t) b r
    = groupA (proj m c b) (fun e => m ((c : Thread nD τ).loc main_arg3) (ix2 0 e))
      (fun e => m ((c : Thread nD τ).loc main_arg4) (ix2 0 e)) (fun h i j => m ((c : Thread nD τ).loc main_arg5) (ix4 0 h i j))
      (fun h i => m ((c : Thread nD τ).loc main_arg6) (ix3 0 h i)) (rowOf t r) := by
  funext e
  have er : ∀ j, blockRow (rowOf t r) j = rowOf t j := fun j =>
    Fin.ext (by show (t.val * 128 + r.val) / 128 * 128 + j.val = t.val * 128 + j.val; omega)
  have em : (⟨(rowOf t r).val % 128, Nat.mod_lt _ (by decide)⟩ : Fin 128) = r :=
    Fin.ext (by show (t.val * 128 + r.val) % 128 = r.val; omega)
  unfold rowA groupA
  rw [em]
  simp only [zA_blk, blk9_0, blk9_1, blk10, blk11, er]

/-- The scratch a point reads, `30 - k` rows before its row `r`, is the sequence's gated row, once the halo rows are: zeros at
    the first point, the last rows of the block before at another. -/
theorem scratch_back (H : Fin 4 → Fin 32 → Fin 256 → EReal) (hA : t.val = 0 → H = none)
    (hB : ∀ h : ¬t.val = 0, ∀ b (s : Fin 32) e, H b s e = gated m c b
      ⟨t.val * 128 - 32 + s.val, by have := lt_of_lt_of_eq t.isLt N_0; omega⟩ e) (k : Fin 31) (r : Fin 128) (e : Fin 256) :
    scratch H (unitB (iblk m c 0 t) (iblk m c 5 t) (iblk m c 7 t)) b (2 + k.val + r.val) e
      = behind (30 - k.val) (gated m c b) (rowOf t r) e := by
  have hN := lt_of_lt_of_eq t.isLt N_0
  unfold behind
  by_cases hn : 2 + k.val + r.val < 32
  · rw [scratch_halo _ _ _ _ _ hn]
    by_cases h0 : t.val = 0
    · rw [hA h0, if_neg (show ¬30 - k.val ≤ t.val * 128 + r.val by omega)]
    · rw [hB h0, if_pos (show 30 - k.val ≤ t.val * 128 + r.val by omega)]
      exact congrArg (fun i => gated m c b i e)
        (Fin.ext (show t.val * 128 - 32 + (2 + k.val + r.val) = t.val * 128 + r.val - (30 - k.val) by omega))
  · have en : 2 + k.val + r.val = 32 + (⟨2 + k.val + r.val - 32, by omega⟩ : Fin 128).val := by
      show 2 + k.val + r.val = 32 + (2 + k.val + r.val - 32)
      omega
    rw [en, scratch_row, unit_blk, if_pos (show 30 - k.val ≤ t.val * 128 + r.val by omega)]
    exact congrArg (fun i => gated m c b i e)
      (Fin.ext (show t.val * 128 + (2 + k.val + r.val - 32) = t.val * 128 + r.val - (30 - k.val) by omega))

/-- Group D of a point is group D of the sequence. -/
theorem rowD_blk (H : Fin 4 → Fin 32 → Fin 256 → EReal) (hA : t.val = 0 → H = none)
    (hB : ∀ h : ¬t.val = 0, ∀ b (s : Fin 32) e, H b s e = gated m c b
      ⟨t.val * 128 - 32 + s.val, by have := lt_of_lt_of_eq t.isLt N_0; omega⟩ e) (r : Fin 128) :
    rowD (iblk m c 0 t) (iblk m c 5 t) (iblk m c 7 t) (iblk m c 9 t) (iblk m c 17 t) H b r
      = groupD (proj m c b) (fun k e => m ((c : Thread nD τ).loc main_arg22) (ix3 0 k e))
        (fun e => m ((c : Thread nD τ).loc main_arg23) (ix2 0 e)) (fun e => m ((c : Thread nD τ).loc main_arg24) (ix2 0 e))
        (fun e => m ((c : Thread nD τ).loc main_arg25) (ix2 0 e)) (rowOf t r) := by
  funext e
  have ec : convB (iblk m c 0 t) (iblk m c 5 t) (iblk m c 7 t) (iblk m c 9 t) (iblk m c 17 t) H b r
      = convD (fun k e => m ((c : Thread nD τ).loc main_arg22) (ix3 0 k e)) (gated m c b)
        (fun e => m ((c : Thread nD τ).loc main_arg23) (ix2 0 e)) (rowOf t r) := by
    funext e
    unfold convB convD
    rw [blk9_12]
    refine congrArg (· + _) (Finset.sum_congr rfl fun k _ => ?_)
    rw [scratch_back m c t b H hA hB, blk17]
  unfold rowD groupD
  rw [ec]
  simp only [blk9_13, blk9_14]

/-- A row of a point's block is the mixing's row of its sequence. -/
theorem rowOut_blk (H : Fin 4 → Fin 32 → Fin 256 → EReal) (hA : t.val = 0 → H = none)
    (hB : ∀ h : ¬t.val = 0, ∀ b (s : Fin 32) e, H b s e = gated m c b
      ⟨t.val * 128 - 32 + s.val, by have := lt_of_lt_of_eq t.isLt N_0; omega⟩ e) (r : Fin 128) :
    rowOut (iblk m c 0 t) (iblk m c 5 t) (iblk m c 6 t) (iblk m c 7 t) (iblk m c 9 t) (iblk m c 10 t) (iblk m c 11 t)
      (iblk m c 17 t) (iblk m c 18 t) H b r = mixed m c b (rowOf t r) := by
  funext q
  unfold rowOut
  rw [rowA_blk, rowD_blk m c t b H hA hB]
  simp only [blk0, blk18]
  rfl

theorem halo_first (h0 : t.val % 32 = 0) (k : Fin 160) (s : Fin 32) (hs : k.val = s.val) (e : Fin 256) :
    (outA m c t h0).2.2.2.1 (ix3 b k e) = unitB (iblk m c 0 t) (iblk m c 5 t) (iblk m c 7 t) b ⟨96 + s.val, by omega⟩ e := by
  unfold outA
  dsimp only
  rw [View.read_writes_junk_apply_eq_canon]
  exact halo_A c b k s hs e

theorem halo_later (h0 : ¬t.val % 32 = 0) (p : Left Ideal) (k : Fin 160) (s : Fin 32) (hs : k.val = s.val) (e : Fin 256) :
    (outB m c t h0 p).2.2.2.1 (ix3 b k e) = unitB (iblk m c 0 t) (iblk m c 5 t) (iblk m c 7 t) b ⟨96 + s.val, by omega⟩ e := by
  unfold outB
  dsimp only
  rw [View.read_writes_junk_apply_eq_canon]
  exact halo_B c b k s hs e

theorem rows_first (h0 : t.val % 32 = 0)
    (hx : ∀ (k : Fin 512) q, (show Vec Ideal S1x1024x1024 .bf16 from iblk m c 18 t) (ix3 0 ⟨256 + k.val, by omega⟩ q) = 0)
    (r : Fin 128) (q : Fin 1024) : (outA m c t h0).1 (ix3 b r q)
      = rowOut (iblk m c 0 t) (iblk m c 5 t) (iblk m c 6 t) (iblk m c 7 t) (iblk m c 9 t) (iblk m c 10 t) (iblk m c 11 t)
        (iblk m c 17 t) (iblk m c 18 t) none b r q := by
  unfold outA
  dsimp only
  rw [View.read_writes_junk_apply_eq_canon]
  exact rows_A c hx b r q

theorem rows_later (h0 : ¬t.val % 32 = 0) (p : Left Ideal)
    (hx : ∀ (k : Fin 512) q, (show Vec Ideal S1x1024x1024 .bf16 from iblk m c 18 t) (ix3 0 ⟨256 + k.val, by omega⟩ q) = 0)
    (r : Fin 128) (q : Fin 1024) : (outB m c t h0 p).1 (ix3 b r q)
      = rowOut (iblk m c 0 t) (iblk m c 5 t) (iblk m c 6 t) (iblk m c 7 t) (iblk m c 9 t) (iblk m c 10 t) (iblk m c 11 t)
        (iblk m c 17 t) (iblk m c 18 t) (fun b n e => p.2.2.2.1 (ix3 b ⟨n.val, by omega⟩ e)) b r q := by
  unfold outB
  dsimp only
  rw [View.read_writes_junk_apply_eq_canon]
  exact rows_B c hx b r q

/-- The halo rows a point hands on. -/
theorem halo_at (k : Fin 160) (s : Fin 32) (hs : k.val = s.val) (e : Fin 256) :
    (outsAt m c t.val t.isLt).2.2.2.1 (ix3 b k e) = gated m c b (rowOf t ⟨96 + s.val, by omega⟩) e := by
  rw [← unit_blk]
  by_cases h0 : t.val % 32 = 0
  · exact (congrArg (fun p : Left Ideal => p.2.2.2.1 (ix3 b k e)) (outsAt_A m c t h0)).trans (halo_first m c t b h0 k s hs e)
  · exact (congrArg (fun p : Left Ideal => p.2.2.2.1 (ix3 b k e)) (outsAt_B m c t h0)).trans (halo_later m c t b h0 _ k s hs e)

/-- What a point leaves in the staging buffer of the result. -/
theorem out_at (hw : ∀ (k : Fin 512) q, m ((c : Thread nD τ).loc main_arg26) (ix3 0 ⟨256 + k.val, by omega⟩ q) = (0 : EReal))
    (r : Fin 128) (q : Fin 1024) : (outsAt m c t.val t.isLt).1 (ix3 b r q) = mixed m c b (rowOf t r) q := by
  have hN := lt_of_lt_of_eq t.isLt N_0
  have hx : ∀ (k : Fin 512) q, (show Vec Ideal S1x1024x1024 .bf16 from iblk m c 18 t) (ix3 0 ⟨256 + k.val, by omega⟩ q) = 0 :=
    fun k q => (blk18 m c t _ q).trans (hw k q)
  by_cases h0 : t.val % 32 = 0
  · refine ((congrArg (fun p : Left Ideal => p.1 (ix3 b r q)) (outsAt_A m c t h0)).trans
      (rows_first m c t b h0 hx r q)).trans (congrFun (rowOut_blk m c t b none (fun _ => rfl) (fun h => absurd ?_ h) r) q)
    omega
  · have hl : t.val - 1 < cfg0.N := Nat.lt_of_le_of_lt (Nat.sub_le _ _) t.isLt
    refine ((congrArg (fun p : Left Ideal => p.1 (ix3 b r q)) (outsAt_B m c t h0)).trans
      (rows_later m c t b h0 _ hx r q)).trans
      (congrFun (rowOut_blk m c t b _ (fun h => absurd ?_ h0) (fun h b s e => ?_) r) q)
    · omega
    · refine (halo_at m c ⟨t.val - 1, hl⟩ b _ s rfl e).trans (congrArg (fun i => gated m c b i e) (Fin.ext ?_))
      show (t.val - 1) * 128 + (96 + s.val) = t.val * 128 - 32 + s.val
      omega

/-- THE RESULT: row `t` of sequence `b` is the mixing's. -/
theorem result (hw : ∀ (k : Fin 512) q, m ((c : Thread nD τ).loc main_arg26) (ix3 0 ⟨256 + k.val, by omega⟩ q) = (0 : EReal))
    (t : Fin 4096) (q : Fin 1024) : G19 m c (ix3 b t q) = mixed m c b t q := by
  have hp : pt19Of (ix3 b t q) = t.val / 128 := by
    show 32 * (b.val / 4 - 0) + 1 * (t.val / 128 - 0) + 1 * (q.val / 1024 - 0) = _
    omega
  have hlt : t.val / 128 < cfg0.N := lt_of_lt_of_eq (by omega) N_0.symm
  have hl : loc19Of (ix3 b t q) = ix3 b ⟨t.val % 128, Nat.mod_lt _ (by decide)⟩ q := by
    rw [eq_ix3 (loc19Of (ix3 b t q))]
    exact congr (congrArg₂ ix3 (Fin.ext (Nat.mod_eq_of_lt b.isLt)) rfl) (Fin.ext (Nat.mod_eq_of_lt q.isLt))
  unfold G19
  rw [dif_pos (by rw [hp]; exact hlt), hl, left_congr m c hp]
  refine (out_at m c ⟨t.val / 128, hlt⟩ b hw _ q).trans (congrArg (fun i => mixed m c b i q) (Fin.ext ?_))
  show t.val / 128 * 128 + t.val % 128 = t.val
  omega

end Cert.Kernel3Ideal.Body

end
-- ==== Proof.MixRef.lean ====
/-
  What the mixing call's reference computes: row by row, the functions of `MixMath`.
-/
module

public import proofs.«01_k».proof.Proof.MixMath
public import proofs.«01_k».proof.Proof.Gen.Reference3Ideal.Read
public import Idealize.ShloMosaic.Lib.Pointwise

@[expose] public section

set_option maxRecDepth 16384

noncomputable section

namespace Cert.Reference3Ideal.Rows

open Idealize.ShloMosaic Idealize.ShloMosaic.TcCoe Idealize.ShloMosaic.Tactic Idealize.SL.Sem Idealize.ShloMosaic.StableHlo
open Cert.Reference3Ideal Cert.Reference3Ideal.Gen Cert.Reference3Ideal.Read Cert.Ffn Cert.Mix

/-- The position's half, as the reference's floored quotient of position numbers. -/
theorem half_word : ∀ i : Fin 128, Scalar.select
      (IntOp.andi
        (IntOp.cmpi .ne (if BitVec.ofNat 32 i.val = 0 then (0 : BitVec 32) else if (BitVec.ofNat 32 i.val).msb = true then -1 else 1)
          (if (64#32 : BitVec 32) = 0 then (0 : BitVec 32) else if BitVec.msb 64#32 = true then -1 else 1))
        (IntOp.cmpi .ne (IntOp.remsi .host (BitVec.ofNat 32 i.val) 64#32) 0#32))
      (IntOp.subi (IntOp.divsi .host (BitVec.ofNat 32 i.val) 64#32) 1#32)
      (IntOp.divsi .host (BitVec.ofNat 32 i.val) 64#32) = BitVec.ofNat 32 (i.val / 64) := by
  decide +kernel

variable (x0 : Vec Ideal S4x4096x1024 .f32) (x1 : Vec Ideal S2x1024 .f32) (x2 : Vec Ideal S2x1024x3080 .f32)
  (x3 x4 : Vec Ideal S2x256 .f32) (x5 : Vec Ideal S2x4x128x128 .f32) (x6 : Vec Ideal S2x4x128 .f32)
  (x22 : Vec Ideal S2x31x256 .f32) (x23 x24 x25 : Vec Ideal S2x256 .f32) (x26 : Vec Ideal S2x1024x1024 .f32)
  (b : Fin 4) (t : Fin 4096)

/-- The layer's normed input. -/
theorem normed (k : Fin 1024) :
    val_main_v14 (F := Ideal) x0 x1 (ix3 b t k) = rms (fun k => x0 (ix3 b t k)) (fun k => x1 (ix2 0 k)) k := by
  unfold rms
  pointwise [val_main_v0, val_main_v1, val_main_v2, val_main_cst, val_main_v3, val_main_v4, val_main_cst_0, val_main_v5, val_main_v6,
      val_main_cst_1, val_main_v7, val_main_v8, val_main_v9, val_main_v10, val_main_v11, val_main_v12, val_main_v13,
      val_main_v14]

/-- The projection. -/
theorem proj (j : Fin 3080) :
    val_main_v17 (F := Ideal) x0 x1 x2 (ix3 b t j)
      = rowMul (rms (fun k => x0 (ix3 b t k)) (fun k => x1 (ix2 0 k))) (fun k j => x2 (ix3 0 k j)) j := by
  unfold rowMul
  simp only [← normed]
  pointwise [val_main_v17, val_main_v16, val_main_v15, dot_S4x4096x1024_S1024x3080_S4x4096x3080_2_0_01_1_n_n]

/-- The Gaussian error unit of group A's columns. -/
theorem unit_a (j : Fin 512) :
    val_main_v39 (F := Ideal) x0 x1 x2 (ix3 b t j) = gelu (val_main_v17 (F := Ideal) x0 x1 x2 (ix3 b t ⟨j.val, by omega⟩)) := by
  unfold gelu
  pointwise [val_main_v27, val_main_v28, val_main_cst_2, val_main_v29, val_main_v30, val_main_v31, val_main_cst_3, val_main_v32,
      val_main_v33, val_main_v34, val_main_cst_4, val_main_v35, val_main_v36, val_main_cst_5, val_main_v37, val_main_v38,
      val_main_v39, val_main_v18]
  ac_rfl

/-- Group A's gating rows. -/
theorem gating (c : Fin 256) :
    val_main_v65 (F := Ideal) x0 x1 x2 x3 x4 (ix3 b t c)
      = lnorm (fun k => gelu (val_main_v17 (F := Ideal) x0 x1 x2 (ix3 b t ⟨256 + k.val, by omega⟩))) (fun k => x3 (ix2 0 k))
          (fun k => x4 (ix2 0 k)) c := by
  have e : ∀ k : Fin 256, val_main_v41 (F := Ideal) x0 x1 x2 (ix3 b t k)
      = gelu (val_main_v17 (F := Ideal) x0 x1 x2 (ix3 b t ⟨256 + k.val, by omega⟩)) := fun k => by
    rw [← unit_a x0 x1 x2 b t ⟨256 + k.val, by omega⟩]
    pointwise [val_main_v41]
  simp only [← e]
  unfold lnorm mean
  pointwise [val_main_cst_6, val_main_v42, val_main_v43, val_main_cst_7, val_main_v44, val_main_v45, val_main_v46, val_main_v47,
      val_main_v48, val_main_cst_8, val_main_v49, val_main_v50, val_main_cst_9, val_main_v51, val_main_v52, val_main_v53,
      val_main_v54, val_main_cst_10, val_main_v55, val_main_v56, val_main_v57, val_main_v58, val_main_v59, val_main_v60,
      val_main_v61, val_main_v62, val_main_v63, val_main_v64, val_main_v65, val_main_v22, val_main_v21, val_main_v20, val_main_v19]

/-- A position's half of its block. -/
theorem half_of (i : Fin 128) : val_main_v68 (F := Ideal) (ix1 i) = BitVec.ofNat 32 (i.val / 64) := by
  pointwise [val_main_v67, val_main_c, val_main_call0_v0, val_main_call0_v1, val_main_call0_v2, val_main_call0_v3, val_main_call0_v4,
      val_main_call0_v5, val_main_call0_v6, val_main_call0_v7, val_main_call0_v8, val_main_call0_c, val_main_call0_v9,
      val_main_call0_v10, val_main_call0_v11, val_main_call0_c_0, val_main_call0_v12, val_main_call0_v13, val_main_v68]
  exact half_word i

/-- The spatial weights under the order of the halves. -/
theorem spatial (h : Fin 4) (i j : Fin 128) :
    val_main_v77 (F := Ideal) x5 (ix3 h i j) = masked (fun i j => x5 (ix4 0 h i j)) i j := by
  unfold masked
  pointwise [val_main_v69, val_main_v70, val_main_v71, val_main_v72, val_main_v73, val_main_v74, val_main_v75, val_main_v76,
      val_main_v77, val_main_v24, val_main_v23]
  rw [half_of, half_of]
  have e3 : ∀ p q : Fin 2, IntOp.cmpi .sle (BitVec.ofNat 32 p.val) (BitVec.ofNat 32 q.val) = if p.val ≤ q.val then 1#1 else 0#1 := by
    decide
  have e4 := e3 ⟨j.val / 64, by omega⟩ ⟨i.val / 64, by omega⟩
  rw [e4]
  by_cases hh : j.val / 64 ≤ i.val / 64
  · rw [if_pos hh, if_pos hh]
    show x5 (ix4 0 h i j) * (((1#1 : BitVec 1).toNat : ℝ) : EReal) = _
    norm_num
  · rw [if_neg hh, if_neg hh]
    show x5 (ix4 0 h i j) * (((0#1 : BitVec 1).toNat : ℝ) : EReal) = _
    norm_num

/-- Group A. -/
theorem group_a (c : Fin 256) :
    val_main_v85 (F := Ideal) x0 x1 x2 x3 x4 x5 x6 (ix3 b t c)
      = groupA (fun t j => val_main_v17 (F := Ideal) x0 x1 x2 (ix3 b t j)) (fun k => x3 (ix2 0 k)) (fun k => x4 (ix2 0 k))
          (fun h i j => x5 (ix4 0 h i j)) (fun h i => x6 (ix3 0 h i)) t c := by
  unfold groupA gateA
  have et : ∀ h, blockRow t ⟨t.val % 128, h⟩ = t := fun h => Fin.ext (Nat.div_add_mod' t.val 128)
  simp only [← spatial, ← gating, et]
  rw [← unit_a x0 x1 x2 b t ⟨c.val, by omega⟩]
  unfold blockRow head
  simp only [mul_comm (val_main_v77 (F := Ideal) x5 _)]
  pointwise [val_main_v78, val_main_v79, val_main_v80, val_main_v81, val_main_v82, val_main_v83, val_main_v84, val_main_v85, val_main_v66, val_main_v40, val_main_v26, val_main_v25,
    dot_S4x32x128x4x64_S4x128x128_S4x4x32x64x128_2_2_014_1_3_0]

/-- The padding value, the integer zero read as a number. -/
theorem zero_int : (FloatOps.sitofp (F := Ideal) .f32 (0#32) : EReal) = 0 := by
  show (((0#32 : BitVec 32).toInt : ℝ) : EReal) = 0
  norm_num

/-- The gated linear unit's rows. -/
theorem linear (c : Fin 256) :
    val_main_v103 (F := Ideal) x0 x1 x2 (ix3 b t c)
      = glu (val_main_v17 (F := Ideal) x0 x1 x2 (ix3 b t ⟨2568 + c.val, by omega⟩))
          (val_main_v17 (F := Ideal) x0 x1 x2 (ix3 b t ⟨2824 + c.val, by omega⟩)) := by
  unfold glu
  rw [sigm_eq]
  pointwise [val_main_v95, val_main_v96, val_main_v97, val_main_v98, val_main_cst_11, val_main_v99, val_main_v100, val_main_cst_12,
      val_main_v101, val_main_v102, val_main_v103, val_main_v86]
  have e : (⟨2568 + (256 + c.val), by omega⟩ : Fin 3080) = ⟨2824 + c.val, by omega⟩ := Fin.ext (by show 2568 + (256 + c.val) = 2824 + c.val; omega)
  rw [e]

/-- The padded rows. -/
theorem padded (s : Fin 4126) (c : Fin 256) :
    val_main_v104 (F := Ideal) x0 x1 x2 (ix3 b s c)
      = if h : 30 ≤ s.val then val_main_v103 (F := Ideal) x0 x1 x2 (ix3 b ⟨s.val - 30, by omega⟩ c) else 0 := by
  pointwise [val_main_v104, val_main_call1_v0, val_main_c_13]
  rw [zero_int]
  by_cases h : 30 ≤ s.val
  · rw [dif_pos ⟨h, by omega⟩, dif_pos h]
  · rw [dif_neg (fun h' => h h'.1), dif_neg h]

/-- A tap's row. -/
theorem tap_row (k : Fin 31) (s : Fin 4126) (hs : s.val = k.val + t.val) (c : Fin 256) :
    val_main_v104 (F := Ideal) x0 x1 x2 (ix3 b s c)
      = behind (30 - k.val) (fun t c => val_main_v103 (F := Ideal) x0 x1 x2 (ix3 b t c)) t c := by
  rw [padded]
  unfold behind
  by_cases h : 30 ≤ s.val
  · rw [dif_pos h, if_pos (by omega)]
    exact congrArg (fun a => val_main_v103 (F := Ideal) x0 x1 x2 (ix3 b a c)) (Fin.ext (by show s.val - 30 = t.val - (30 - k.val); omega))
  · rw [dif_neg h, if_neg (by omega)]

/-- The convolution. -/
theorem conv (c : Fin 256) :
    val_main_v323 (F := Ideal) x0 x1 x2 x22 x23 (ix3 b t c)
      = convD (fun k c => x22 (ix3 0 k c)) (fun t c => val_main_v103 (F := Ideal) x0 x1 x2 (ix3 b t c)) (fun c => x23 (ix2 0 c)) t c := by
  have e : ∀ k : Fin 31, behind (30 - k.val) (fun t c => val_main_v103 (F := Ideal) x0 x1 x2 (ix3 b t c)) t c
      = val_main_v104 (F := Ideal) x0 x1 x2 (ix3 b ⟨k.val + t.val, by omega⟩ c) :=
    fun k => (tap_row x0 x1 x2 b t k ⟨k.val + t.val, by omega⟩ rfl c).symm
  unfold convD
  simp only [e]
  rw [← taps_sum]
  pointwise [val_main_v105, val_main_v106, val_main_v107, val_main_v108, val_main_v109, val_main_v110, val_main_v111, val_main_v112,
      val_main_v113, val_main_v114, val_main_v115, val_main_v116, val_main_v117, val_main_v118, val_main_v119, val_main_v120,
      val_main_v121, val_main_v122, val_main_v123, val_main_v124, val_main_v125, val_main_v126, val_main_v127, val_main_v128,
      val_main_v129, val_main_v130, val_main_v131, val_main_v132, val_main_v133, val_main_v134, val_main_v135, val_main_v136,
      val_main_v137, val_main_v138, val_main_v139, val_main_v140, val_main_v141, val_main_v142, val_main_v143, val_main_v144,
      val_main_v145, val_main_v146, val_main_v147, val_main_v148, val_main_v149, val_main_v150, val_main_v151, val_main_v152,
      val_main_v153, val_main_v154, val_main_v155, val_main_v156, val_main_v157, val_main_v158, val_main_v159, val_main_v160,
      val_main_v161, val_main_v162, val_main_v163, val_main_v164, val_main_v165, val_main_v166, val_main_v167, val_main_v168,
      val_main_v169, val_main_v170, val_main_v171, val_main_v172, val_main_v173, val_main_v174, val_main_v175, val_main_v176,
      val_main_v177, val_main_v178, val_main_v179, val_main_v180, val_main_v181, val_main_v182, val_main_v183, val_main_v184,
      val_main_v185, val_main_v186, val_main_v187, val_main_v188, val_main_v189, val_main_v190, val_main_v191, val_main_v192,
      val_main_v193, val_main_v194, val_main_v195, val_main_v196, val_main_v197, val_main_v198, val_main_v199, val_main_v200,
      val_main_v201, val_main_v202, val_main_v203, val_main_v204, val_main_v205, val_main_v206, val_main_v207, val_main_v208,
      val_main_v209, val_main_v210, val_main_v211, val_main_v212, val_main_v213, val_main_v214, val_main_v215, val_main_v216,
      val_main_v217, val_main_v218, val_main_v219, val_main_v220, val_main_v221, val_main_v222, val_main_v223, val_main_v224,
      val_main_v225, val_main_v226, val_main_v227, val_main_v228, val_main_v229, val_main_v230, val_main_v231, val_main_v232,
      val_main_v233, val_main_v234, val_main_v235, val_main_v236, val_main_v237, val_main_v238, val_main_v239, val_main_v240,
      val_main_v241, val_main_v242, val_main_v243, val_main_v244, val_main_v245, val_main_v246, val_main_v247, val_main_v248,
      val_main_v249, val_main_v250, val_main_v251, val_main_v252, val_main_v253, val_main_v254, val_main_v255, val_main_v256,
      val_main_v257, val_main_v258, val_main_v259, val_main_v260, val_main_v261, val_main_v262, val_main_v263, val_main_v264,
      val_main_v265, val_main_v266, val_main_v267, val_main_v268, val_main_v269, val_main_v270, val_main_v271, val_main_v272,
      val_main_v273, val_main_v274, val_main_v275, val_main_v276, val_main_v277, val_main_v278, val_main_v279, val_main_v280,
      val_main_v281, val_main_v282, val_main_v283, val_main_v284, val_main_v285, val_main_v286, val_main_v287, val_main_v288,
      val_main_v289, val_main_v290, val_main_v291, val_main_v292, val_main_v293, val_main_v294, val_main_v295, val_main_v296,
      val_main_v297, val_main_v298, val_main_v299, val_main_v300, val_main_v301, val_main_v302, val_main_v303, val_main_v304,
      val_main_v305, val_main_v306, val_main_v307, val_main_v308, val_main_v309, val_main_v310, val_main_v311, val_main_v312,
      val_main_v313, val_main_v314, val_main_v315, val_main_v316, val_main_v317, val_main_v318, val_main_v319, val_main_v320,
      val_main_v321, val_main_v322, val_main_v323, val_main_v90, val_main_v89, val_main_v88, val_main_v87]
  done

/-- Group D. -/
theorem group_d (c : Fin 256) :
    val_main_v348 (F := Ideal) x0 x1 x2 x22 x23 x24 x25 (ix3 b t c)
      = unitD (fun c => val_main_v323 (F := Ideal) x0 x1 x2 x22 x23 (ix3 b t c)) (fun c => x24 (ix2 0 c)) (fun c => x25 (ix2 0 c)) c := by
  unfold unitD
  rw [sigm_eq]
  unfold lnorm mean
  pointwise [val_main_cst_14, val_main_v324, val_main_v325, val_main_cst_15, val_main_v326, val_main_v327, val_main_v328, val_main_v329,
      val_main_v330, val_main_cst_16, val_main_v331, val_main_v332, val_main_cst_17, val_main_v333, val_main_v334,
      val_main_v335, val_main_v336, val_main_cst_18, val_main_v337, val_main_v338, val_main_v339, val_main_v340, val_main_v341,
      val_main_v342, val_main_v343, val_main_v344, val_main_v345, val_main_v346, val_main_v347, val_main_call2_v0,
      val_main_call2_v1, val_main_call2_cst, val_main_call2_v2, val_main_call2_v3, val_main_call2_cst_0, val_main_call2_v4,
      val_main_call2_v5, val_main_v348, val_main_v94, val_main_v93, val_main_v92, val_main_v91]

/-- The output row. -/
theorem out_row (q : Fin 1024) :
    val_main_v356 (F := Ideal) x0 x1 x2 x3 x4 x5 x6 x22 x23 x24 x25 x26 (ix3 b t q)
      = outRow (fun q => x0 (ix3 b t q)) (fun c => val_main_v85 (F := Ideal) x0 x1 x2 x3 x4 x5 x6 (ix3 b t c))
          (fun c => val_main_v348 (F := Ideal) x0 x1 x2 x22 x23 x24 x25 (ix3 b t c))
          (fun c q => x26 (ix3 0 ⟨c.val, by omega⟩ q)) (fun c q => x26 (ix3 0 ⟨768 + c.val, by omega⟩ q)) q := by
  unfold outRow rowMul
  pointwise [val_main_v349, val_main_v350, val_main_v351, val_main_v352, val_main_v353, val_main_v354, val_main_v355, val_main_v356, dot_S4x4096x256_S256x1024_S4x4096x1024_2_0_01_1_n_n]

/-- The result's rows are the layer's mixing. -/
theorem result (q : Fin 1024) :
    val_main_v356 (F := Ideal) x0 x1 x2 x3 x4 x5 x6 x22 x23 x24 x25 x26 (ix3 b t q)
      = mixing (fun t k => x0 (ix3 b t k)) (fun k => x1 (ix2 0 k)) (fun k j => x2 (ix3 0 k j)) (fun k => x3 (ix2 0 k))
          (fun k => x4 (ix2 0 k)) (fun h i j => x5 (ix4 0 h i j)) (fun h i => x6 (ix3 0 h i)) (fun k c => x22 (ix3 0 k c))
          (fun c => x23 (ix2 0 c)) (fun c => x24 (ix2 0 c)) (fun c => x25 (ix2 0 c)) (fun c q => x26 (ix3 0 c q)) t q := by
  have ez : (fun t j => val_main_v17 (F := Ideal) x0 x1 x2 (ix3 b t j)) = _ := funext fun t => funext (proj x0 x1 x2 b t)
  have ea : (fun c => val_main_v85 (F := Ideal) x0 x1 x2 x3 x4 x5 x6 (ix3 b t c)) = _ := funext (group_a x0 x1 x2 x3 x4 x5 x6 b t)
  have ed : (fun c => val_main_v348 (F := Ideal) x0 x1 x2 x22 x23 x24 x25 (ix3 b t c)) = _ :=
    funext (group_d x0 x1 x2 x22 x23 x24 x25 b t)
  have ec : (fun c => val_main_v323 (F := Ideal) x0 x1 x2 x22 x23 (ix3 b t c)) = _ := funext (conv x0 x1 x2 x22 x23 b t)
  have el : (fun t c => val_main_v103 (F := Ideal) x0 x1 x2 (ix3 b t c)) = _ := funext fun t => funext (linear x0 x1 x2 b t)
  have el' : (fun t c => glu (val_main_v17 (F := Ideal) x0 x1 x2 (ix3 b t ⟨2568 + c.val, by omega⟩))
      (val_main_v17 (F := Ideal) x0 x1 x2 (ix3 b t ⟨2824 + c.val, by omega⟩)))
      = fun (t : Fin 4096) (c : Fin 256) => glu ((fun t j => val_main_v17 (F := Ideal) x0 x1 x2 (ix3 b t j)) t ⟨2568 + c.val, by omega⟩)
        ((fun t j => val_main_v17 (F := Ideal) x0 x1 x2 (ix3 b t j)) t ⟨2824 + c.val, by omega⟩) := rfl
  rw [out_row, ea, ed, ec, el, el', ez]
  rfl

end Cert.Reference3Ideal.Rows

end
-- ==== Proof.MixLast.lean ====
/-
  The mixing call and its reference leave the same result array when the rows of the output projection that the two recurrent
  groups meet are zero: the mixing of `MixMath`, read at every index from the same arguments.
-/
module

public import proofs.«01_k».proof.Defs
public import proofs.«01_k».proof.Proof.MixKernel
public import proofs.«01_k».proof.Proof.MixRef
public import proofs.«01_k».proof.Proof.Gen.Pre_recurrent_groups_off

@[expose] public section

set_option maxRecDepth 16384

noncomputable section

namespace Cert.Mix

open Idealize.ShloMosaic Idealize.ShloMosaic.TcCoe Idealize.ShloMosaic.Tactic Idealize.SL.Sem Idealize.ShloMosaic.StableHlo
open Cert.Ffn

/-- The precondition, read at an index: rows 256 to 767 of the first layer's output projection are zero. -/
theorem rows_zero (m : (ℓ : Loc Cert.Kernel3Ideal.nD Cert.Kernel3Ideal.τ Cert.Kernel3Ideal.sig) → Buf (Elt Ideal) ℓ)
    (h : Cert.Pre_Kernel3Ideal_recurrent_groups_off (hPre_recurrent_groups_off := Cert.Pre_recurrent_groups_off.Gen.facts) m)
    (c : Dev Cert.Kernel3Ideal.nD) (k : Fin 512) (q : Fin 1024) :
    m ((c : Thread Cert.Kernel3Ideal.nD Cert.Kernel3Ideal.τ).loc Cert.Kernel3Ideal.main_arg26) (ix3 0 ⟨256 + k.val, by omega⟩ q)
      = (0 : EReal) := by
  have e := congrFun (h c) (ix2 k q)
  revert e
  pointwise [Cert.Pre_recurrent_groups_off.fn]
  intro e
  by_contra hne
  rw [decide_eq_false hne] at e
  exact absurd e (by decide)

/-- The kernel and the reference run to the same result over the extended reals under the precondition. -/
theorem mixing_call : Cert.algebraic_Kernel3Ideal_Reference3Ideal_pre_recurrent_groups_off
    (hKernel3Ideal := Cert.Kernel3Ideal.Gen.facts) (hReference3Ideal := Cert.Reference3Ideal.Gen.facts)
    (hPre_recurrent_groups_off := Cert.Pre_recurrent_groups_off.Gen.facts) := by
  intro m ρ m' ρ' hpre hagree
  refine ⟨fun c => Cert.Kernel3Ideal.Mixing.G19 m c, Cert.Kernel3Ideal.Mixing.run m ρ, ?_⟩
  refine (θ_run Cert.Reference3Ideal.defs _ _).mono (fun r h c => ⟨?_, (h c).2⟩) (Cert.Reference3Ideal.Value.run (F := Ideal) m' ρ')
  obtain ⟨h0, h1, h2, h3, h4, h5, h6, _, _, _, _, _, _, _, _, _, _, _, _, _, _, _, h22, h23, h24, h25, h26⟩ := hagree c
  refine (h c).1.trans ((Cert.Reference3Ideal.Read.val_main_v356_eq (F := Ideal) (launchContents m' c)).trans ?_)
  rw [show launchContents m' c (Proc.devRef .tc Cert.Reference3Ideal.main_arg0) = _ from h0,
      show launchContents m' c (Proc.devRef .tc Cert.Reference3Ideal.main_arg1) = _ from h1,
      show launchContents m' c (Proc.devRef .tc Cert.Reference3Ideal.main_arg2) = _ from h2,
      show launchContents m' c (Proc.devRef .tc Cert.Reference3Ideal.main_arg3) = _ from h3,
      show launchContents m' c (Proc.devRef .tc Cert.Reference3Ideal.main_arg4) = _ from h4,
      show launchContents m' c (Proc.devRef .tc Cert.Reference3Ideal.main_arg5) = _ from h5,
      show launchContents m' c (Proc.devRef .tc Cert.Reference3Ideal.main_arg6) = _ from h6,
      show launchContents m' c (Proc.devRef .tc Cert.Reference3Ideal.main_arg22) = _ from h22,
      show launchContents m' c (Proc.devRef .tc Cert.Reference3Ideal.main_arg23) = _ from h23,
      show launchContents m' c (Proc.devRef .tc Cert.Reference3Ideal.main_arg24) = _ from h24,
      show launchContents m' c (Proc.devRef .tc Cert.Reference3Ideal.main_arg25) = _ from h25,
      show launchContents m' c (Proc.devRef .tc Cert.Reference3Ideal.main_arg26) = _ from h26]
  funext i
  rw [eq_ix3 i]
  exact (Cert.Reference3Ideal.Rows.result _ _ _ _ _ _ _ _ _ _ _ _ _ _ _).trans
    (Cert.Kernel3Ideal.Body.result m c _ (rows_zero m hpre c) _ _).symm

end Cert.Mix

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Reference3Ideal
public import proofs.«01_k».proof.Proof.Gen.Pre_recurrent_groups_off
public import proofs.«01_k».proof.Proof.Gen.Reference3Ideal.Run
public import proofs.«01_k».proof.Proof.Gen.Reference3Ideal.Read
public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import Idealize.ShloMosaic.Adequacy
public import Idealize.ShloMosaic.Init
public import proofs.«01_k».proof.Proof.FfnLast
public import proofs.«01_k».proof.Proof.FirstLast
public import proofs.«01_k».proof.Proof.MixFrame
public import proofs.«01_k».proof.Proof.MixFrameBits
public import proofs.«01_k».proof.Proof.MixLast
public import Idealize.ShloMosaic.Lib.Quiescent

@[expose] public section

noncomputable section

namespace Cert.Proof

open Idealize.ShloMosaic Idealize.ShloMosaic.TcCoe Idealize.SL.Sem

theorem claim : Cert.Claim := by
  refine ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Pre_recurrent_groups_off.Gen.facts, ?_, ?_, ?_, ?_, ?_, ?_, ?_, ?_, ?_, ?_, ?_, trivial,
    Cert.Ffn.last_layer, trivial, Cert.Ffn.first_layer, trivial, Cert.Mix.mixing_call⟩
  · exact fun m ρ _ => Cert.Kernel.Gen.frame m ρ
  · exact fun m ρ _ => Cert.KernelIdeal.Gen.frame m ρ
  · exact fun m ρ _ => (θ_run Cert.ReferenceIdeal.defs _ _).mono
      (fun r h => ⟨fun c => (h c).2, sem_eq_zero_of_no_sems (by decide) r.2⟩) (Cert.ReferenceIdeal.Value.run (F := Ideal) m ρ)
  · exact fun m ρ _ => Cert.Kernel2.Gen.frame m ρ
  · exact fun m ρ _ => Cert.Kernel2Ideal.Gen.frame m ρ
  · exact fun m ρ _ => (θ_run Cert.Reference2Ideal.defs _ _).mono
      (fun r h => ⟨fun c => (h c).2.2, sem_eq_zero_of_no_sems (by decide) r.2⟩) (Cert.Reference2Ideal.Value.run (F := Ideal) m ρ)
  · exact fun m ρ _ => Cert.Kernel3.Mixing.frame m ρ
  · exact fun m ρ _ => Cert.Kernel3Ideal.Mixing.frame m ρ
  · exact fun m ρ _ => Cert.Kernel3Ideal.Mixing.frame m ρ
  · exact fun m ρ _ => (θ_run Cert.Reference3Ideal.defs _ _).mono
      (fun r h => ⟨fun c => (h c).2, sem_eq_zero_of_no_sems (by decide) r.2⟩) (Cert.Reference3Ideal.Value.run (F := Ideal) m ρ)
  · exact fun m ρ _ => (θ_run Cert.Reference3Ideal.defs _ _).mono
      (fun r h => ⟨fun c => (h c).2, sem_eq_zero_of_no_sems (by decide) r.2⟩) (Cert.Reference3Ideal.Value.run (F := Ideal) m ρ)

end Cert.Proof

end
